-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S4096x4096 : Shape := ⟨2, ![4096, 4096]⟩
abbrev S2x512x4096 : Shape := ⟨3, ![2, 512, 4096]⟩
abbrev S8x128 : Shape := ⟨2, ![8, 128]⟩
abbrev S4 : Shape := ⟨1, ![4]⟩
abbrev S7 : Shape := ⟨1, ![7]⟩
abbrev S2 : Shape := ⟨1, ![2]⟩
abbrev S_ : Shape := ⟨0, ![]⟩
abbrev S1 : Shape := ⟨1, ![1]⟩
abbrev S256x1024 : Shape := ⟨2, ![256, 1024]⟩
abbrev S512x1024 : Shape := ⟨2, ![512, 1024]⟩
abbrev S1x512x1024 : Shape := ⟨3, ![1, 512, 1024]⟩
abbrev S1x1x1 : Shape := ⟨3, ![1, 1, 1]⟩
abbrev S1x512x4096 : Shape := ⟨3, ![1, 512, 4096]⟩
abbrev S256x4096 : Shape := ⟨2, ![256, 4096]⟩
abbrev S1x256x4096 : Shape := ⟨3, ![1, 256, 4096]⟩
abbrev S1x256x1024 : Shape := ⟨3, ![1, 256, 1024]⟩
abbrev S1x128 : Shape := ⟨2, ![1, 128]⟩
abbrev S1x8x128 : Shape := ⟨3, ![1, 8, 128]⟩

abbrev nBuf : Space → Nat
  | .hbm => 4
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .local _ .vmem, ⟨0, _⟩ => ⟨S4096x1024, .f32⟩
  | .local _ .vmem, ⟨1, _⟩ => ⟨S512x4096, .bf16⟩
  | .local _ .vmem, ⟨2, _⟩ => ⟨S2x512x4096, .bf16⟩
  | .local _ .vmem, ⟨3, _⟩ => ⟨S4096x1024, .bf16⟩
  | .local _ .vmem, ⟨4, _⟩ => ⟨S512x4096, .f32⟩
  | .local _ .vmem, ⟨5, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v22 : BitVec 32 := Scalar.muli v2 c512_i32
  let c0_i32_19 : BitVec 32 := 0#32
  ![v22.toNat, 0]
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_17 : BitVec 32 := 1#32
  let v23 : BitVec 32 := Scalar.muli v7 c1_i32_17
  let v24 : BitVec 32 := Scalar.addi c0_i32_18 v23
  v24.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_23 : BitVec 32 := 1#32
  let v31 : BitVec 32 := Scalar.muli v5 c1_i32_23
  let v32 : BitVec 32 := Scalar.addi c0_i32_24 v31
  v32.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_225 : BitVec 32 := 512#32
  let v249 : BitVec 32 := Scalar.muli v2 c512_i32_225
  let v250 : Index := Scalar.indexCast v249
  let c0_226 : Index := 0#32
  ![v250.toNat, 0]
def k0_off3 (d0 : Dev nD) (c0_i32_231 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_230 : BitVec 32 := 1#32
  let v261 : BitVec 32 := Scalar.subi v2 c1_i32_230
  let v262 : BitVec 32 := Scalar.subi v261 c0_i32_231
  let c8_i32_232 : BitVec 32 := 8#32
  let v263 : BitVec 32 := Scalar.addi v262 c8_i32_232
  let c8_i32_233 : BitVec 32 := 8#32
  let v264 : BitVec 32 := Scalar.remsi v263 c8_i32_233
  let c512_i32_238 : BitVec 32 := 512#32
  let v269 : BitVec 32 := Scalar.muli v264 c512_i32_238
  let c0_i32_243 : BitVec 32 := 0#32
  ![v269.toNat, 0]
def k0_dev5 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_249 : BitVec 32 := 1#32
  let v278 : BitVec 32 := Scalar.muli v7 c1_i32_249
  let v279 : BitVec 32 := Scalar.addi c0_i32_250 v278
  v279.toNat
def k0_off4 (d0 : Dev nD) (c0_i32_235 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_234 : BitVec 32 := 1#32
  let v265 : BitVec 32 := Scalar.addi v2 c1_i32_234
  let v266 : BitVec 32 := Scalar.addi v265 c0_i32_235
  let c8_i32_236 : BitVec 32 := 8#32
  let v267 : BitVec 32 := Scalar.remsi v266 c8_i32_236
  let c512_i32_254 : BitVec 32 := 512#32
  let v287 : BitVec 32 := Scalar.muli v267 c512_i32_254
  let c0_i32_259 : BitVec 32 := 0#32
  ![v287.toNat, 0]
def k0_dev6 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_265 : BitVec 32 := 1#32
  let v296 : BitVec 32 := Scalar.muli v5 c1_i32_265
  let v297 : BitVec 32 := Scalar.addi c0_i32_266 v296
  v297.toNat
def k0_off5 (d0 : Dev nD) (c0_i32_231 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_230 : BitVec 32 := 1#32
  let v261 : BitVec 32 := Scalar.subi v2 c1_i32_230
  let v262 : BitVec 32 := Scalar.subi v261 c0_i32_231
  let c8_i32_232 : BitVec 32 := 8#32
  let v263 : BitVec 32 := Scalar.addi v262 c8_i32_232
  let c8_i32_233 : BitVec 32 := 8#32
  let v264 : BitVec 32 := Scalar.remsi v263 c8_i32_233
  let c512_i32_292 : BitVec 32 := 512#32
  let v325 : BitVec 32 := Scalar.muli v264 c512_i32_292
  let v326 : Index := Scalar.indexCast v325
  let c0_293 : Index := 0#32
  ![v326.toNat, 0]
def k0_off6 (d0 : Dev nD) (c0_i32_235 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_234 : BitVec 32 := 1#32
  let v265 : BitVec 32 := Scalar.addi v2 c1_i32_234
  let v266 : BitVec 32 := Scalar.addi v265 c0_i32_235
  let c8_i32_236 : BitVec 32 := 8#32
  let v267 : BitVec 32 := Scalar.remsi v266 c8_i32_236
  let c512_i32_307 : BitVec 32 := 512#32
  let v347 : BitVec 32 := Scalar.muli v267 c512_i32_307
  let v348 : Index := Scalar.indexCast v347
  let c0_308 : Index := 0#32
  ![v348.toNat, 0]
def k0_dev7 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_331 : BitVec 32 := 1#32
  let v377 : BitVec 32 := Scalar.muli v7 c1_i32_331
  let v378 : BitVec 32 := Scalar.addi c0_i32_332 v377
  v378.toNat
def k0_dev8 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_347 : BitVec 32 := 1#32
  let v395 : BitVec 32 := Scalar.muli v5 c1_i32_347
  let v396 : BitVec 32 := Scalar.addi c0_i32_348 v395
  v396.toNat
def k0_off7 (d0 : Dev nD) (c2_i32_396 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v459 : BitVec 32 := Scalar.subi v2 c1_i32_395
  let v460 : BitVec 32 := Scalar.subi v459 c2_i32_396
  let c8_i32_397 : BitVec 32 := 8#32
  let v461 : BitVec 32 := Scalar.addi v460 c8_i32_397
  let c8_i32_398 : BitVec 32 := 8#32
  let v462 : BitVec 32 := Scalar.remsi v461 c8_i32_398
  let c512_i32_411 : BitVec 32 := 512#32
  let v475 : BitVec 32 := Scalar.muli v462 c512_i32_411
  let c0_i32_415 : BitVec 32 := 0#32
  ![v475.toNat, 0]
def k0_dev9 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_413 : BitVec 32 := 1#32
  let v476 : BitVec 32 := Scalar.muli v7 c1_i32_413
  let v477 : BitVec 32 := Scalar.addi c0_i32_414 v476
  v477.toNat
def k0_off8 (d0 : Dev nD) (c2_i32_400 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_399 : BitVec 32 := 1#32
  let v463 : BitVec 32 := Scalar.addi v2 c1_i32_399
  let v464 : BitVec 32 := Scalar.addi v463 c2_i32_400
  let c8_i32_401 : BitVec 32 := 8#32
  let v465 : BitVec 32 := Scalar.remsi v464 c8_i32_401
  let c512_i32_427 : BitVec 32 := 512#32
  let v494 : BitVec 32 := Scalar.muli v465 c512_i32_427
  let c256_i32_428 : BitVec 32 := 256#32
  let v495 : BitVec 32 := Scalar.addi v494 c256_i32_428
  let c0_i32_433 : BitVec 32 := 0#32
  ![v495.toNat, 0]
def k0_dev10 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_431 : BitVec 32 := 1#32
  let v496 : BitVec 32 := Scalar.muli v5 c1_i32_431
  let v497 : BitVec 32 := Scalar.addi c0_i32_432 v496
  v497.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_479 : BitVec 32 := 1#32
  let v560 : BitVec 32 := Scalar.subi v2 c1_i32_479
  let c3_i32_480 : BitVec 32 := 3#32
  let v561 : BitVec 32 := Scalar.subi v560 c3_i32_480
  let c8_i32_481 : BitVec 32 := 8#32
  let v562 : BitVec 32 := Scalar.addi v561 c8_i32_481
  let c8_i32_482 : BitVec 32 := 8#32
  let v563 : BitVec 32 := Scalar.remsi v562 c8_i32_482
  let c512_i32_528 : BitVec 32 := 512#32
  let v607 : BitVec 32 := Scalar.muli v563 c512_i32_528
  let v608 : Index := Scalar.indexCast v607
  let c0_529 : Index := 0#32
  ![v608.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_483 : BitVec 32 := 1#32
  let v564 : BitVec 32 := Scalar.addi v2 c1_i32_483
  let c3_i32_484 : BitVec 32 := 3#32
  let v565 : BitVec 32 := Scalar.addi v564 c3_i32_484
  let c8_i32_485 : BitVec 32 := 8#32
  let v566 : BitVec 32 := Scalar.remsi v565 c8_i32_485
  let c512_i32_544 : BitVec 32 := 512#32
  let v629 : BitVec 32 := Scalar.muli v566 c512_i32_544
  let c256_i32_545 : BitVec 32 := 256#32
  let v630 : BitVec 32 := Scalar.addi v629 c256_i32_545
  let v631 : Index := Scalar.indexCast v630
  let c0_546 : Index := 0#32
  ![v631.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v645 : Index := Scalar.indexCast v2
  let c0_551 : Index := 0#32
  ![v645.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_558 : BitVec 32 := 0#32
  ![v2.toNat, 0]
def k0_dev11 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_552 : BitVec 32 := 1#32
  let v649 : BitVec 32 := Scalar.addi v2 c1_i32_552
  let c8_i32_553 : BitVec 32 := 8#32
  let v650 : BitVec 32 := Scalar.remsi v649 c8_i32_553
  let c1_i32_556 : BitVec 32 := 1#32
  let v651 : BitVec 32 := Scalar.muli v650 c1_i32_556
  let v652 : BitVec 32 := Scalar.addi c0_i32_557 v651
  v652.toNat
def k0_dev12 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_560 : BitVec 32 := 2#32
  let v659 : BitVec 32 := Scalar.addi v2 c2_i32_560
  let c8_i32_561 : BitVec 32 := 8#32
  let v660 : BitVec 32 := Scalar.remsi v659 c8_i32_561
  let c1_i32_564 : BitVec 32 := 1#32
  let v661 : BitVec 32 := Scalar.muli v660 c1_i32_564
  let v662 : BitVec 32 := Scalar.addi c0_i32_565 v661
  v662.toNat
def k0_dev13 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_568 : BitVec 32 := 3#32
  let v669 : BitVec 32 := Scalar.addi v2 c3_i32_568
  let c8_i32_569 : BitVec 32 := 8#32
  let v670 : BitVec 32 := Scalar.remsi v669 c8_i32_569
  let c1_i32_572 : BitVec 32 := 1#32
  let v671 : BitVec 32 := Scalar.muli v670 c1_i32_572
  let v672 : BitVec 32 := Scalar.addi c0_i32_573 v671
  v672.toNat
def k0_dev14 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v679 : BitVec 32 := Scalar.addi v2 c4_i32
  let c8_i32_576 : BitVec 32 := 8#32
  let v680 : BitVec 32 := Scalar.remsi v679 c8_i32_576
  let c1_i32_579 : BitVec 32 := 1#32
  let v681 : BitVec 32 := Scalar.muli v680 c1_i32_579
  let v682 : BitVec 32 := Scalar.addi c0_i32_580 v681
  v682.toNat
def k0_dev15 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v689 : BitVec 32 := Scalar.addi v2 c5_i32
  let c8_i32_583 : BitVec 32 := 8#32
  let v690 : BitVec 32 := Scalar.remsi v689 c8_i32_583
  let c1_i32_586 : BitVec 32 := 1#32
  let v691 : BitVec 32 := Scalar.muli v690 c1_i32_586
  let v692 : BitVec 32 := Scalar.addi c0_i32_587 v691
  v692.toNat
def k0_dev16 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v699 : BitVec 32 := Scalar.addi v2 c6_i32
  let c8_i32_590 : BitVec 32 := 8#32
  let v700 : BitVec 32 := Scalar.remsi v699 c8_i32_590
  let c1_i32_593 : BitVec 32 := 1#32
  let v701 : BitVec 32 := Scalar.muli v700 c1_i32_593
  let v702 : BitVec 32 := Scalar.addi c0_i32_594 v701
  v702.toNat
def k0_dev17 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v709 : BitVec 32 := Scalar.addi v2 c7_i32
  let c8_i32_597 : BitVec 32 := 8#32
  let v710 : BitVec 32 := Scalar.remsi v709 c8_i32_597
  let c1_i32_600 : BitVec 32 := 1#32
  let v711 : BitVec 32 := Scalar.muli v710 c1_i32_600
  let v712 : BitVec 32 := Scalar.addi c0_i32_601 v711
  v712.toNat
def k0_off13 (d0 : Dev nD) (c1_i32_604 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v719 : BitVec 32 := Scalar.subi v2 c1_i32_604
  let c8_i32_605 : BitVec 32 := 8#32
  let v720 : BitVec 32 := Scalar.addi v719 c8_i32_605
  let c8_i32_606 : BitVec 32 := 8#32
  let v721 : BitVec 32 := Scalar.remsi v720 c8_i32_606
  let c0_i32_611 : BitVec 32 := 0#32
  ![v721.toNat, 0]
@[reducible] def k0_t1_loop : Scf.Loop 32 :=
  let c0_i32_745 : BitVec 32 := 0#32
  let c16_i32 : BitVec 32 := 16#32
  let v847 : BitVec 32 := Scalar.addi c0_i32_745 c16_i32
  let c1_i32_746 : BitVec 32 := 1#32
  ⟨c0_i32_745, v847, c1_i32_746⟩
def k0_off14 (k0_t1 : Fin k0_t1_loop.trips) : Fin 2 → Nat :=
  let c0_i32_745 : BitVec 32 := 0#32
  let c1_i32_746 : BitVec 32 := 1#32
  let arg16 : BitVec 32 := Scf.iv c0_i32_745 c1_i32_746 k0_t1
  let c256_i32_748 : BitVec 32 := 256#32
  let v848 : BitVec 32 := Scalar.muli arg16 c256_i32_748
  let v849 : Index := Scalar.indexCast v848
  let c0_749 : Index := 0#32
  ![v849.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Base.lean ====
/-
The vocabulary of the run: the ring of eight devices, the buffers' rows, the contents every buffer
ends with, and the two families of assertions ("this device holds these rows") the schedule hands round.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells, the ring's cells, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: any contents, every semaphore zero. -/
def s₀ : MemSt nD τ sig (Elt F) := ⟨m, fun _ => 0, ρ⟩

/-! ## The ring -/

set_option backward.proofsInPublic true in
/-- The device `k` places to the right of `c`. -/
def dv (c : Dev nD) (k : ℕ) : Dev nD := ⟨(c.val + k) % 8, Nat.mod_lt _ (by decide)⟩

theorem dv_dv (c : Dev nD) (a b : ℕ) : dv (dv c a) b = dv c (a + b) := Fin.ext (by simp only [dv]; omega)
theorem dv_mod (c : Dev nD) (a : ℕ) : dv c (a + 8) = dv c a := Fin.ext (by simp only [dv]; omega)
theorem dv_zero (c : Dev nD) : dv c 0 = c := Fin.ext (by have : c.val < 8 := c.isLt; simp only [dv]; omega)
theorem dv_eight (c : Dev nD) : dv c 8 = c := Fin.ext (by have : c.val < 8 := c.isLt; simp only [dv]; omega)

theorem dev1_eq (c : Dev nD) : (⟨k0_dev1 c, k0_dev1_lt c⟩ : Dev nD) = dv c 7 := Fin.ext (k0_dev1_eq c)
theorem dev2_eq (c : Dev nD) : (⟨k0_dev2 c, k0_dev2_lt c⟩ : Dev nD) = dv c 1 := Fin.ext (k0_dev2_eq c)
theorem dev3_eq (c : Dev nD) : (⟨k0_dev3 c, k0_dev3_lt c⟩ : Dev nD) = dv c 1 := Fin.ext (k0_dev3_eq c)
theorem dev4_eq (c : Dev nD) : (⟨k0_dev4 c, k0_dev4_lt c⟩ : Dev nD) = dv c 7 := Fin.ext (k0_dev4_eq c)
theorem dev5_eq (c : Dev nD) : (⟨k0_dev5 c, k0_dev5_lt c⟩ : Dev nD) = dv c 1 := Fin.ext (k0_dev5_eq c)
theorem dev6_eq (c : Dev nD) : (⟨k0_dev6 c, k0_dev6_lt c⟩ : Dev nD) = dv c 7 := Fin.ext (k0_dev6_eq c)
theorem dev7_eq (c : Dev nD) : (⟨k0_dev7 c, k0_dev7_lt c⟩ : Dev nD) = dv c 1 := Fin.ext (k0_dev7_eq c)
theorem dev8_eq (c : Dev nD) : (⟨k0_dev8 c, k0_dev8_lt c⟩ : Dev nD) = dv c 7 := Fin.ext (k0_dev8_eq c)
theorem dev9_eq (c : Dev nD) : (⟨k0_dev9 c, k0_dev9_lt c⟩ : Dev nD) = dv c 1 := Fin.ext (k0_dev9_eq c)
theorem dev10_eq (c : Dev nD) : (⟨k0_dev10 c, k0_dev10_lt c⟩ : Dev nD) = dv c 7 := Fin.ext (k0_dev10_eq c)
theorem dev11_eq (c : Dev nD) : (⟨k0_dev11 c, k0_dev11_lt c⟩ : Dev nD) = dv c 1 := Fin.ext (k0_dev11_eq c)
theorem dev12_eq (c : Dev nD) : (⟨k0_dev12 c, k0_dev12_lt c⟩ : Dev nD) = dv c 2 := Fin.ext (k0_dev12_eq c)
theorem dev13_eq (c : Dev nD) : (⟨k0_dev13 c, k0_dev13_lt c⟩ : Dev nD) = dv c 3 := Fin.ext (k0_dev13_eq c)
theorem dev14_eq (c : Dev nD) : (⟨k0_dev14 c, k0_dev14_lt c⟩ : Dev nD) = dv c 4 := Fin.ext (k0_dev14_eq c)
theorem dev15_eq (c : Dev nD) : (⟨k0_dev15 c, k0_dev15_lt c⟩ : Dev nD) = dv c 5 := Fin.ext (k0_dev15_eq c)
theorem dev16_eq (c : Dev nD) : (⟨k0_dev16 c, k0_dev16_lt c⟩ : Dev nD) = dv c 6 := Fin.ext (k0_dev16_eq c)
theorem dev17_eq (c : Dev nD) : (⟨k0_dev17 c, k0_dev17_lt c⟩ : Dev nD) = dv c 7 := Fin.ext (k0_dev17_eq c)

/-! ## Row ranges -/

/-- Rows `a … a + n - 1` of a rank-2 shape. -/
def rows {d : Fin 2 → ℕ} (a n : ℕ) : Finset (⟨2, d⟩ : Shape).Idx := Finset.univ.filter fun i => a ≤ (i 0).val ∧ (i 0).val < a + n

theorem mem_rows {d : Fin 2 → ℕ} {a n : ℕ} {i : (⟨2, d⟩ : Shape).Idx} : i ∈ rows a n ↔ a ≤ (i 0).val ∧ (i 0).val < a + n := by
  simp [rows]

/-- A unit-stride rectangle of full width is a row range. -/
theorem set_rows {p q : ℕ} {off : Fin 2 → ℕ} {sz : Fin 2 → ℕ} (inb) (a n : ℕ) (h0 : off = ![a, 0]) (hs : sz = ![n, q]) :
    (Rect.unit (s := (⟨2, ![p, q]⟩ : Shape)) off sz inb).set = rows a n := by
  subst h0 hs
  ext i
  rw [Rect.mem_set_unit, mem_rows, Fin.forall_fin_two]
  have h1 : (i 1).val < q := (i 1).isLt
  simp only [Matrix.cons_val_zero, Matrix.cons_val_one]
  constructor
  · rintro ⟨h, -⟩; exact h
  · intro h; exact ⟨h, Nat.zero_le _, by omega⟩

/-! ## Contents -/

/-- The bf16 copy of device `o`'s block of `x`. -/
def ownV (o : Dev nD) : S512x4096.Idx → Elt F .bf16 := k0_pay2 (m ((o : Thread nD τ).loc main_arg0))

/-- The gathered rows, the same on every device: row `i` is row `i % 512` of device `i / 512`. -/
def GF (i : S4096x4096.Idx) : Elt F .bf16 :=
  ownV m ⟨(i 0).val / 512, by have : (i 0).val < 4096 := (i 0).isLt; show _ < 8; omega⟩
    (Shape.pair (d := ![512, 4096]) ⟨(i 0).val % 512, Nat.mod_lt _ (by decide)⟩ ⟨(i 1).val, (i 1).isLt⟩)

/-- Rows `256 k …` of `w`. -/
def wBlk (c : Dev nD) (k : Fin 16) : S256x1024.Idx → Elt F .f32 := fun j =>
  (m ((c : Thread nD τ).loc main_arg1) : S4096x1024.Idx → Elt F .f32)
    (Shape.pair (d := ![4096, 1024]) ⟨256 * k.val + (j 0).val, by have : (j 0).val < 256 := (j 0).isLt; have := k.isLt; show _ < 4096; omega⟩ ⟨(j 1).val, (j 1).isLt⟩)

/-- The 256-row block and the row within it of a row of a 4096-row buffer. -/
def blkOf (i : S4096x1024.Idx) : Fin 16 := ⟨(i 0).val / 256, by have : (i 0).val < 4096 := (i 0).isLt; omega⟩
def inBlk (i : S4096x1024.Idx) : S256x1024.Idx :=
  Shape.pair (d := ![256, 1024]) ⟨(i 0).val % 256, Nat.mod_lt _ (by decide)⟩ ⟨(i 1).val, (i 1).isLt⟩
def inChunk (i : S4096x1024.Idx) : S512x1024.Idx :=
  Shape.pair (d := ![512, 1024]) ⟨(i 0).val % 512, Nat.mod_lt _ (by decide)⟩ ⟨(i 1).val, (i 1).isLt⟩

/-- The bf16 copy of `w`, block by block. -/
def WB (c : Dev nD) : S4096x1024.Idx → Elt F .bf16 := fun i => k0_pay3 (wBlk m c (blkOf i)) (inBlk i)

/-- Device `o`'s rows of the gathered array, as the chunk buffer's slot holds them. -/
def chunkV (o : Dev nD) : S1x512x4096.Idx → Elt F .bf16 := fun j =>
  GF m (Shape.pair (d := ![4096, 4096]) ⟨512 * o.val + (j 1).val, by have : (j 1).val < 512 := (j 1).isLt; have : o.val < 8 := o.isLt; show _ < 4096; omega⟩ ⟨(j 2).val, (j 2).isLt⟩)

/-- Half `h` of them. -/
def halfV (o : Dev nD) (h : Fin 2) : S1x256x4096.Idx → Elt F .bf16 := fun j =>
  GF m (Shape.pair (d := ![4096, 4096]) ⟨512 * o.val + 256 * h.val + (j 1).val, by have : (j 1).val < 256 := (j 1).isLt; have : o.val < 8 := o.isLt; have := h.isLt; show _ < 4096; omega⟩ ⟨(j 2).val, (j 2).isLt⟩)

/-- The products: the device's own block, another device's block, half of the opposite device's block. -/
def yOwn (c : Dev nD) : S512x1024.Idx → Elt F .f32 := k0_pay19 (ownV m c) (WB m c)
def yRem (c o : Dev nD) : S512x1024.Idx → Elt F .f32 := k0_pay21 (chunkV m o) (WB m c)
def yHalf (c o : Dev nD) (h : Fin 2) : S256x1024.Idx → Elt F .f32 := k0_pay32 (halfV m o h) (WB m c)

/-- The result buffer of device `c` after the last product. -/
def YB (c : Dev nD) : S4096x1024.Idx → Elt F .f32 := fun i =>
  if (i 0).val / 512 = c.val then yOwn m c (inChunk i)
  else if (i 0).val / 512 = (dv c 4).val then yHalf m c (dv c 4) ⟨(i 0).val / 256 % 2, Nat.mod_lt _ (by decide)⟩ (inBlk i)
  else yRem m c ⟨(i 0).val / 512, by have : (i 0).val < 4096 := (i 0).isLt; show _ < 8; omega⟩ (inChunk i)

/-- The running maxima of the absolute values, in the order the products are made. -/
def mx0 (c : Dev nD) : F .f32 := k0_pay20 (yOwn m c)
def mx1 (c : Dev nD) : F .f32 := k0_pay23 (mx0 m c) (yRem m c (dv c 7)) (yRem m c (dv c 1))
def mx2 (c : Dev nD) : F .f32 := k0_pay25 (mx1 m c) (yRem m c (dv c 6))
def mx3 (c : Dev nD) : F .f32 := k0_pay27 (mx2 m c) (yRem m c (dv c 2))
def mx4 (c : Dev nD) : F .f32 := k0_pay29 (mx3 m c) (yRem m c (dv c 5))
def mx5 (c : Dev nD) : F .f32 := k0_pay31 (mx4 m c) (yRem m c (dv c 3))
def mx6 (c : Dev nD) : F .f32 := k0_pay33 (mx5 m c) (yHalf m c (dv c 4) 0)
/-- The row of the maxima that device `c` sends to all. -/
def mxRow (c : Dev nD) : S1x128.Idx → Elt F .f32 := k0_pay35 (mx6 m c) (yHalf m c (dv c 4) 1)

/-- The buffer of maxima when every row has come: the same on every device. -/
def AM : S8x128.Idx → Elt F .f32 := fun i =>
  mxRow m ⟨(i 0).val, (i 0).isLt⟩ (Shape.pair (d := ![1, 128]) ⟨0, by decide⟩ ⟨(i 1).val, (i 1).isLt⟩)

/-- Rows `256 k …` of the products, and the quantised result. -/
def yBlk (c : Dev nD) (k : Fin 16) : S256x1024.Idx → Elt F .f32 := fun j =>
  YB m c (Shape.pair (d := ![4096, 1024]) ⟨256 * k.val + (j 0).val, by have : (j 0).val < 256 := (j 0).isLt; have := k.isLt; show _ < 4096; omega⟩ ⟨(j 1).val, (j 1).isLt⟩)
def QB (c : Dev nD) : S4096x1024.Idx → Elt F .f32 := fun i => k0_pay1 (AM m) (yBlk m c (blkOf i)) (inBlk i)

/-! ## The assertions the schedule moves -/

/-- Rows `a … a + n - 1` of the gathered array on `e`, at contents `f` and share `q`. -/
def gp (e : Dev nD) (q : PosShare TreeShare) (a n : ℕ) (f : S4096x4096.Idx → Elt F .bf16) : sProp 𝕄 :=
  ((e : Thread nD τ).loc main_v1_1 : Loc nD τ sig) ↦[rows a n]{q} f
/-- Row `s` of the buffer of maxima on `e`. -/
def ap (e : Dev nD) (q : PosShare TreeShare) (s : ℕ) (f : S8x128.Idx → Elt F .f32) : sProp 𝕄 :=
  ((e : Thread nD τ).loc cc0_scratch4 : Loc nD τ sig) ↦[rows s 1]{q} f
/-- The buffer of the device's own bf16 block. -/
def ownP (e : Dev nD) (q : PosShare TreeShare) : sProp 𝕄 :=
  ((e : Thread nD τ).loc cc0_scratch0 : Loc nD τ sig) ↦{q} (ownV m e)

/-- The right to write row `s` of the buffer of maxima on `e`. -/
def perm (e s : Dev nD) : sProp 𝕄 := iprop(∃ f, ap (F := F) e fullShare s.val f)
/-- `n` such rights, for the devices from `s` rightwards; leftwards. -/
def permsUp (e : Dev nD) : ℕ → Dev nD → sProp 𝕄
  | 0, _ => iprop(emp)
  | n + 1, s => iprop(perm e s ∗ permsUp e n (dv s 1))
def permsDn (e : Dev nD) : ℕ → Dev nD → sProp 𝕄
  | 0, _ => iprop(emp)
  | n + 1, s => iprop(perm e s ∗ permsDn e n (dv s 7))

instance gp_storable (e q a n f) : BI.Storable (upEmb : UEmb _ 𝕄) (gp (F := F) e q a n f) := by unfold gp; infer_instance
instance ap_storable (e q s f) : BI.Storable (upEmb : UEmb _ 𝕄) (ap (F := F) e q s f) := by unfold ap; infer_instance
instance ownP_storable (e q) : BI.Storable (upEmb : UEmb _ 𝕄) (ownP (F := F) m e q) := by unfold ownP; infer_instance
instance perm_storable (e s) : BI.Storable (upEmb : UEmb _ 𝕄) (perm (F := F) e s) := by unfold perm; infer_instance
instance permsUp_storable (e : Dev nD) : ∀ n s, BI.Storable (upEmb : UEmb _ 𝕄) (permsUp (F := F) e n s)
  | 0, _ => by unfold permsUp; infer_instance
  | n + 1, s => by have := permsUp_storable e n (dv s 1); unfold permsUp; infer_instance
instance permsDn_storable (e : Dev nD) : ∀ n s, BI.Storable (upEmb : UEmb _ 𝕄) (permsDn (F := F) e n s)
  | 0, _ => by unfold permsDn; infer_instance
  | n + 1, s => by have := permsDn_storable e n (dv s 7); unfold permsDn; infer_instance

/-- What is left of the whole share after `n` halvings to the left, and the `n`-th part given away. -/
def rem : ℕ → PosShare TreeShare
  | 0 => fullShare
  | n + 1 => (rem n).right
def tk (n : ℕ) : PosShare TreeShare := (rem n).left

end Cert.Ring

end
-- ==== Proof.Schedule.lean ====
/-
The protocol as a schedule: for every semaphore cell, who pays it, how much, and what is handed over
with the payment; then what each device still owes at each point, and why it may wait there.
-/
module

public import proofs.«01_k».proof.Proof.Base

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- The runtime's barrier semaphore. -/
abbrev barS : Sem sig := sig.barrier 0 rfl
abbrev barCell (e : Dev nD) : GSem nD τ sig := ((e : Thread nD τ), .reg barS)
abbrev dcell (e : Dev nD) (q : DmaSem sig) : GSem nD τ sig := ((e : Thread nD τ), .dma q)

/-- The number of a transfer's semaphore; 0 for a regular one. -/
def xq : SemLoc sig → ℕ
  | .dma q => q.val
  | .reg _ => 0

def N512 : ℕ := (Memref.whole cc0_scratch0 : Memref sig .tc .vmem S512x4096 .bf16).view.dmaCredit
def N256 : ℕ := ((Memref.whole cc0_scratch0 : Memref sig .tc .vmem S512x4096 .bf16).slice (Rect.unit (s := S512x4096) ![0, 0] S256x4096.size (by decide)) (fun _ => rfl)).view.dmaCredit
def Nam : ℕ := ((Memref.whole cc0_scratch4 : Memref sig .tc .vmem S8x128 .f32).slice (Rect.unit (s := S8x128) ![0, 0] S1x128.size (by decide)) (fun _ => rfl)).view.dmaCredit
theorem N512_pos : 0 < N512 := View.dmaCredit_pos _ (by decide)
theorem N256_pos : 0 < N256 := View.dmaCredit_pos _ (by decide)
theorem Nam_pos : 0 < Nam := View.dmaCredit_pos _ (by decide)

def amtQ (q : ℕ) : ℕ := if q = 4 ∨ q = 8 ∨ q = 12 ∨ q = 16 then N256 else if q ≤ 16 then N512 else Nam
theorem amtQ_pos (q : ℕ) : 0 < amtQ q := by
  unfold amtQ; split
  · exact N256_pos
  · split
    · exact N512_pos
    · exact Nam_pos

/-! ## Payloads -/

/-- The contents of the gathered array at launch. -/
def G0 (e : Dev nD) : S4096x4096.Idx → Elt F .bf16 := m ((e : Thread nD τ).loc main_v1_1)

/-- What a device's left neighbour needs of it: the rows the four rightward messages land in. -/
def landR (e : Dev nD) : sProp 𝕄 :=
  iprop(gp e fullShare (512 * (dv e 7).val) 512 (G0 m e) ∗ gp e fullShare (512 * (dv e 6).val) 512 (G0 m e)
    ∗ gp e fullShare (512 * (dv e 5).val) 512 (G0 m e) ∗ gp e fullShare (512 * (dv e 4).val) 256 (G0 m e))
/-- What its right neighbour needs: the rows the four leftward messages land in. -/
def landL (e : Dev nD) : sProp 𝕄 :=
  iprop(gp e fullShare (512 * (dv e 1).val) 512 (G0 m e) ∗ gp e fullShare (512 * (dv e 2).val) 512 (G0 m e)
    ∗ gp e fullShare (512 * (dv e 3).val) 512 (G0 m e) ∗ gp e fullShare (512 * (dv e 4).val + 256) 256 (G0 m e))

/-- What cell `q` of device `c` carries. -/
def payQ (c : Dev nD) : ℕ → sProp 𝕄
  | 1 => ownP m c fullShare.left.left
  | 2 => gp c fullShare.left (512 * (dv c 7).val) 512 (GF m)
  | 3 => gp c fullShare.left (512 * (dv c 6).val) 512 (GF m)
  | 4 => gp c fullShare.left (512 * (dv c 5).val) 256 (GF m)
  | 5 => iprop(gp c fullShare (512 * (dv c 7).val) 512 (GF m) ∗ permsUp (dv c 7) 4 c)
  | 6 => iprop(gp c fullShare (512 * (dv c 6).val) 512 (GF m) ∗ permsUp (dv c 6) 3 c)
  | 7 => iprop(gp c fullShare (512 * (dv c 5).val) 512 (GF m) ∗ permsUp (dv c 5) 2 c)
  | 8 => iprop(gp c fullShare (512 * (dv c 4).val) 256 (GF m) ∗ permsUp (dv c 4) 1 c)
  | 9 => ownP m c fullShare.left.right
  | 10 => gp c fullShare.left (512 * (dv c 1).val) 512 (GF m)
  | 11 => gp c fullShare.left (512 * (dv c 2).val) 512 (GF m)
  | 12 => gp c fullShare.left (512 * (dv c 3).val + 256) 256 (GF m)
  | 13 => iprop(gp c fullShare (512 * (dv c 1).val) 512 (GF m) ∗ permsDn (dv c 1) 3 c)
  | 14 => iprop(gp c fullShare (512 * (dv c 2).val) 512 (GF m) ∗ permsDn (dv c 2) 2 c)
  | 15 => iprop(gp c fullShare (512 * (dv c 3).val) 512 (GF m) ∗ permsDn (dv c 3) 1 c)
  | 16 => iprop(gp c fullShare (512 * (dv c 4).val + 256) 256 (GF m) ∗ permsDn (dv c 4) 0 c)
  | 17 => ap c (tk 0) c.val (AM m)
  | 18 => ap c (tk 1) c.val (AM m)
  | 19 => ap c (tk 2) c.val (AM m)
  | 20 => ap c (tk 3) c.val (AM m)
  | 21 => ap c (tk 4) c.val (AM m)
  | 22 => ap c (tk 5) c.val (AM m)
  | 23 => ap c (tk 6) c.val (AM m)
  | 24 => ap c fullShare (dv c 7).val (AM m)
  | 25 => ap c fullShare (dv c 6).val (AM m)
  | 26 => ap c fullShare (dv c 5).val (AM m)
  | 27 => ap c fullShare (dv c 4).val (AM m)
  | 28 => ap c fullShare (dv c 3).val (AM m)
  | 29 => ap c fullShare (dv c 2).val (AM m)
  | 30 => ap c fullShare (dv c 1).val (AM m)
  | _ => iprop(emp)

instance payQ_storable (c : Dev nD) (q : ℕ) : BI.Storable (upEmb : UEmb _ 𝕄) (payQ m c q) := by
  unfold payQ; split <;> infer_instance

/-- What a neighbour's signal on the barrier hands over: the rows of that neighbour's gathered array that this device writes. -/
def barPay (e : Dev nD) (d : Bool) : sProp 𝕄 := if d then landL m (dv e 7) else landR m (dv e 1)

instance barPay_storable (e : Dev nD) (d : Bool) : BI.Storable (upEmb : UEmb _ 𝕄) (barPay m e d) := by
  unfold barPay landL landR; split <;> infer_instance

/-! ## The schedule: one round; two duties on a barrier cell, one on a transfer's cell -/

/-- The cell is a barrier cell. -/
abbrev IsBar (g : GSem nD τ sig) : Prop := g.1.2 = .tc ∧ g.2 = .reg barS
/-- The cell is a transfer's. -/
abbrev IsXfer (g : GSem nD τ sig) : Prop := g.1.2 = .tc ∧ (1 ≤ xq g.2 ∧ xq g.2 ≤ 30)

/-- The schedule: each cell has one round, with its payers, amounts and payloads. -/
def Rd : Rounds.Schedule (GSem nD τ sig) Bool 𝕄 where
  duties g r := if r = 0 ∧ IsBar g then Finset.univ else if r = 0 ∧ IsXfer g then {false} else ∅
  unitless _ := False
  amount g _ _ := if xq g.2 = 0 then 1 else amtQ (xq g.2)
  payload g _ d := if g.2 = .reg barS then barPay m g.1.1 d else payQ m g.1.1 (xq g.2)
  amount_pos g _ _ _ := by
    by_cases h : xq g.2 = 0
    · rw [if_pos h]; exact Nat.one_pos
    · rw [if_neg h]; exact amtQ_pos _

instance Rd_payload_storable (g : GSem nD τ sig) (r : ℕ) (d : Bool) :
    BI.Storable (upEmb : UEmb _ 𝕄) ((Rd (F := F) m).payload g r d) := by
  show BI.Storable upEmb (if g.2 = .reg barS then barPay m g.1.1 d else payQ m g.1.1 (xq g.2))
  split <;> infer_instance

section Tables
variable (e : Dev nD)

theorem duties_bar : (Rd (F := F) m).duties (barCell e) 0 = Finset.univ := by dsimp only [Rd]; exact if_pos ⟨rfl, rfl, rfl⟩
theorem duties_dma (q : DmaSem sig) (h1 : 1 ≤ q.val) (h2 : q.val ≤ 30) : (Rd (F := F) m).duties (dcell e q) 0 = {false} := by
  dsimp only [Rd]; rw [if_neg (fun h => by cases h.2.2)]; exact if_pos ⟨rfl, rfl, h1, h2⟩
theorem duties_later (g : GSem nD τ sig) : ∀ r, 1 ≤ r → (Rd (F := F) m).duties g r = ∅ :=
  fun r hr => by dsimp only [Rd]; rw [if_neg fun h => by omega, if_neg fun h => by omega]
theorem amount_bar (d : Bool) : (Rd (F := F) m).amount (barCell e) 0 d = 1 := by dsimp only [Rd]; exact if_pos rfl
theorem amount_dma (q : DmaSem sig) (h1 : 1 ≤ q.val) (d : Bool) : (Rd (F := F) m).amount (dcell e q) 0 d = amtQ q.val := by
  dsimp only [Rd]; exact if_neg (by show ¬ q.val = 0; omega)
theorem mem_bar (d : Bool) : d ∈ (Rd (F := F) m).duties (barCell e) 0 := by rw [duties_bar]; exact Finset.mem_univ _
theorem mem_dma (q : DmaSem sig) (h1 : 1 ≤ q.val) (h2 : q.val ≤ 30) : false ∈ (Rd (F := F) m).duties (dcell e q) 0 := by
  rw [duties_dma m e q h1 h2]; exact Finset.mem_singleton_self _
theorem expect_bar : (Rd (F := F) m).expect (barCell e) 0 = 2 := by
  unfold Schedule.expect Schedule.amountOf
  rw [duties_bar, Finset.sum_congr rfl fun d _ => amount_bar m e d, Finset.sum_const, Finset.card_univ, Fintype.card_bool, smul_eq_mul]
theorem expect_dma (q : DmaSem sig) (h1 : 1 ≤ q.val) (h2 : q.val ≤ 30) : (Rd (F := F) m).expect (dcell e q) 0 = amtQ q.val := by
  unfold Schedule.expect Schedule.amountOf; rw [duties_dma m e q h1 h2, Finset.sum_singleton, amount_dma m e q h1]
theorem payload_bar (d : Bool) : (Rd (F := F) m).payload (barCell e) 0 d = barPay m e d := by dsimp only [Rd]; exact if_pos rfl
theorem payload_dma (q : DmaSem sig) (d : Bool) : (Rd (F := F) m).payload (dcell e q) 0 d = payQ m e q.val := by
  dsimp only [Rd]; exact if_neg (fun h => by cases h)
theorem rest_bar : bigSep ((Rd (F := F) m).duties (barCell e) 0 \ ∅) (fun d => (Rd (F := F) m).payload (barCell e) 0 d)
    = iprop(landR m (dv e 1) ∗ landL m (dv e 7)) := by
  rw [Finset.sdiff_empty, duties_bar, bigSep_univ_eq_bigSepL [false, true] (by decide) (by decide), bigSepL_cons_cons, bigSepL_singleton,
    payload_bar, payload_bar]
  rfl
theorem rest_dma (q : DmaSem sig) (h1 : 1 ≤ q.val) (h2 : q.val ≤ 30) :
    bigSep ((Rd (F := F) m).duties (dcell e q) 0 \ ∅) (fun d => (Rd (F := F) m).payload (dcell e q) 0 d) = payQ m e q.val := by
  rw [Finset.sdiff_empty, duties_dma m e q h1 h2, bigSep_singleton, payload_dma]
end Tables

/-! ## The cells' records -/

/-- The cells of a device: its barrier and its thirty transfers' semaphores. -/
def osm (q : Fin 31) : SemLoc sig := if q.val = 0 then .reg barS else .dma ⟨q.val, Nat.lt_of_lt_of_le q.isLt (by decide)⟩
def kcell (ck : Dev nD × Fin 31) : GSem nD τ sig := ((ck.1 : Thread nD τ), osm ck.2)

/-- Every cell's invariant, and that it stands at round 0. -/
def recsAt (K : Dev nD × Fin 31 → ℕ) : sProp 𝕄 :=
  bigSep Finset.univ fun ck : Dev nD × Fin 31 => iprop(cellInv ER (Rd m) (K ck) (kcell ck) ∗ reached ER (kcell ck) 0)
def Recs : sProp 𝕄 := iprop(∃ K, recsAt m K)
instance recsAt_persistent (K) : BI.Persistent (recsAt (F := F) m K) := by unfold recsAt; infer_instance
instance Recs_persistent : BI.Persistent (Recs (F := F) m) := by unfold Recs; infer_instance

theorem recsAt_cell (K) (ck : Dev nD × Fin 31) :
    recsAt (F := F) m K ⊢ iprop(cellInv ER (Rd m) (K ck) (kcell ck) ∗ reached ER (kcell ck) 0) :=
  bigSep_elim (Finset.mem_univ ck)
theorem recs_cell (ck : Dev nD × Fin 31) :
    Recs (F := F) m ⊢ iprop(∃ κ, cellInv ER (Rd m) κ (kcell ck) ∗ reached ER (kcell ck) 0) := by
  unfold Recs
  iintro ⟨%K, H⟩
  iexists K ck
  iapply (recsAt_cell m K ck)
  iexact H
theorem recs_bar (e : Dev nD) : Recs (F := F) m ⊢ iprop(∃ κ, cellInv ER (Rd m) κ (barCell e) ∗ reached ER (barCell e) 0) := recs_cell m (e, 0)
theorem recs_dma (e : Dev nD) (q : DmaSem sig) (h1 : 1 ≤ q.val) (h2 : q.val ≤ 30) :
    Recs (F := F) m ⊢ iprop(∃ κ, cellInv ER (Rd m) κ (dcell e q) ∗ reached ER (dcell e q) 0) := by
  have h := recs_cell (F := F) m (e, ⟨q.val, by omega⟩)
  have he : kcell (e, ⟨q.val, by omega⟩) = dcell e q := by
    unfold kcell osm; rw [if_neg (by show ¬ q.val = 0; omega)]
  rwa [he] at h

/-! ## Debts -/

/-- The payments of device `c` in program order: whose cell, how much. -/
def debtAt (c : Dev nD) : ℕ → GSem nD τ sig × ℕ
  | 0 => (barCell (dv c 7), 1)
  | 1 => (barCell (dv c 1), 1)
  | 2 => (dcell (dv c 1) ⟨5, by decide⟩, N512)
  | 3 => (dcell (dv c 7) ⟨13, by decide⟩, N512)
  | 4 => (dcell (dv c 1) ⟨6, by decide⟩, N512)
  | 5 => (dcell (dv c 7) ⟨14, by decide⟩, N512)
  | 6 => (dcell (dv c 1) ⟨7, by decide⟩, N512)
  | 7 => (dcell (dv c 7) ⟨15, by decide⟩, N512)
  | 8 => (dcell (dv c 1) ⟨8, by decide⟩, N256)
  | 9 => (dcell (dv c 7) ⟨16, by decide⟩, N256)
  | 10 => (dcell (dv c 1) ⟨24, by decide⟩, Nam)
  | 11 => (dcell (dv c 2) ⟨25, by decide⟩, Nam)
  | 12 => (dcell (dv c 3) ⟨26, by decide⟩, Nam)
  | 13 => (dcell (dv c 4) ⟨27, by decide⟩, Nam)
  | 14 => (dcell (dv c 5) ⟨28, by decide⟩, Nam)
  | 15 => (dcell (dv c 6) ⟨29, by decide⟩, Nam)
  | _ => (dcell (dv c 7) ⟨30, by decide⟩, Nam)

/-- What is owed while the last `n` payments are outstanding. -/
def owedR (c : Dev nD) : ℕ → CellTallies nD τ sig Unit
  | 0 => 0
  | n + 1 => owedR c n + tallyAt (debtAt c (16 - n)).1 () (debtAt c (16 - n)).2

theorem owedR_succ (c : Dev nD) (n : ℕ) :
    owedR c (n + 1) = owedR c n + tallyAt (debtAt c (16 - n)).1 () (debtAt c (16 - n)).2 := rfl
theorem owed_step {c : Dev nD} {n : ℕ} {g : GSem nD τ sig} {k : ℕ} (h : debtAt c (16 - n) = (g, k)) :
    owedR c (n + 1) = owedR c n + tallyAt g () k := by rw [owedR_succ, h]

def Due (c : Dev nD) (n : ℕ) : sProp 𝕄 := iprop(∃ W, owes (c : Thread nD τ) (owedR c n) W)

/-! ## Levels -/

def L (g : GSem nD τ sig) : Finset Unit := if g.1.2 = .tc then {()} else ∅
def lvQ (q : ℕ) : ℕ := if 5 ≤ q ∧ q ≤ 8 then q - 3 else if 13 ≤ q ∧ q ≤ 16 then q - 11 else if 24 ≤ q then 6 else 0
def lv (g : GSem nD τ sig) (_ : Unit) : ℕ :=
  match g.2 with
  | .reg _ => 1
  | .dma q => if q.val ≤ 30 then lvQ q.val else 0
theorem L_of_ne (g : GSem nD τ sig) (h : g.1.2 ≠ .tc) : L g = ∅ := if_neg h
theorem L_tc (c : Dev nD) (sm : SemLoc sig) : L ((c : Thread nD τ), sm) = {()} := if_pos rfl

/-- The least level owed while the last `n` payments are outstanding. -/
def floor (n : ℕ) : ℕ := if n = 0 then 7 else if n ≤ 7 then 6 else if n ≤ 15 then 2 + (15 - n) / 2 else 1

theorem owed_pos {c : Dev nD} {g : GSem nD τ sig} {u : Unit} : ∀ {n : ℕ}, 0 < owedR c n g u → ∃ j, 17 ≤ j + n ∧ g = (debtAt c j).1
  | 0, h => absurd h (Nat.lt_irrefl 0)
  | n + 1, h => by
    unfold owedR at h
    rw [Pi.add_apply, Finsupp.add_apply, tallyAt_apply] at h
    by_cases hg : 0 < owedR c n g u
    · obtain ⟨j, hj, e⟩ := owed_pos hg
      exact ⟨j, by omega, e⟩
    · refine ⟨16 - n, by omega, ?_⟩
      by_contra hn
      rw [if_neg (fun h' => hn h'.1)] at h
      omega

theorem debt_tc (c : Dev nD) (j : ℕ) : (debtAt c j).1.1.2 = .tc := by
  unfold debtAt; split <;> rfl
/-- The level of the `j`-th payment's cell. -/
def debtLv (j : ℕ) : ℕ := if j < 2 then 1 else if j < 10 then 2 + (j - 2) / 2 else 6
theorem lv_debt (c : Dev nD) : ∀ j : ℕ, lv (debtAt c j).1 () = debtLv j
  | 0 => rfl | 1 => rfl | 2 => rfl | 3 => rfl | 4 => rfl | 5 => rfl | 6 => rfl | 7 => rfl | 8 => rfl | 9 => rfl
  | 10 => rfl | 11 => rfl | 12 => rfl | 13 => rfl | 14 => rfl | 15 => rfl
  | j + 16 => by
    have h : debtLv (j + 16) = 6 := by unfold debtLv; rw [if_neg (by omega), if_neg (by omega)]
    rw [h]; rfl
theorem debt_lv (c : Dev nD) (j n : ℕ) (hn : n ≠ 0) (h : 17 ≤ j + n) : floor n ≤ lv (debtAt c j).1 () := by
  rw [lv_debt]; unfold floor debtLv; (repeat' split) <;> omega

/-- A device may wait on a cell of a level below all it owes. -/
theorem mayWait (c : Dev nD) (sm : SemLoc sig) (n : ℕ) (h : lv ((c : Thread nD τ), sm) () < floor n) :
    (levAts L lv : sProp 𝕄) ⊢ MayWait (c : Thread nD τ) sm () (owedR c n) :=
  MayOwe.of_cut (L := L) (lev := lv) (lv ((c : Thread nD τ), sm) ())
    (fun p hp => by rw [Finset.mem_singleton.mp hp, L_tc]; exact Finset.mem_singleton_self _)
    (fun g u hg => by
      obtain ⟨j, hj, rfl⟩ := owed_pos hg
      show u ∈ L (debtAt c j).1
      unfold L; rw [if_pos (debt_tc c j)]; exact Finset.mem_singleton_self _)
    (fun p hp => by rw [Finset.mem_singleton.mp hp])
    (fun g u hg => by
      have hn : n ≠ 0 := fun h0 => by subst h0; exact absurd hg (Nat.lt_irrefl 0)
      obtain ⟨j, hj, rfl⟩ := owed_pos hg
      exact Nat.lt_of_lt_of_le h (debt_lv c j n hn hj))

end Cert.Ring

end
-- ==== Proof.Steps.lean ====
/-
One rule per remote operation of the kernel: a signal, the barrier wait, a transfer to a neighbour, a wait
for a transfer. Each is a rule of the rounds library at this schedule.
-/
module

public import proofs.«01_k».proof.Proof.Schedule

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What every step may use: the cells' records and the levels. -/
def Ctx : sProp 𝕄 := iprop(Recs m ∗ levAts L lv)
instance Ctx_persistent : BI.Persistent (Ctx (F := F) m) := by unfold Ctx; infer_instance

/-- The right to wait on one's own cell `q`: its position, and the credit of what was sent or is to come. -/
def Rcv (c : Dev nD) (q : DmaSem sig) : sProp 𝕄 :=
  iprop(atPos ER (dcell c q) 0 ∅ 0 ∗ cred (tallyAt (dcell c q) () (amtQ q.val)))
/-- The right to send on one's own cell `q₁` to cell `q₂` of `e`. -/
def Snd (c e : Dev nD) (q₁ q₂ : DmaSem sig) : sProp 𝕄 :=
  iprop(atPos ER (dcell c q₁) 0 ∅ 0 ∗ dutyTok ER (dcell c q₁) 0 false ∗ dutyTok ER (dcell e q₂) 0 false)

section Rules
variable {α : Type} {k : PUnit → Prog (TpuEff nD τ sig (Elt F) Λ₀ .tc) α}
variable {Q : α → sProp (MT nD τ sig Unit (Elt F) ℕ UU ℕ)}

/-- A signal to a neighbour's barrier cell. -/
theorem wp_sig (c e : Dev nD) (d : Bool) (n : ℕ) {k' : ℕ} (hk : k' = 1) (hd : debtAt c (16 - n) = (barCell e, 1)) :
    iprop(Ctx m ∗ Due c (n + 1) ∗ dutyTok ER (barCell e) 0 d ∗ barPay m e d)
      ⊢ iprop((Due c n -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (e : Thread nD τ) barS k') k) Q) := by
  subst hk
  unfold Ctx Due
  iintro ⟨⟨#HR, -⟩, ⟨%W, HO⟩, Ht, Hp⟩ Hk
  ihave HR' := (recs_bar m e) $$ HR
  icases HR' with ⟨%κ, #HI, #Hr⟩
  iapply (Rounds.wp_signal 𝒱₀ ER (Rd m) (c : Thread nD τ) none (dst := (e : Thread nD τ)) (κ := κ) (r := 0)
      (d := d) (mem_bar m e d) (amount_bar m e d) () (owedR c n) (owed_step hd) (W := W))
    $$ [HO Ht Hp]
  · isplitr; · iexact HI
    isplitl [HO]; · iexact HO
    isplitl [Ht]; · iexact Ht
    isplitl [Hp]
    · rw [payload_bar]; iexact Hp
    · iexact Hr
  iintro HO
  iapply Hk
  iexists W; iexact HO

/-- The wait for both neighbours at the barrier. -/
theorem wp_bar (c : Dev nD) (n : ℕ) {k' : ℕ} (hk : k' = 2) (hl : 1 < floor n) :
    iprop(Ctx m ∗ Due c n ∗ atPos ER (barCell c) 0 ∅ 0 ∗ cred (tallyAt (barCell c) () 2))
      ⊢ iprop(((landR m (dv c 1) ∗ landL m (dv c 7) ∗ semVal (barCell c) 0 ∗ Due c n) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold Ctx Due
  iintro ⟨⟨#HR, #Hlev⟩, ⟨%W, HO⟩, Hat, Hc⟩ Hk
  ihave HR' := (recs_bar m c) $$ HR
  icases HR' with ⟨%κ, #HI, #Hr⟩
  iapply (Rounds.wp_wait_rest_token 𝒱₀ ER (Rd m) (c : Thread nD τ) none (κ := κ)
      (wpE_semWait_eq 𝒱₀ (c : Thread nD τ) none Set.univ) (Set.mem_univ _) () (O := owedR c n) (W := W) (R := 0) (m := 0) (T := ∅)
      (expect_bar m c).symm) $$ [Hc HO Hat]
  · isplitr; · iexact HI
    isplitl [Hc]; · iexact Hc
    isplitl [HO]; · iexact HO
    isplitr; · iapply (mayWait c (.reg barS) n hl); iexact Hlev
    iexact Hat
  iintro ⟨HO, Hat, -, Hpay⟩
  ihave Hp := (Entails.of_eq (rest_bar m c)) $$ Hpay
  icases Hp with ⟨HpR, HpL⟩
  imod (Rounds.cell_close ER (Rd m) (g := barCell c) (κ := κ) (Set.mem_univ κ) (fun h => h) (R := 0 + 1) (duties_later m _)) $$ [Hat] with Hv
  · isplitr; · iexact HI
    iexact Hat
  iapply Hk
  isplitl [HpR]; · iexact HpR
  isplitl [HpL]; · iexact HpL
  isplitl [Hv]; · iexact Hv
  iexists (insert (SemLoc.reg barS, ()) W); iexact HO

/-- A wait on one of the thirty transfers' cells: its payload comes, and the cell is back at zero for good. -/
theorem wp_rcv (c : Dev nD) (q : DmaSem sig) (n : ℕ) (h1 : 1 ≤ q.val) (h2 : q.val ≤ 30) (hl : lvQ q.val < floor n)
    {sp sp' : Space} {s s' : Shape} {e e' : EltTy} {src : Memref sig .tc sp' s' e'} {dst : Memref sig .tc sp s e}
    {hsrc : src.view.WordExact} {hdst : dst.view.WordExact} (hN : dst.view.dmaCredit = amtQ q.val) :
    iprop(Ctx m ∗ Due c n ∗ Rcv c q)
      ⊢ iprop(((payQ m c q.val ∗ semVal (dcell c q) 0 ∗ Due c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hexp : 0 + dst.view.dmaCredit = (Rd (F := F) m).expect (dcell c q) 0 := by rw [Nat.zero_add, hN, expect_dma m c q h1 h2]
  have hlv : lv ((c : Thread nD τ), .dma q) () < floor n := by
    show (if q.val ≤ 30 then lvQ q.val else 0) < _; rw [if_pos h2]; exact hl
  unfold Ctx Due Rcv
  iintro ⟨⟨#HR, #Hlev⟩, ⟨%W, HO⟩, Hat, Hc⟩ Hk
  ihave HR' := (recs_dma m c q h1 h2) $$ HR
  icases HR' with ⟨%κ, #HI, #Hr⟩
  iapply (Rounds.wp_wait_rest_token 𝒱₀ ER (Rd m) (c : Thread nD τ) none (κ := κ)
      (wpE_waitDma2_eq 𝒱₀ (c : Thread nD τ) none Set.univ) (Set.mem_univ _) () (O := owedR c n) (W := W) (R := 0) (m := 0) (T := ∅)
      hexp) $$ [Hc HO Hat]
  · rw [hN]
    isplitr; · iexact HI
    isplitl [Hc]; · iexact Hc
    isplitl [HO]; · iexact HO
    isplitr
    · iapply (mayWait c (.dma q) n hlv); iexact Hlev
    iexact Hat
  iintro ⟨HO, Hat, -, Hpay⟩
  ihave Hp := (Entails.of_eq (rest_dma m c q h1 h2)) $$ Hpay
  imod (Rounds.cell_close ER (Rd m) (g := dcell c q) (κ := κ) (Set.mem_univ κ) (fun h => h) (R := 0 + 1) (duties_later m _)) $$ [Hat] with Hv
  · isplitr; · iexact HI
    iexact Hat
  iapply Hk
  isplitl [Hp]; · iexact Hp
  isplitl [Hv]; · iexact Hv
  iexists (insert (SemLoc.dma q, ()) W); iexact HO

/-- A transfer to device `e`: the source goes into the send cell, the landed rows (with what rides along) into the
    receive cell. -/
theorem wp_snd (c e : Dev nD) (q₁ q₂ : DmaSem sig) (n : ℕ) (h1 : 1 ≤ q₁.val) (h1' : q₁.val ≤ 30) (h2 : 1 ≤ q₂.val) (h2' : q₂.val ≤ 30)
    (ha : amtQ q₁.val = amtQ q₂.val) (hd : debtAt c (16 - n) = (dcell e q₂, amtQ q₂.val))
    {sp sp' : Space} {s : Shape} {el : EltTy} {src : Memref sig .tc sp s el} {dst : Memref sig .tc sp' s el}
    {hsc : (dst : Memref sig (e : Thread nD τ).2.kind sp' s el).view.ref.isScScratch = false}
    {hsrc : src.view.WordExact} {hdst : dst.view.WordExact}
    {hsem : DmaTarget.Typed sp (.dma q₂) (.remote (e : Thread nD τ) (dst : Memref sig (e : Thread nD τ).2.kind sp' s el) (.dma q₁) hsc)}
    (hN : dst.view.dmaCredit = amtQ q₂.val)
    {sh : PosShare TreeShare} {fs : Buf (Elt F) (src.view.loc (c : Thread nD τ))} {fd : Buf (Elt F) (dst.view.loc (e : Thread nD τ))} {R : sProp 𝕄}
    (hp1 : (src.view.loc (c : Thread nD τ) ↦[src.view.set]{sh} fs : sProp 𝕄) ⊢ payQ m c q₁.val)
    (hp2 : iprop((dst.view.loc (e : Thread nD τ) ↦[dst.view.set]{fullShare} (dst.view.write (Elt F) fd (src.view.read (Elt F) fs) Finset.univ)) ∗ R)
      ⊢ payQ m e q₂.val) :
    iprop(Ctx m ∗ Due c (n + 1) ∗ Snd c e q₁ q₂ ∗ (src.view.loc (c : Thread nD τ) ↦[src.view.set]{sh} fs)
        ∗ (dst.view.loc (e : Thread nD τ) ↦[dst.view.set]{fullShare} fd) ∗ R)
      ⊢ iprop(((Rcv c q₁ ∗ Due c n) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (e : Thread nD τ) dst (.dma q₁) hsc) (.dma q₂) hsrc hdst hsem) k) Q) := by
  unfold Ctx Due Rcv Snd
  iintro ⟨⟨#HR, #Hlev⟩, ⟨%W, HO⟩, ⟨Hat, Ht1, Ht2⟩, Hs, Hd, HF⟩ Hk
  ihave HR1 := (recs_dma m c q₁ h1 h1') $$ HR
  icases HR1 with ⟨%κ₁, #HI1, #Hr1⟩
  ihave HR2 := (recs_dma m e q₂ h2 h2') $$ HR
  icases HR2 with ⟨%κ₂, #HI2, #Hr2⟩
  iapply (Rounds.wp_send_pointsTo_with 𝒱₀ ER (Rd m) (c : Thread nD τ) none (κ₁ := κ₁) (κ₂ := κ₂) (c' := (e : Thread nD τ)) (src := src) (dst := dst) (sS := .dma q₁) (sem := .dma q₂)
      (r₁ := 0) (r₂ := 0) (d₁ := false) (d₂ := false) (fd := fd) (fs := fs) (F := R)
      (mem_dma m c q₁ h1 h1') (mem_dma m e q₂ h2 h2')
      () () (amtQ q₂.val) hN ((amount_dma m c q₁ h1 false).trans ha) (amount_dma m e q₂ h2 false) (owedR c n) (owed_step hd) (W := W)
      (hp1.trans (Entails.of_eq (payload_dma m c q₁ false).symm))
      (hp2.trans (Entails.of_eq (payload_dma m e q₂ false).symm))) $$ [HO Ht1 Ht2 Hs Hd HF]
  · isplitr; · iexact HI1
    isplitr; · iexact HI2
    isplitl [Hs]; · iexact Hs
    isplitl [Hd HF]; · isplitl [Hd] <;> iassumption
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitl [Hat]; · iexact Hat
    rw [ha]; iexact Hc
  iexists W; iexact HO

end Rules

end Cert.Ring

end
-- ==== Proof.Local.lean ====
/-
The device's own work: its local copies (held as a flight with what it will hand back), and the loads and
stores that turn a staged block of `w` into bf16 rows.
-/
module

public import proofs.«01_k».proof.Proof.Steps
public import Idealize.ShloMosaic.Lib.ValueLayout

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The two semaphores of the local copies. -/
abbrev lq (b : Fin 2) : DmaSem sig := ⟨31 + b.val, by have := b.isLt; show _ < 33; omega⟩

/-- A local copy in flight on semaphore `q`, to hand back `T`. -/
def Fl (c : Dev nD) (q : DmaSem sig) (N : ℕ) (T : sProp 𝕄) : sProp 𝕄 :=
  iprop(∃ D R : sProp 𝕄, ⌜iprop(D ∗ R) ⊢ T⌝ ∗ Transfers.Flight EC (c : Thread nD τ) (.dma q) () N D ∗ R)

section Rules
variable {α : Type} {k : PUnit → Prog (TpuEff nD τ sig (Elt F) Λ₀ .tc) α}
variable {Q : α → sProp (MT nD τ sig Unit (Elt F) ℕ UU ℕ)}

/-- Starting a local copy. -/
theorem wp_cp (c : Dev nD) (q : DmaSem sig) (N : ℕ) (T R : sProp 𝕄) {sp sp' : Space} {s : Shape} {e : EltTy}
    {src : Memref sig .tc sp s e} {dst : Memref sig .tc sp' s e}
    {hsrc : src.view.WordExact} {hdst : dst.view.WordExact} {hsem : DmaTarget.Typed (nD := nD) (τ := τ) (p := .tc) sp (.dma q) (.here dst)}
    {sh : PosShare TreeShare} {fs : Buf (Elt F) (src.view.loc (c : Thread nD τ))} {fd : Buf (Elt F) (dst.view.loc (c : Thread nD τ))}
    {Sd : Finset (Idx (dst.view.loc (c : Thread nD τ)))}
    (hN : dst.view.dmaCredit = N) (hN0 : 0 < N) (hSd : dst.view.set ⊆ Sd)
    (hT : iprop(((dst.view.loc (c : Thread nD τ) ↦[Sd]{fullShare} (dst.view.write (Elt F) fd (src.view.read (Elt F) fs) Finset.univ))
        ∗ (src.view.loc (c : Thread nD τ) ↦[src.view.set]{sh} fs)) ∗ R) ⊢ T) :
    iprop((src.view.loc (c : Thread nD τ) ↦[src.view.set]{sh} fs) ∗ (dst.view.loc (c : Thread nD τ) ↦[Sd]{fullShare} fd)
        ∗ semVal (dcell c q) 0 ∗ R)
      ⊢ iprop((Fl c q N T -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.here dst) (.dma q) hsrc hdst hsem) k) Q) := by
  iintro ⟨Hs, Hd, Hv, HR⟩ Hk
  iapply (Transfers.wp_dmaLocal EC 𝒱₀ (c : Thread nD τ) none (src := src) (dst := dst) (via := .same) (sm := .dma q) (fs := fs) (fd := fd) (Sd := Sd) () N hN hN0 hSd) $$ [Hs Hd Hv]
  · isplitl [Hs]; · iexact Hs
    isplitl [Hd]; · iexact Hd
    iexact Hv
  iintro HF
  iapply Hk
  unfold Fl
  iexists _, R
  isplitr; · ipureintro; exact hT
  isplitl [HF]; · iexact HF
  iexact HR

/-- Waiting for a local copy. -/
theorem wp_wl (c : Dev nD) (q : DmaSem sig) (hq : 30 < q.val) (N n : ℕ) (T : sProp 𝕄) {sp sp' : Space} {s s' : Shape} {e e' : EltTy}
    {src : Memref sig .tc sp' s' e'} {dst : Memref sig .tc sp s e} {hsrc : src.view.WordExact} {hdst : dst.view.WordExact}
    (hN : dst.view.dmaCredit = N) :
    iprop(Ctx m ∗ Due c n ∗ Fl c q N T)
      ⊢ iprop(((T ∗ semVal (dcell c q) 0 ∗ Due c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hlv : lv ((c : Thread nD τ), .dma q) () < floor n := by
    show (if q.val ≤ 30 then lvQ q.val else 0) < _; rw [if_neg (by omega)]; unfold floor; (repeat' split) <;> omega
  unfold Ctx Due Fl
  iintro ⟨⟨-, #Hlev⟩, ⟨%W, HO⟩, %D, %R, %hT, HF, HR⟩ Hk
  iapply (Transfers.wp_waitLocalO EC 𝒱₀ (c : Thread nD τ) none () hN (O := owedR c n) (W := W)) $$ [HF HO]
  · isplitl [HF]; · iexact HF
    isplitl [HO]; · iexact HO
    iapply (mayWait c (.dma q) n hlv); iexact Hlev
  iintro ⟨HD, Hv, HO⟩
  iapply Hk
  isplitl [HD HR]
  · iapply hT; isplitl [HD] <;> iassumption
  isplitl [Hv]; · iexact Hv
  iexists _; iexact HO
end Rules

/-! ## Loads and stores of whole buffers, by rectangle -/

section Buffers
variable {α : Type}
variable {Q : α → sProp (MT nD τ sig Unit (Elt F) ℕ UU ℕ)}

/-- A load of a rectangle of a buffer held on a set that includes it. -/
theorem wp_ld (c : Dev nD) {cs : CoreSpace} {s : Shape} {e : EltTy} (M : Memref sig .tc cs s e) {r : Rect s} {hl : M.view.LoadsAt r.toLoadRect}
    {k : (r.toLoadRect.shape.Idx → Elt F e) → Prog (TpuEff nD τ sig (Elt F) Λ₀ .tc) α} {S : Finset (Idx (M.view.loc (c : Thread nD τ)))} {q : PosShare TreeShare}
    {f : Buf (Elt F) (M.view.loc (c : Thread nD τ))} (v : r.toLoadRect.shape.Idx → Elt F e)
    (hS : M.view.setOn r.toLoadRect.set ⊆ S) (hv : M.view.readAt (Elt F) r.toLoadRect f = v) :
    (M.view.loc (c : Thread nD τ) ↦[S]{q} f : sProp 𝕄)
      ⊢ iprop(((M.view.loc (c : Thread nD τ) ↦[S]{q} f) -∗ wp frame (wpE (defs₀ (F := F)) 𝒱₀ (c : Thread nD τ) none) Set.univ (k v) Q)
        -∗ wp frame (wpE (defs₀ (F := F)) 𝒱₀ (c : Thread nD τ) none) Set.univ (.op (.load M r.toLoadRect hl) k) Q) := by
  subst hv; exact wp_load 𝒱₀ (c : Thread nD τ) none Set.univ hS

/-- A store of a rectangle of a buffer held whole. -/
theorem wp_st (c : Dev nD) {cs : CoreSpace} {s : Shape} {e : EltTy} (M : Memref sig .tc cs s e) (r : Rect s) {w : r.shape.Idx → Elt F e} {x} {hm}
    {k : PUnit → Prog (TpuEff nD τ sig (Elt F) Λ₀ .tc) α}
    {f : Buf (Elt F) (M.view.loc (c : Thread nD τ))} :
    (M.view.loc (c : Thread nD τ) ↦{fullShare} f : sProp 𝕄)
      ⊢ iprop(((M.view.loc (c : Thread nD τ) ↦{fullShare} ((M.access r).write (Elt F) f w Finset.univ)) -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ x hm) k) Q) :=
  wp_store 𝒱₀ (c : Thread nD τ) none Set.univ (Q := Q) (m := M) (r := r) (w := w) (Mk := Finset.univ) (hx := x) (hm := hm) (k := k) (f := f) (S := Finset.univ)
    (Finset.subset_univ _)

/-- A load of a rectangle of a buffer whose value is not used. -/
theorem wp_ld0 (c : Dev nD) {cs : CoreSpace} {s : Shape} {e : EltTy} (M : Memref sig .tc cs s e) (r : Rect s) {hl : M.view.LoadsAt r.toLoadRect}
    {k : (r.toLoadRect.shape.Idx → Elt F e) → Prog (TpuEff nD τ sig (Elt F) Λ₀ .tc) α} {q : PosShare TreeShare}
    {f : Buf (Elt F) (M.view.loc (c : Thread nD τ))} :
    (M.view.loc (c : Thread nD τ) ↦{q} f : sProp 𝕄)
      ⊢ iprop(((M.view.loc (c : Thread nD τ) ↦{q} f) -∗ wp frame (wpE (defs₀ (F := F)) 𝒱₀ (c : Thread nD τ) none) Set.univ (k (M.view.readAt (Elt F) r.toLoadRect f)) Q)
        -∗ wp frame (wpE (defs₀ (F := F)) 𝒱₀ (c : Thread nD τ) none) Set.univ (.op (.load M r.toLoadRect hl) k) Q) :=
  wp_load 𝒱₀ (c : Thread nD τ) none Set.univ (Finset.subset_univ _)
end Buffers

/-! ## The blocks of `w` -/

def slotW (b : Fin 2) : Finset S512x4096.Idx := Finset.univ.filter fun i => (i 0).val < 256 ∧ 1024 * b.val ≤ (i 1).val ∧ (i 1).val < 1024 * b.val + 1024
theorem mem_slotW {b : Fin 2} {i : S512x4096.Idx} : i ∈ slotW b ↔ (i 0).val < 256 ∧ 1024 * b.val ≤ (i 1).val ∧ (i 1).val < 1024 * b.val + 1024 := by
  simp [slotW]
theorem set_slotW {off : Fin 2 → ℕ} (inb) (b : Fin 2) (h0 : off = ![0, 1024 * b.val]) :
    (Rect.unit (s := S512x4096) off S256x1024.size inb).set = slotW b := by
  subst h0
  ext i
  rw [Rect.mem_set_unit, mem_slotW, Fin.forall_fin_two]
  show (0 ≤ (i 0).val ∧ (i 0).val < 0 + 256) ∧ (1024 * b.val ≤ (i 1).val ∧ (i 1).val < 1024 * b.val + 1024) ↔ _
  omega

def stP (c : Dev nD) (b : Fin 2) (f : S512x4096.Idx → Elt F .f32) : sProp 𝕄 :=
  ((c : Thread nD τ).loc cc0_scratch3 : Loc nD τ sig) ↦[slotW b]{fullShare} f
/-- Block `k` of `w` where a copy puts it, whichever slot. -/
def stageV (c : Dev nD) (k : Fin 16) : S512x4096.Idx → Elt F .f32 := fun i =>
  wBlk m c k (Shape.pair (d := ![256, 1024]) ⟨(i 0).val % 256, Nat.mod_lt _ (by decide)⟩ ⟨(i 1).val % 1024, Nat.mod_lt _ (by decide)⟩)
/-- The argument `w`, at a share. -/
def wA (c : Dev nD) (q : PosShare TreeShare) : sProp 𝕄 :=
  ((c : Thread nD τ).loc main_arg1 : Loc nD τ sig) ↦{q} (m ((c : Thread nD τ).loc main_arg1))
def NW : ℕ := ((Memref.whole cc0_scratch3 : Memref sig .tc .vmem S512x4096 .f32).slice (Rect.unit (s := S512x4096) ![0, 0] S256x1024.size (by decide)) (fun _ => rfl)).view.dmaCredit
theorem NW_pos : 0 < NW := View.dmaCredit_pos _ (by decide)
def TW (c : Dev nD) (k : Fin 16) (b : Fin 2) (q : PosShare TreeShare) : sProp 𝕄 := iprop(stP c b (stageV m c k) ∗ wA m c q)
/-- The bf16 rows of `w`, the first `k` blocks made. -/
def wbP (c : Dev nD) (k : ℕ) : sProp 𝕄 :=
  iprop(∃ v : S4096x1024.Idx → Elt F .bf16, ⌜∀ i, (i 0).val < 256 * k → v i = WB m c i⌝ ∗ (((c : Thread nD τ).loc cc0_scratch2 : Loc nD τ sig) ↦{fullShare} v))

/-- Reading a rectangle of a whole buffer, at an index. -/
theorem readAt_whole {b : Ref sig .tc} (r : Rect b.ty.shape) (f : b.ty.Contents (Elt F)) :
    (Memref.whole b).view.readAt (Elt F) r.toLoadRect f = fun x => f (r.toLoadRect.idx x) := rfl

theorem write_blockW (c : Dev nD) (k : Fin 16) (b : Fin 2) {o1 o2 : Fin 2 → ℕ} (i1) (i2) (h1 : o1 = ![256 * k.val, 0]) (h2 : o2 = ![0, 1024 * b.val])
    (fd : S512x4096.Idx → Elt F .f32) (i : S512x4096.Idx) (hi : i ∈ slotW b) :
    (((Memref.whole cc0_scratch3 : Memref sig .tc .vmem S512x4096 .f32).slice (Rect.unit (s := S512x4096) o2 S256x1024.size i2) (fun _ => rfl)).view.write (Elt F) fd
      (((Memref.whole main_arg1 : Memref sig .tc .hbm S4096x1024 .f32).slice (Rect.unit (s := S4096x1024) o1 S256x1024.size i1) (fun _ => rfl)).view.read (Elt F)
        (m ((c : Thread nD τ).loc main_arg1))) Finset.univ) i = stageV m c k i := by
  subst h1 h2
  rw [mem_slotW] at hi
  let x : S256x1024.Idx := Shape.pair (d := ![256, 1024]) ⟨(i 0).val, hi.1⟩ ⟨(i 1).val - 1024 * b.val, by show _ < 1024; omega⟩
  have hx : ((Memref.whole cc0_scratch3 : Memref sig .tc .vmem S512x4096 .f32).slice (Rect.unit (s := S512x4096) ![0, 1024 * b.val] S256x1024.size i2) (fun _ => rfl)).view.emb x = i := by
    funext a; apply Fin.ext
    match a with
    | 0 => show 0 + 1 * (i 0).val = (i 0).val; omega
    | 1 => show 1024 * b.val + 1 * ((i 1).val - 1024 * b.val) = (i 1).val; omega
  conv_lhs => rw [← hx]
  rw [View.write_emb_of_mem _ _ (Finset.mem_univ _)]
  show (m ((c : Thread nD τ).loc main_arg1) : S4096x1024.Idx → Elt F .f32) _ = (m ((c : Thread nD τ).loc main_arg1) : S4096x1024.Idx → Elt F .f32) _
  congr 1
  funext a; apply Fin.ext
  match a with
  | 0 => show 256 * k.val + 1 * (i 0).val = 256 * k.val + (i 0).val % 256; omega
  | 1 => show 0 + 1 * ((i 1).val - 1024 * b.val) = (i 1).val % 1024; omega

end Cert.Ring

end
-- ==== Proof.Blocks.lean ====
/-
The blocks of `w`: each is copied into one of two slots of the staging buffer, read, and stored as bf16 rows.
-/
module

public import proofs.«01_k».proof.Proof.Local

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The blocks of `w` and the slots they are copied to. -/
abbrev inbW (o : Fin 2 → ℕ) : Prop := ∀ a, o a + S256x1024.size a ≤ S4096x1024.size a
abbrev inbSt (o : Fin 2 → ℕ) : Prop := ∀ a, o a + S256x1024.size a ≤ S512x4096.size a
abbrev wM (o : Fin 2 → ℕ) (i : inbW o) : Memref sig .tc .hbm S256x1024 .f32 :=
  (Memref.whole main_arg1 : Memref sig .tc .hbm S4096x1024 .f32).slice (Rect.unit (s := S4096x1024) o S256x1024.size i) (fun _ => rfl)
abbrev sM (o : Fin 2 → ℕ) (i : inbSt o) : Memref sig .tc .vmem S256x1024 .f32 :=
  (Memref.whole cc0_scratch3 : Memref sig .tc .vmem S512x4096 .f32).slice (Rect.unit (s := S512x4096) o S256x1024.size i) (fun _ => rfl)

theorem sM_set {o i} (b : Fin 2) (h : o = ![0, 1024 * b.val]) : (sM o i).view.set = slotW b :=
  (View.set_slice_whole _ _).trans (set_slotW i b h)
theorem sM_credit {o i} : (sM o i).view.dmaCredit = NW := rfl

/-- A block of `w` apart from the rest of the argument. -/
theorem wA_split (c : Dev nD) (q : PosShare TreeShare) (o : Fin 2 → ℕ) (i : inbW o) :
    wA (F := F) m c q ⊣⊢ iprop(((wM o i).view.loc (c : Thread nD τ) ↦[(wM o i).view.set]{q} (m ((c : Thread nD τ).loc main_arg1)))
      ∗ ((wM o i).view.loc (c : Thread nD τ) ↦[Finset.univ \ (wM o i).view.set]{q} (m ((c : Thread nD τ).loc main_arg1)))) :=
  pointsTo_split_subset (Finset.subset_univ _)

section WRules
variable {α : Type}
variable {Q : α → sProp (MT nD τ sig Unit (Elt F) ℕ UU ℕ)}

/-- What the copy of block `k` of `w` leaves. -/
theorem landW (c : Dev nD) (k : Fin 16) (b : Fin 2) (q : PosShare TreeShare) {o1 o2 : Fin 2 → ℕ} {i1} {i2}
    (h1 : o1 = ![256 * k.val, 0]) (h2 : o2 = ![0, 1024 * b.val]) (fd : S512x4096.Idx → Elt F .f32) :
    iprop((((sM o2 i2).view.loc (c : Thread nD τ) ↦[slotW b]{fullShare} ((sM o2 i2).view.write (Elt F) fd ((wM o1 i1).view.read (Elt F) (m ((c : Thread nD τ).loc main_arg1))) Finset.univ))
        ∗ ((wM o1 i1).view.loc (c : Thread nD τ) ↦[(wM o1 i1).view.set]{q} (m ((c : Thread nD τ).loc main_arg1))))
        ∗ ((wM o1 i1).view.loc (c : Thread nD τ) ↦[Finset.univ \ (wM o1 i1).view.set]{q} (m ((c : Thread nD τ).loc main_arg1)))) ⊢ TW m c k b q := by
  have e : (((c : Thread nD τ).loc cc0_scratch3 : Loc nD τ sig) ↦[slotW b]{fullShare} ((sM o2 i2).view.write (Elt F) fd ((wM o1 i1).view.read (Elt F) (m ((c : Thread nD τ).loc main_arg1))) Finset.univ) : sProp 𝕄)
      = stP c b (stageV m c k) := pointsTo_congr (write_blockW m c k b i1 i2 h1 h2 fd)
  unfold TW
  iintro ⟨⟨Hd, Hb⟩, Hr⟩
  isplitl [Hd]
  · iapply (Entails.of_eq e); iexact Hd
  · iapply (wA_split m c q o1 i1).2; isplitl [Hb] <;> iassumption

/-- Starting the copy of block `k` of `w` into slot `b`. -/
theorem wp_enqW (c : Dev nD) (k : Fin 16) (b : Fin 2) (q : PosShare TreeShare) {o1 o2 : Fin 2 → ℕ} {i1 : inbW o1} {i2 : inbSt o2}
    (h1 : o1 = ![256 * k.val, 0]) (h2 : o2 = ![0, 1024 * b.val])
    {hsrc : (wM o1 i1).view.WordExact} {hdst : (sM o2 i2).view.WordExact} {hsem : DmaTarget.Typed (nD := nD) (τ := τ) (p := .tc) .hbm (.dma (lq b)) (.here (sM o2 i2))}
    {K : PUnit → Prog (TpuEff nD τ sig (Elt F) Λ₀ .tc) α} :
    iprop(semVal (dcell c (lq b)) 0 ∗ (∃ f, stP c b f) ∗ wA m c q)
      ⊢ iprop((Fl c (lq b) NW (TW m c k b q) -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma (wM o1 i1) (.here (sM o2 i2)) (.dma (lq b)) hsrc hdst hsem) K) Q) := by
  iintro ⟨Hv, ⟨%fd, Hst⟩, Hw⟩ Hk
  ihave Hw2 := (wA_split m c q o1 i1).1 $$ Hw
  icases Hw2 with ⟨Hb, Hrest⟩
  iapply (wp_cp (src := wM o1 i1) (dst := sM o2 i2) (hsrc := hsrc) (hdst := hdst) (hsem := hsem) c (lq b) NW (TW m c k b q) _ (Sd := slotW b) (fd := fd) (k := K) sM_credit NW_pos
      (sM_set b h2).subset (landW m c k b q h1 h2 fd)) $$ [Hv Hst Hb Hrest]
  · isplitl [Hb]; · iexact Hb
    isplitl [Hst]; · unfold stP; iexact Hst
    isplitl [Hv]; · iexact Hv
    iexact Hrest
  iexact Hk

/-- The slot read. -/
theorem read_slot (c : Dev nD) (k : Fin 16) (b : Fin 2) {o : Fin 2 → ℕ} (i : inbSt o) (h : o = ![0, 1024 * b.val]) :
    (Memref.whole cc0_scratch3 : Memref sig .tc .vmem S512x4096 .f32).view.readAt (Elt F) (Rect.unit (s := S512x4096) o S256x1024.size i).toLoadRect (stageV m c k)
      = wBlk m c k := by
  subst h
  funext x
  have h0 : (x 0).val < 256 := (x 0).isLt
  have h1 : (x 1).val < 1024 := (x 1).isLt
  show wBlk m c k _ = wBlk m c k x
  congr 1
  funext a; apply Fin.ext
  match a with
  | 0 => show (0 + 1 * (x 0).val) % 256 = _; omega
  | 1 => show (1024 * b.val + 1 * (x 1).val) % 1024 = _; omega

/-- The bf16 rows after one more block. -/
theorem write_wb (c : Dev nD) (k : Fin 16) {o : Fin 2 → ℕ} (i : inbW o) (h : o = ![256 * k.val, 0]) (v : S4096x1024.Idx → Elt F .bf16)
    (hv : ∀ i, (i 0).val < 256 * k.val → v i = WB m c i) (j : S4096x1024.Idx) (hj : (j 0).val < 256 * (k.val + 1)) :
    ((Memref.whole cc0_scratch2 : Memref sig .tc .vmem S4096x1024 .bf16).access (Rect.unit (s := S4096x1024) o S256x1024.size i)).write (Elt F) v
      (k0_pay3 (wBlk m c k)) Finset.univ j = WB m c j := by
  subst h
  by_cases h0 : (j 0).val < 256 * k.val
  · rw [View.write_of_not_mem]
    · exact hv j h0
    · have e : ((Memref.whole cc0_scratch2 : Memref sig .tc .vmem S4096x1024 .bf16).access (Rect.unit (s := S4096x1024) ![256 * k.val, 0] S256x1024.size i)).setOn Finset.univ
          = rows (256 * k.val) 256 := (View.set_slice_whole _ _).trans (set_rows i (256 * k.val) 256 rfl rfl)
      rw [e, mem_rows]; omega
  · let x : S256x1024.Idx := Shape.pair (d := ![256, 1024]) ⟨(j 0).val - 256 * k.val, by show _ < 256; omega⟩ ⟨(j 1).val, (j 1).isLt⟩
    have hx : ((Memref.whole cc0_scratch2 : Memref sig .tc .vmem S4096x1024 .bf16).access (Rect.unit (s := S4096x1024) ![256 * k.val, 0] S256x1024.size i)).emb x = j := by
      funext a; apply Fin.ext
      match a with
      | 0 => show 256 * k.val + 1 * ((j 0).val - 256 * k.val) = (j 0).val; omega
      | 1 => show 0 + 1 * (j 1).val = (j 1).val; omega
    conv_lhs => rw [← hx]
    rw [View.write_emb_of_mem _ _ (Finset.mem_univ _)]
    have hk : blkOf j = k := Fin.ext (by show (j 0).val / 256 = k.val; omega)
    have hi : inBlk j = x := by
      funext a; apply Fin.ext
      match a with
      | 0 => show (j 0).val % 256 = (j 0).val - 256 * k.val; omega
      | 1 => rfl
    show k0_pay3 (wBlk m c k) x = k0_pay3 (wBlk m c (blkOf j)) (inBlk j)
    rw [hk, hi]

/-- The slot's elements are those its load reads. -/
theorem ld_slot (b : Fin 2) {o : Fin 2 → ℕ} (i : inbSt o) (h : o = ![0, 1024 * b.val]) :
    (Memref.whole cc0_scratch3 : Memref sig .tc .vmem S512x4096 .f32).view.setOn (Rect.unit (s := S512x4096) o S256x1024.size i).toLoadRect.set ⊆ slotW b := by
  have e := (View.set_slice_whole (κ := .tc) (sig := sig) cc0_scratch3 (Rect.unit (s := S512x4096) o S256x1024.size i)).trans (set_slotW i b h)
  rw [View.set_slice] at e
  exact e.subset

/-- Block `k` done: its copy waited for, read, and its bf16 rows stored. -/
theorem wp_finW (c : Dev nD) (k : Fin 16) (b : Fin 2) (q : PosShare TreeShare) (n : ℕ) {o1 o2 : Fin 2 → ℕ} {i1 : inbW o1} {i2 : inbSt o2}
    (h1 : o1 = ![256 * k.val, 0]) (h2 : o2 = ![0, 1024 * b.val]) {P : (S256x1024.Idx → Elt F .f32) → S256x1024.Idx → Elt F .bf16} (hP : P = k0_pay3)
    {hsrc : (wM o1 i1).view.WordExact} {hdst : (sM o2 i2).view.WordExact} {l1} {l2} {x} {hm}
    {K : PUnit → Prog (TpuEff nD τ sig (Elt F) Λ₀ .tc) α} :
    iprop(Ctx m ∗ Due c n ∗ Fl c (lq b) NW (TW m c k b q) ∗ wbP m c k.val)
      ⊢ iprop(((semVal (dcell c (lq b)) 0 ∗ (∃ f, stP c b f) ∗ wA m c q ∗ wbP m c (k.val + 1) ∗ Due c n)
            -∗ wp frame (wpE (defs₀ (F := F)) 𝒱₀ (c : Thread nD τ) none) Set.univ (K ⟨⟩) Q)
        -∗ wp frame (wpE (defs₀ (F := F)) 𝒱₀ (c : Thread nD τ) none) Set.univ
          (.op (.waitDma2 (lq b) (wM o1 i1) (sM o2 i2) hsrc hdst) fun _ =>
            .op (.load (Memref.whole cc0_scratch3) (Rect.unit (s := S512x4096) o2 S256x1024.size i2).toLoadRect l1) fun v =>
            .op (.load (Memref.whole cc0_scratch2) (Rect.unit (s := S4096x1024) o1 S256x1024.size i1).toLoadRect l2) fun _ =>
            .op (.store (Memref.whole cc0_scratch2) (Rect.unit (s := S4096x1024) o1 S256x1024.size i1) (P v) Finset.univ x hm) K) Q) := by
  subst hP
  iintro ⟨#HC, HO, HF, Hwb⟩ Hk
  iapply (wp_wl m (src := wM o1 i1) (dst := sM o2 i2) (hsrc := hsrc) (hdst := hdst) c (lq b) (by show 30 < 31 + b.val; omega) NW n (TW m c k b q) sM_credit) $$ [HO HF]
  · isplitr; · iexact HC
    isplitl [HO] <;> iassumption
  unfold TW stP wbP
  iintro ⟨⟨Hst, Hw⟩, Hv, HO⟩
  icases Hwb with ⟨%v, %hv, Hwb⟩
  iapply (wp_ld c (Memref.whole cc0_scratch3) (wBlk m c k)
    (r := (Rect.unit (s := S512x4096) o2 S256x1024.size i2)) (ld_slot b i2 h2) (read_slot m c k b i2 h2)) $$ Hst
  iintro Hst
  iapply (wp_ld0 c (Memref.whole cc0_scratch2) (Rect.unit (s := S4096x1024) o1 S256x1024.size i1)) $$ Hwb
  iintro Hwb
  iapply (wp_st c (Memref.whole cc0_scratch2) (Rect.unit (s := S4096x1024) o1 S256x1024.size i1)) $$ Hwb
  iintro Hwb
  iapply Hk
  isplitl [Hv]; · iexact Hv
  isplitl [Hst]; · iexists _; iexact Hst
  isplitl [Hw]; · iexact Hw
  isplitr [HO]
  · iexists _
    isplitr
    rotate_left
    · iexact Hwb
    · ipureintro
      exact write_wb m c k i1 h1 v hv
  iexact HO
end WRules

end Cert.Ring

end
-- ==== Proof.PartsW.lean ====
/-
The seven parts of the body that turn `w` into bf16 rows, two blocks each.
-/
module

public import proofs.«01_k».proof.Proof.Blocks

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! The semaphores the printed slices name. -/
theorem sem1 : ((cc0_scratch5.slice (Rect.unit (s := S4) ![0] ![1] inb_S4_S1_0)).squeeze S_ squeezes_S1_S_).sem = (⟨1, by decide⟩ : DmaSem sig) := rfl
theorem sem2 : ((cc0_scratch5.slice (Rect.unit (s := S4) ![1] ![1] inb_S4_S1_1)).squeeze S_ squeezes_S1_S_).sem = (⟨2, by decide⟩ : DmaSem sig) := rfl
theorem sem3 : ((cc0_scratch5.slice (Rect.unit (s := S4) ![2] ![1] inb_S4_S1_2)).squeeze S_ squeezes_S1_S_).sem = (⟨3, by decide⟩ : DmaSem sig) := rfl
theorem sem4 : ((cc0_scratch5.slice (Rect.unit (s := S4) ![3] ![1] inb_S4_S1_3)).squeeze S_ squeezes_S1_S_).sem = (⟨4, by decide⟩ : DmaSem sig) := rfl
theorem sem5 : ((cc0_scratch6.slice (Rect.unit (s := S4) ![0] ![1] inb_S4_S1_0)).squeeze S_ squeezes_S1_S_).sem = (⟨5, by decide⟩ : DmaSem sig) := rfl
theorem sem6 : ((cc0_scratch6.slice (Rect.unit (s := S4) ![1] ![1] inb_S4_S1_1)).squeeze S_ squeezes_S1_S_).sem = (⟨6, by decide⟩ : DmaSem sig) := rfl
theorem sem7 : ((cc0_scratch6.slice (Rect.unit (s := S4) ![2] ![1] inb_S4_S1_2)).squeeze S_ squeezes_S1_S_).sem = (⟨7, by decide⟩ : DmaSem sig) := rfl
theorem sem8 : ((cc0_scratch6.slice (Rect.unit (s := S4) ![3] ![1] inb_S4_S1_3)).squeeze S_ squeezes_S1_S_).sem = (⟨8, by decide⟩ : DmaSem sig) := rfl
theorem sem9 : ((cc0_scratch7.slice (Rect.unit (s := S4) ![0] ![1] inb_S4_S1_0)).squeeze S_ squeezes_S1_S_).sem = (⟨9, by decide⟩ : DmaSem sig) := rfl
theorem sem10 : ((cc0_scratch7.slice (Rect.unit (s := S4) ![1] ![1] inb_S4_S1_1)).squeeze S_ squeezes_S1_S_).sem = (⟨10, by decide⟩ : DmaSem sig) := rfl
theorem sem11 : ((cc0_scratch7.slice (Rect.unit (s := S4) ![2] ![1] inb_S4_S1_2)).squeeze S_ squeezes_S1_S_).sem = (⟨11, by decide⟩ : DmaSem sig) := rfl
theorem sem12 : ((cc0_scratch7.slice (Rect.unit (s := S4) ![3] ![1] inb_S4_S1_3)).squeeze S_ squeezes_S1_S_).sem = (⟨12, by decide⟩ : DmaSem sig) := rfl
theorem sem13 : ((cc0_scratch8.slice (Rect.unit (s := S4) ![0] ![1] inb_S4_S1_0)).squeeze S_ squeezes_S1_S_).sem = (⟨13, by decide⟩ : DmaSem sig) := rfl
theorem sem14 : ((cc0_scratch8.slice (Rect.unit (s := S4) ![1] ![1] inb_S4_S1_1)).squeeze S_ squeezes_S1_S_).sem = (⟨14, by decide⟩ : DmaSem sig) := rfl
theorem sem15 : ((cc0_scratch8.slice (Rect.unit (s := S4) ![2] ![1] inb_S4_S1_2)).squeeze S_ squeezes_S1_S_).sem = (⟨15, by decide⟩ : DmaSem sig) := rfl
theorem sem16 : ((cc0_scratch8.slice (Rect.unit (s := S4) ![3] ![1] inb_S4_S1_3)).squeeze S_ squeezes_S1_S_).sem = (⟨16, by decide⟩ : DmaSem sig) := rfl
theorem sem17 : ((cc0_scratch9.slice (Rect.unit (s := S7) ![0] ![1] inb_S7_S1_0)).squeeze S_ squeezes_S1_S_).sem = (⟨17, by decide⟩ : DmaSem sig) := rfl
theorem sem18 : ((cc0_scratch9.slice (Rect.unit (s := S7) ![1] ![1] inb_S7_S1_1)).squeeze S_ squeezes_S1_S_).sem = (⟨18, by decide⟩ : DmaSem sig) := rfl
theorem sem19 : ((cc0_scratch9.slice (Rect.unit (s := S7) ![2] ![1] inb_S7_S1_2)).squeeze S_ squeezes_S1_S_).sem = (⟨19, by decide⟩ : DmaSem sig) := rfl
theorem sem20 : ((cc0_scratch9.slice (Rect.unit (s := S7) ![3] ![1] inb_S7_S1_3)).squeeze S_ squeezes_S1_S_).sem = (⟨20, by decide⟩ : DmaSem sig) := rfl
theorem sem21 : ((cc0_scratch9.slice (Rect.unit (s := S7) ![4] ![1] inb_S7_S1_4)).squeeze S_ squeezes_S1_S_).sem = (⟨21, by decide⟩ : DmaSem sig) := rfl
theorem sem22 : ((cc0_scratch9.slice (Rect.unit (s := S7) ![5] ![1] inb_S7_S1_5)).squeeze S_ squeezes_S1_S_).sem = (⟨22, by decide⟩ : DmaSem sig) := rfl
theorem sem23 : ((cc0_scratch9.slice (Rect.unit (s := S7) ![6] ![1] inb_S7_S1_6)).squeeze S_ squeezes_S1_S_).sem = (⟨23, by decide⟩ : DmaSem sig) := rfl
theorem sem24 : ((cc0_scratch10.slice (Rect.unit (s := S7) ![0] ![1] inb_S7_S1_0)).squeeze S_ squeezes_S1_S_).sem = (⟨24, by decide⟩ : DmaSem sig) := rfl
theorem sem25 : ((cc0_scratch10.slice (Rect.unit (s := S7) ![1] ![1] inb_S7_S1_1)).squeeze S_ squeezes_S1_S_).sem = (⟨25, by decide⟩ : DmaSem sig) := rfl
theorem sem26 : ((cc0_scratch10.slice (Rect.unit (s := S7) ![2] ![1] inb_S7_S1_2)).squeeze S_ squeezes_S1_S_).sem = (⟨26, by decide⟩ : DmaSem sig) := rfl
theorem sem27 : ((cc0_scratch10.slice (Rect.unit (s := S7) ![3] ![1] inb_S7_S1_3)).squeeze S_ squeezes_S1_S_).sem = (⟨27, by decide⟩ : DmaSem sig) := rfl
theorem sem28 : ((cc0_scratch10.slice (Rect.unit (s := S7) ![4] ![1] inb_S7_S1_4)).squeeze S_ squeezes_S1_S_).sem = (⟨28, by decide⟩ : DmaSem sig) := rfl
theorem sem29 : ((cc0_scratch10.slice (Rect.unit (s := S7) ![5] ![1] inb_S7_S1_5)).squeeze S_ squeezes_S1_S_).sem = (⟨29, by decide⟩ : DmaSem sig) := rfl
theorem sem30 : ((cc0_scratch10.slice (Rect.unit (s := S7) ![6] ![1] inb_S7_S1_6)).squeeze S_ squeezes_S1_S_).sem = (⟨30, by decide⟩ : DmaSem sig) := rfl
theorem sem31 : ((cc0_scratch11.slice (Rect.unit (s := S2) ![0] ![1] inb_S2_S1_0)).squeeze S_ squeezes_S1_S_).sem = (⟨31, by decide⟩ : DmaSem sig) := rfl
theorem sem32 : ((cc0_scratch11.slice (Rect.unit (s := S2) ![1] ![1] inb_S2_S1_1)).squeeze S_ squeezes_S1_S_).sem = (⟨32, by decide⟩ : DmaSem sig) := rfl

/-- Between two blocks: an odd block on its way to slot 1, slot 0 free, `k` blocks of bf16 rows made. -/
def WS (c : Dev nD) (k : Fin 16) : sProp 𝕄 :=
  iprop(Fl c (lq 1) NW (TW m c k 1 fullShare.right) ∗ semVal (dcell c (lq 0)) 0 ∗ (∃ f, stP c 0 f) ∗ wA m c fullShare.left ∗ wbP m c k.val)

theorem part3 (c : Dev nD) : iprop(Ctx m ∗ Due c 13 ∗ WS m c 1)
    ⊢ wp frame (wpE (defs₀ (F := F)) 𝒱₀ (c : Thread nD τ) none) Set.univ (k0_part3 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
      (fun _ => iprop(Due c 13 ∗ WS m c 3)) := by
  iintro ⟨#HC, HO, HW⟩
  unfold WS
  icases HW with ⟨HF1, Hv0, Hs0, Hw0, Hwb⟩
  simp only [k0_part3_eq_skeleton]; unfold k0_part3_skel
  simp only [semSignalWord, semWaitWord, Prog.lift, Prog.bind_op, Prog.bind_ret, Prog.pure_eq_ret, Prog.bind_assoc]
  simp only [sem1, sem2, sem3, sem4, sem5, sem6, sem7, sem8, sem9, sem10, sem11, sem12, sem13, sem14, sem15, sem16, sem17, sem18, sem19, sem20, sem21, sem22, sem23, sem24, sem25, sem26, sem27, sem28, sem29, sem30, sem31, sem32]
  iapply (wp_enqW m c 2 0 fullShare.left rfl rfl) $$ [Hv0 Hs0 Hw0]
  · isplitl [Hv0]; · iexact Hv0
    isplitl [Hs0] <;> iassumption
  iintro HF0
  iapply (wp_finW m c 1 1 fullShare.right 13 rfl rfl (P := k0_pay4) rfl) $$ [HO HF1 Hwb]
  · isplitr; · iexact HC
    isplitl [HO]; · iexact HO
    isplitl [HF1]; · iexact HF1
    iexact Hwb
  iintro ⟨Hv1, Hs1, Hw1, Hwb, HO⟩
  iapply (wp_enqW m c 3 1 fullShare.right rfl rfl) $$ [Hv1 Hs1 Hw1]
  · isplitl [Hv1]; · iexact Hv1
    isplitl [Hs1] <;> iassumption
  iintro HF1
  iapply (wp_finW m c 2 0 fullShare.left 13 rfl rfl (P := k0_pay5) rfl) $$ [HO HF0 Hwb]
  · isplitr; · iexact HC
    isplitl [HO]; · iexact HO
    isplitl [HF0]; · iexact HF0
    iexact Hwb
  iintro ⟨Hv0, Hs0, Hw0, Hwb, HO⟩
  iapply (le_wp_ret frame (wpE (defs₀ (F := F)) 𝒱₀ (c : Thread nD τ) none) Set.univ)
  isplitl [HO]; · iexact HO
  isplitl [HF1]; · iexact HF1
  isplitl [Hv0]; · iexact Hv0
  isplitl [Hs0]; · iexact Hs0
  isplitl [Hw0]; · iexact Hw0
  iexact Hwb

theorem part4 (c : Dev nD) : iprop(Ctx m ∗ Due c 13 ∗ WS m c 3)
    ⊢ wp frame (wpE (defs₀ (F := F)) 𝒱₀ (c : Thread nD τ) none) Set.univ (k0_part4 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
      (fun _ => iprop(Due c 13 ∗ WS m c 5)) := by
  iintro ⟨#HC, HO, HW⟩
  unfold WS
  icases HW with ⟨HF1, Hv0, Hs0, Hw0, Hwb⟩
  simp only [k0_part4_eq_skeleton]; unfold k0_part4_skel
  simp only [semSignalWord, semWaitWord, Prog.lift, Prog.bind_op, Prog.bind_ret, Prog.pure_eq_ret, Prog.bind_assoc]
  simp only [sem1, sem2, sem3, sem4, sem5, sem6, sem7, sem8, sem9, sem10, sem11, sem12, sem13, sem14, sem15, sem16, sem17, sem18, sem19, sem20, sem21, sem22, sem23, sem24, sem25, sem26, sem27, sem28, sem29, sem30, sem31, sem32]
  iapply (wp_enqW m c 4 0 fullShare.left rfl rfl) $$ [Hv0 Hs0 Hw0]
  · isplitl [Hv0]; · iexact Hv0
    isplitl [Hs0] <;> iassumption
  iintro HF0
  iapply (wp_finW m c 3 1 fullShare.right 13 rfl rfl (P := k0_pay6) rfl) $$ [HO HF1 Hwb]
  · isplitr; · iexact HC
    isplitl [HO]; · iexact HO
    isplitl [HF1]; · iexact HF1
    iexact Hwb
  iintro ⟨Hv1, Hs1, Hw1, Hwb, HO⟩
  iapply (wp_enqW m c 5 1 fullShare.right rfl rfl) $$ [Hv1 Hs1 Hw1]
  · isplitl [Hv1]; · iexact Hv1
    isplitl [Hs1] <;> iassumption
  iintro HF1
  iapply (wp_finW m c 4 0 fullShare.left 13 rfl rfl (P := k0_pay7) rfl) $$ [HO HF0 Hwb]
  · isplitr; · iexact HC
    isplitl [HO]; · iexact HO
    isplitl [HF0]; · iexact HF0
    iexact Hwb
  iintro ⟨Hv0, Hs0, Hw0, Hwb, HO⟩
  iapply (le_wp_ret frame (wpE (defs₀ (F := F)) 𝒱₀ (c : Thread nD τ) none) Set.univ)
  isplitl [HO]; · iexact HO
  isplitl [HF1]; · iexact HF1
  isplitl [Hv0]; · iexact Hv0
  isplitl [Hs0]; · iexact Hs0
  isplitl [Hw0]; · iexact Hw0
  iexact Hwb

theorem part5 (c : Dev nD) : iprop(Ctx m ∗ Due c 13 ∗ WS m c 5)
    ⊢ wp frame (wpE (defs₀ (F := F)) 𝒱₀ (c : Thread nD τ) none) Set.univ (k0_part5 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
      (fun _ => iprop(Due c 13 ∗ WS m c 7)) := by
  iintro ⟨#HC, HO, HW⟩
  unfold WS
  icases HW with ⟨HF1, Hv0, Hs0, Hw0, Hwb⟩
  simp only [k0_part5_eq_skeleton]; unfold k0_part5_skel
  simp only [semSignalWord, semWaitWord, Prog.lift, Prog.bind_op, Prog.bind_ret, Prog.pure_eq_ret, Prog.bind_assoc]
  simp only [sem1, sem2, sem3, sem4, sem5, sem6, sem7, sem8, sem9, sem10, sem11, sem12, sem13, sem14, sem15, sem16, sem17, sem18, sem19, sem20, sem21, sem22, sem23, sem24, sem25, sem26, sem27, sem28, sem29, sem30, sem31, sem32]
  iapply (wp_enqW m c 6 0 fullShare.left rfl rfl) $$ [Hv0 Hs0 Hw0]
  · isplitl [Hv0]; · iexact Hv0
    isplitl [Hs0] <;> iassumption
  iintro HF0
  iapply (wp_finW m c 5 1 fullShare.right 13 rfl rfl (P := k0_pay8) rfl) $$ [HO HF1 Hwb]
  · isplitr; · iexact HC
    isplitl [HO]; · iexact HO
    isplitl [HF1]; · iexact HF1
    iexact Hwb
  iintro ⟨Hv1, Hs1, Hw1, Hwb, HO⟩
  iapply (wp_enqW m c 7 1 fullShare.right rfl rfl) $$ [Hv1 Hs1 Hw1]
  · isplitl [Hv1]; · iexact Hv1
    isplitl [Hs1] <;> iassumption
  iintro HF1
  iapply (wp_finW m c 6 0 fullShare.left 13 rfl rfl (P := k0_pay9) rfl) $$ [HO HF0 Hwb]
  · isplitr; · iexact HC
    isplitl [HO]; · iexact HO
    isplitl [HF0]; · iexact HF0
    iexact Hwb
  iintro ⟨Hv0, Hs0, Hw0, Hwb, HO⟩
  iapply (le_wp_ret frame (wpE (defs₀ (F := F)) 𝒱₀ (c : Thread nD τ) none) Set.univ)
  isplitl [HO]; · iexact HO
  isplitl [HF1]; · iexact HF1
  isplitl [Hv0]; · iexact Hv0
  isplitl [Hs0]; · iexact Hs0
  isplitl [Hw0]; · iexact Hw0
  iexact Hwb

theorem part6 (c : Dev nD) : iprop(Ctx m ∗ Due c 13 ∗ WS m c 7)
    ⊢ wp frame (wpE (defs₀ (F := F)) 𝒱₀ (c : Thread nD τ) none) Set.univ (k0_part6 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
      (fun _ => iprop(Due c 13 ∗ WS m c 9)) := by
  iintro ⟨#HC, HO, HW⟩
  unfold WS
  icases HW with ⟨HF1, Hv0, Hs0, Hw0, Hwb⟩
  simp only [k0_part6_eq_skeleton]; unfold k0_part6_skel
  simp only [semSignalWord, semWaitWord, Prog.lift, Prog.bind_op, Prog.bind_ret, Prog.pure_eq_ret, Prog.bind_assoc]
  simp only [sem1, sem2, sem3, sem4, sem5, sem6, sem7, sem8, sem9, sem10, sem11, sem12, sem13, sem14, sem15, sem16, sem17, sem18, sem19, sem20, sem21, sem22, sem23, sem24, sem25, sem26, sem27, sem28, sem29, sem30, sem31, sem32]
  iapply (wp_enqW m c 8 0 fullShare.left rfl rfl) $$ [Hv0 Hs0 Hw0]
  · isplitl [Hv0]; · iexact Hv0
    isplitl [Hs0] <;> iassumption
  iintro HF0
  iapply (wp_finW m c 7 1 fullShare.right 13 rfl rfl (P := k0_pay10) rfl) $$ [HO HF1 Hwb]
  · isplitr; · iexact HC
    isplitl [HO]; · iexact HO
    isplitl [HF1]; · iexact HF1
    iexact Hwb
  iintro ⟨Hv1, Hs1, Hw1, Hwb, HO⟩
  iapply (wp_enqW m c 9 1 fullShare.right rfl rfl) $$ [Hv1 Hs1 Hw1]
  · isplitl [Hv1]; · iexact Hv1
    isplitl [Hs1] <;> iassumption
  iintro HF1
  iapply (wp_finW m c 8 0 fullShare.left 13 rfl rfl (P := k0_pay11) rfl) $$ [HO HF0 Hwb]
  · isplitr; · iexact HC
    isplitl [HO]; · iexact HO
    isplitl [HF0]; · iexact HF0
    iexact Hwb
  iintro ⟨Hv0, Hs0, Hw0, Hwb, HO⟩
  iapply (le_wp_ret frame (wpE (defs₀ (F := F)) 𝒱₀ (c : Thread nD τ) none) Set.univ)
  isplitl [HO]; · iexact HO
  isplitl [HF1]; · iexact HF1
  isplitl [Hv0]; · iexact Hv0
  isplitl [Hs0]; · iexact Hs0
  isplitl [Hw0]; · iexact Hw0
  iexact Hwb

theorem part7 (c : Dev nD) : iprop(Ctx m ∗ Due c 13 ∗ WS m c 9)
    ⊢ wp frame (wpE (defs₀ (F := F)) 𝒱₀ (c : Thread nD τ) none) Set.univ (k0_part7 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
      (fun _ => iprop(Due c 13 ∗ WS m c 11)) := by
  iintro ⟨#HC, HO, HW⟩
  unfold WS
  icases HW with ⟨HF1, Hv0, Hs0, Hw0, Hwb⟩
  simp only [k0_part7_eq_skeleton]; unfold k0_part7_skel
  simp only [semSignalWord, semWaitWord, Prog.lift, Prog.bind_op, Prog.bind_ret, Prog.pure_eq_ret, Prog.bind_assoc]
  simp only [sem1, sem2, sem3, sem4, sem5, sem6, sem7, sem8, sem9, sem10, sem11, sem12, sem13, sem14, sem15, sem16, sem17, sem18, sem19, sem20, sem21, sem22, sem23, sem24, sem25, sem26, sem27, sem28, sem29, sem30, sem31, sem32]
  iapply (wp_enqW m c 10 0 fullShare.left rfl rfl) $$ [Hv0 Hs0 Hw0]
  · isplitl [Hv0]; · iexact Hv0
    isplitl [Hs0] <;> iassumption
  iintro HF0
  iapply (wp_finW m c 9 1 fullShare.right 13 rfl rfl (P := k0_pay12) rfl) $$ [HO HF1 Hwb]
  · isplitr; · iexact HC
    isplitl [HO]; · iexact HO
    isplitl [HF1]; · iexact HF1
    iexact Hwb
  iintro ⟨Hv1, Hs1, Hw1, Hwb, HO⟩
  iapply (wp_enqW m c 11 1 fullShare.right rfl rfl) $$ [Hv1 Hs1 Hw1]
  · isplitl [Hv1]; · iexact Hv1
    isplitl [Hs1] <;> iassumption
  iintro HF1
  iapply (wp_finW m c 10 0 fullShare.left 13 rfl rfl (P := k0_pay13) rfl) $$ [HO HF0 Hwb]
  · isplitr; · iexact HC
    isplitl [HO]; · iexact HO
    isplitl [HF0]; · iexact HF0
    iexact Hwb
  iintro ⟨Hv0, Hs0, Hw0, Hwb, HO⟩
  iapply (le_wp_ret frame (wpE (defs₀ (F := F)) 𝒱₀ (c : Thread nD τ) none) Set.univ)
  isplitl [HO]; · iexact HO
  isplitl [HF1]; · iexact HF1
  isplitl [Hv0]; · iexact Hv0
  isplitl [Hs0]; · iexact Hs0
  isplitl [Hw0]; · iexact Hw0
  iexact Hwb

theorem part8 (c : Dev nD) : iprop(Ctx m ∗ Due c 13 ∗ WS m c 11)
    ⊢ wp frame (wpE (defs₀ (F := F)) 𝒱₀ (c : Thread nD τ) none) Set.univ (k0_part8 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
      (fun _ => iprop(Due c 13 ∗ WS m c 13)) := by
  iintro ⟨#HC, HO, HW⟩
  unfold WS
  icases HW with ⟨HF1, Hv0, Hs0, Hw0, Hwb⟩
  simp only [k0_part8_eq_skeleton]; unfold k0_part8_skel
  simp only [semSignalWord, semWaitWord, Prog.lift, Prog.bind_op, Prog.bind_ret, Prog.pure_eq_ret, Prog.bind_assoc]
  simp only [sem1, sem2, sem3, sem4, sem5, sem6, sem7, sem8, sem9, sem10, sem11, sem12, sem13, sem14, sem15, sem16, sem17, sem18, sem19, sem20, sem21, sem22, sem23, sem24, sem25, sem26, sem27, sem28, sem29, sem30, sem31, sem32]
  iapply (wp_enqW m c 12 0 fullShare.left rfl rfl) $$ [Hv0 Hs0 Hw0]
  · isplitl [Hv0]; · iexact Hv0
    isplitl [Hs0] <;> iassumption
  iintro HF0
  iapply (wp_finW m c 11 1 fullShare.right 13 rfl rfl (P := k0_pay14) rfl) $$ [HO HF1 Hwb]
  · isplitr; · iexact HC
    isplitl [HO]; · iexact HO
    isplitl [HF1]; · iexact HF1
    iexact Hwb
  iintro ⟨Hv1, Hs1, Hw1, Hwb, HO⟩
  iapply (wp_enqW m c 13 1 fullShare.right rfl rfl) $$ [Hv1 Hs1 Hw1]
  · isplitl [Hv1]; · iexact Hv1
    isplitl [Hs1] <;> iassumption
  iintro HF1
  iapply (wp_finW m c 12 0 fullShare.left 13 rfl rfl (P := k0_pay15) rfl) $$ [HO HF0 Hwb]
  · isplitr; · iexact HC
    isplitl [HO]; · iexact HO
    isplitl [HF0]; · iexact HF0
    iexact Hwb
  iintro ⟨Hv0, Hs0, Hw0, Hwb, HO⟩
  iapply (le_wp_ret frame (wpE (defs₀ (F := F)) 𝒱₀ (c : Thread nD τ) none) Set.univ)
  isplitl [HO]; · iexact HO
  isplitl [HF1]; · iexact HF1
  isplitl [Hv0]; · iexact Hv0
  isplitl [Hs0]; · iexact Hs0
  isplitl [Hw0]; · iexact Hw0
  iexact Hwb

theorem part9 (c : Dev nD) : iprop(Ctx m ∗ Due c 13 ∗ WS m c 13)
    ⊢ wp frame (wpE (defs₀ (F := F)) 𝒱₀ (c : Thread nD τ) none) Set.univ (k0_part9 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
      (fun _ => iprop(Due c 13 ∗ WS m c 15)) := by
  iintro ⟨#HC, HO, HW⟩
  unfold WS
  icases HW with ⟨HF1, Hv0, Hs0, Hw0, Hwb⟩
  simp only [k0_part9_eq_skeleton]; unfold k0_part9_skel
  simp only [semSignalWord, semWaitWord, Prog.lift, Prog.bind_op, Prog.bind_ret, Prog.pure_eq_ret, Prog.bind_assoc]
  simp only [sem1, sem2, sem3, sem4, sem5, sem6, sem7, sem8, sem9, sem10, sem11, sem12, sem13, sem14, sem15, sem16, sem17, sem18, sem19, sem20, sem21, sem22, sem23, sem24, sem25, sem26, sem27, sem28, sem29, sem30, sem31, sem32]
  iapply (wp_enqW m c 14 0 fullShare.left rfl rfl) $$ [Hv0 Hs0 Hw0]
  · isplitl [Hv0]; · iexact Hv0
    isplitl [Hs0] <;> iassumption
  iintro HF0
  iapply (wp_finW m c 13 1 fullShare.right 13 rfl rfl (P := k0_pay16) rfl) $$ [HO HF1 Hwb]
  · isplitr; · iexact HC
    isplitl [HO]; · iexact HO
    isplitl [HF1]; · iexact HF1
    iexact Hwb
  iintro ⟨Hv1, Hs1, Hw1, Hwb, HO⟩
  iapply (wp_enqW m c 15 1 fullShare.right rfl rfl) $$ [Hv1 Hs1 Hw1]
  · isplitl [Hv1]; · iexact Hv1
    isplitl [Hs1] <;> iassumption
  iintro HF1
  iapply (wp_finW m c 14 0 fullShare.left 13 rfl rfl (P := k0_pay17) rfl) $$ [HO HF0 Hwb]
  · isplitr; · iexact HC
    isplitl [HO]; · iexact HO
    isplitl [HF0]; · iexact HF0
    iexact Hwb
  iintro ⟨Hv0, Hs0, Hw0, Hwb, HO⟩
  iapply (le_wp_ret frame (wpE (defs₀ (F := F)) 𝒱₀ (c : Thread nD τ) none) Set.univ)
  isplitl [HO]; · iexact HO
  isplitl [HF1]; · iexact HF1
  isplitl [Hv0]; · iexact Hv0
  isplitl [Hs0]; · iexact Hs0
  isplitl [Hw0]; · iexact Hw0
  iexact Hwb

end Cert.Ring

end
-- ==== Proof.Moves.lean ====
/-
The kernel's transfers between devices, each with what it takes and what it hands over.
-/
module

public import proofs.«01_k».proof.Proof.Local

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem dv9 (c : Dev nD) : dv c 9 = dv c 1 := dv_mod c 1
theorem dv10 (c : Dev nD) : dv c 10 = dv c 2 := dv_mod c 2
theorem dv11 (c : Dev nD) : dv c 11 = dv c 3 := dv_mod c 3
theorem dv12 (c : Dev nD) : dv c 12 = dv c 4 := dv_mod c 4
theorem dv13 (c : Dev nD) : dv c 13 = dv c 5 := dv_mod c 5
theorem dv14 (c : Dev nD) : dv c 14 = dv c 6 := dv_mod c 6

/-- 512 rows of the gathered array. -/
abbrev inbG512 (o : Fin 2 → ℕ) : Prop := ∀ a, o a + S512x4096.size a ≤ S4096x4096.size a
abbrev gM512 (o : Fin 2 → ℕ) (i : inbG512 o) : Memref sig .tc .hbm S512x4096 .bf16 :=
  (Memref.whole main_v1_1 : Memref sig .tc .hbm S4096x4096 .bf16).slice (Rect.unit (s := S4096x4096) o S512x4096.size i) (fun _ => rfl)
theorem gM512_set {o i} (a : ℕ) (h : o = ![a, 0]) : (gM512 o i).view.set = rows a 512 :=
  (View.set_slice_whole _ _).trans (set_rows i a 512 h rfl)
theorem gM512_credit {o i} : (gM512 o i).view.dmaCredit = N512 := rfl

/-- A piece of the gathered array, as the view names it. -/
theorem gp512_eq (c : Dev nD) (sh : PosShare TreeShare) (a : ℕ) {o i} (h : o = ![a, 0]) (f : S4096x4096.Idx → Elt F .bf16) :
    gp c sh a 512 f = ((gM512 o i).view.loc (c : Thread nD τ) ↦[(gM512 o i).view.set]{sh} f : sProp 𝕄) := by
  rw [gM512_set a h]; rfl

/-- The rows a copy of the same rows of another device leaves. -/
theorem land512 (e : Dev nD) (a : ℕ) {o i} (h : o = ![a, 0]) (fd : S4096x4096.Idx → Elt F .bf16) :
    ((gM512 o i).view.loc (e : Thread nD τ) ↦[(gM512 o i).view.set]{fullShare} ((gM512 o i).view.write (Elt F) fd ((gM512 o i).view.read (Elt F) (GF m)) Finset.univ) : sProp 𝕄)
      ⊢ gp e fullShare a 512 (GF m) := by
  rw [gp512_eq e fullShare a (i := i) h, View.write_read_eq_piecewise]
  refine Entails.of_eq (pointsTo_congr (fun j hj => ?_))
  exact Finset.piecewise_eq_of_mem _ _ _ hj

/-- 256 rows of the gathered array. -/
abbrev inbG256 (o : Fin 2 → ℕ) : Prop := ∀ a, o a + S256x4096.size a ≤ S4096x4096.size a
abbrev gM256 (o : Fin 2 → ℕ) (i : inbG256 o) : Memref sig .tc .hbm S256x4096 .bf16 :=
  (Memref.whole main_v1_1 : Memref sig .tc .hbm S4096x4096 .bf16).slice (Rect.unit (s := S4096x4096) o S256x4096.size i) (fun _ => rfl)
theorem gM256_set {o i} (a : ℕ) (h : o = ![a, 0]) : (gM256 o i).view.set = rows a 256 :=
  (View.set_slice_whole _ _).trans (set_rows i a 256 h rfl)
theorem gM256_credit {o i} : (gM256 o i).view.dmaCredit = N256 := rfl

/-- A piece of the gathered array, as the view names it. -/
theorem gp256_eq (c : Dev nD) (sh : PosShare TreeShare) (a : ℕ) {o i} (h : o = ![a, 0]) (f : S4096x4096.Idx → Elt F .bf16) :
    gp c sh a 256 f = ((gM256 o i).view.loc (c : Thread nD τ) ↦[(gM256 o i).view.set]{sh} f : sProp 𝕄) := by
  rw [gM256_set a h]; rfl

/-- The rows a copy of the same rows of another device leaves. -/
theorem land256 (e : Dev nD) (a : ℕ) {o i} (h : o = ![a, 0]) (fd : S4096x4096.Idx → Elt F .bf16) :
    ((gM256 o i).view.loc (e : Thread nD τ) ↦[(gM256 o i).view.set]{fullShare} ((gM256 o i).view.write (Elt F) fd ((gM256 o i).view.read (Elt F) (GF m)) Finset.univ) : sProp 𝕄)
      ⊢ gp e fullShare a 256 (GF m) := by
  rw [gp256_eq e fullShare a (i := i) h, View.write_read_eq_piecewise]
  refine Entails.of_eq (pointsTo_congr (fun j hj => ?_))
  exact Finset.piecewise_eq_of_mem _ _ _ hj

/-- The rows the device's own block leaves on a neighbour. -/
theorem landOwn (c e : Dev nD) {o i} (h : o = ![512 * c.val, 0]) (fd : S4096x4096.Idx → Elt F .bf16) :
    ((gM512 o i).view.loc (e : Thread nD τ) ↦[(gM512 o i).view.set]{fullShare} ((gM512 o i).view.write (Elt F) fd
        ((Memref.whole cc0_scratch0 : Memref sig .tc .vmem S512x4096 .bf16).view.read (Elt F) (ownV m c)) Finset.univ) : sProp 𝕄)
      ⊢ gp e fullShare (512 * c.val) 512 (GF m) := by
  rw [gp512_eq e fullShare (512 * c.val) (i := i) h]
  refine Entails.of_eq (pointsTo_congr (fun j hj => ?_))
  rw [gM512_set (512 * c.val) h, mem_rows] at hj
  subst h
  let x : S512x4096.Idx := Shape.pair (d := ![512, 4096]) ⟨(j 0).val - 512 * c.val, by show _ < 512; omega⟩ ⟨(j 1).val, (j 1).isLt⟩
  have hx : (gM512 ![512 * c.val, 0] i).view.emb x = j := by
    funext a; apply Fin.ext
    match a with
    | 0 => show 512 * c.val + 1 * ((j 0).val - 512 * c.val) = (j 0).val; omega
    | 1 => show 0 + 1 * (j 1).val = (j 1).val; omega
  conv_lhs => rw [← hx]
  rw [View.write_emb_of_mem _ _ (Finset.mem_univ _)]
  show ownV m c x = ownV m _ _
  congr 1
  · exact Fin.ext (by show c.val = (j 0).val / 512; omega)
  · funext a; apply Fin.ext
    match a with
    | 0 => show (j 0).val - 512 * c.val = (j 0).val % 512; omega
    | 1 => rfl

/-- A row of the buffer of maxima. -/
abbrev inbA (o : Fin 2 → ℕ) : Prop := ∀ a, o a + S1x128.size a ≤ S8x128.size a
abbrev aM (o : Fin 2 → ℕ) (i : inbA o) : Memref sig .tc .vmem S1x128 .f32 :=
  (Memref.whole cc0_scratch4 : Memref sig .tc .vmem S8x128 .f32).slice (Rect.unit (s := S8x128) o S1x128.size i) (fun _ => rfl)
theorem aM_set {o i} (a : ℕ) (h : o = ![a, 0]) : (aM o i).view.set = rows a 1 :=
  (View.set_slice_whole _ _).trans (set_rows i a 1 h rfl)
theorem aM_credit {o i} : (aM o i).view.dmaCredit = Nam := rfl
theorem ap_eq (c : Dev nD) (sh : PosShare TreeShare) (a : ℕ) {o i} (h : o = ![a, 0]) (f : S8x128.Idx → Elt F .f32) :
    ap c sh a f = ((aM o i).view.loc (c : Thread nD τ) ↦[(aM o i).view.set]{sh} f : sProp 𝕄) := by
  rw [aM_set a h]; rfl
theorem landA (e : Dev nD) (a : ℕ) {o i} (h : o = ![a, 0]) (fd : S8x128.Idx → Elt F .f32) :
    ((aM o i).view.loc (e : Thread nD τ) ↦[(aM o i).view.set]{fullShare} ((aM o i).view.write (Elt F) fd ((aM o i).view.read (Elt F) (AM m)) Finset.univ) : sProp 𝕄)
      ⊢ ap e fullShare a (AM m) := by
  rw [ap_eq e fullShare a (i := i) h, View.write_read_eq_piecewise]
  refine Entails.of_eq (pointsTo_congr (fun j hj => ?_))
  exact Finset.piecewise_eq_of_mem _ _ _ hj

section Rules
variable {α : Type} {k : PUnit → Prog (TpuEff nD τ sig (Elt F) Λ₀ .tc) α}
variable {Q : α → sProp (MT nD τ sig Unit (Elt F) ℕ UU ℕ)}

/-- Forwarding 512 rows to a neighbour. -/
theorem wp_fwd512 (c e : Dev nD) {e' : Dev nD} (he : e' = e) (q₁ q₂ : DmaSem sig) (n a : ℕ) (h1 : 1 ≤ q₁.val) (h1' : q₁.val ≤ 30) (h2 : 1 ≤ q₂.val) (h2' : q₂.val ≤ 30)
    (ha : amtQ q₁.val = amtQ q₂.val) (hd : debtAt c (16 - n) = (dcell e q₂, amtQ q₂.val)) (hN : N512 = amtQ q₂.val)
    {o : Fin 2 → ℕ} {i : inbG512 o} (h : o = ![a, 0])
    {hsc : (gM512 o i : Memref sig (e' : Thread nD τ).2.kind .hbm S512x4096 .bf16).view.ref.isScScratch = false}
    {hsrc : (gM512 o i).view.WordExact} {hdst : (gM512 o i).view.WordExact}
    {hsem : DmaTarget.Typed .hbm (.dma q₂) (.remote (e' : Thread nD τ) (gM512 o i : Memref sig (e' : Thread nD τ).2.kind .hbm S512x4096 .bf16) (.dma q₁) hsc)}
    {sh : PosShare TreeShare} {fd : S4096x4096.Idx → Elt F .bf16} {R : sProp 𝕄}
    (hp1 : gp c sh a 512 (GF m) ⊢ payQ m c q₁.val)
    (hp2 : iprop(gp e fullShare a 512 (GF m) ∗ R) ⊢ payQ m e q₂.val) :
    iprop(Ctx m ∗ Due c (n + 1) ∗ Snd c e q₁ q₂ ∗ gp c sh a 512 (GF m) ∗ gp e fullShare a 512 fd ∗ R)
      ⊢ iprop(((Rcv c q₁ ∗ Due c n) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (gM512 o i) (.remote (e' : Thread nD τ) (gM512 o i) (.dma q₁) hsc) (.dma q₂) hsrc hdst hsem) k) Q) := by
  subst he
  rw [gp512_eq e' fullShare a (i := i) h fd]
  rw [gp512_eq c sh a (i := i) h] at hp1 ⊢
  refine wp_snd m c e' q₁ q₂ n h1 h1' h2 h2' ha hd (src := gM512 o i) (dst := gM512 o i) (fs := GF m) (fd := fd) (sh := sh) (R := R) (gM512_credit.trans hN) hp1 ?_
  exact (sep_mono_left (land512 m e' a h fd)).trans hp2

/-- Forwarding 256 rows to a neighbour. -/
theorem wp_fwd256 (c e : Dev nD) {e' : Dev nD} (he : e' = e) (q₁ q₂ : DmaSem sig) (n a : ℕ) (h1 : 1 ≤ q₁.val) (h1' : q₁.val ≤ 30) (h2 : 1 ≤ q₂.val) (h2' : q₂.val ≤ 30)
    (ha : amtQ q₁.val = amtQ q₂.val) (hd : debtAt c (16 - n) = (dcell e q₂, amtQ q₂.val)) (hN : N256 = amtQ q₂.val)
    {o : Fin 2 → ℕ} {i : inbG256 o} (h : o = ![a, 0])
    {hsc : (gM256 o i : Memref sig (e' : Thread nD τ).2.kind .hbm S256x4096 .bf16).view.ref.isScScratch = false}
    {hsrc : (gM256 o i).view.WordExact} {hdst : (gM256 o i).view.WordExact}
    {hsem : DmaTarget.Typed .hbm (.dma q₂) (.remote (e' : Thread nD τ) (gM256 o i : Memref sig (e' : Thread nD τ).2.kind .hbm S256x4096 .bf16) (.dma q₁) hsc)}
    {sh : PosShare TreeShare} {fd : S4096x4096.Idx → Elt F .bf16} {R : sProp 𝕄}
    (hp1 : gp c sh a 256 (GF m) ⊢ payQ m c q₁.val)
    (hp2 : iprop(gp e fullShare a 256 (GF m) ∗ R) ⊢ payQ m e q₂.val) :
    iprop(Ctx m ∗ Due c (n + 1) ∗ Snd c e q₁ q₂ ∗ gp c sh a 256 (GF m) ∗ gp e fullShare a 256 fd ∗ R)
      ⊢ iprop(((Rcv c q₁ ∗ Due c n) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (gM256 o i) (.remote (e' : Thread nD τ) (gM256 o i) (.dma q₁) hsc) (.dma q₂) hsrc hdst hsem) k) Q) := by
  subst he
  rw [gp256_eq e' fullShare a (i := i) h fd]
  rw [gp256_eq c sh a (i := i) h] at hp1 ⊢
  refine wp_snd m c e' q₁ q₂ n h1 h1' h2 h2' ha hd (src := gM256 o i) (dst := gM256 o i) (fs := GF m) (fd := fd) (sh := sh) (R := R) (gM256_credit.trans hN) hp1 ?_
  exact (sep_mono_left (land256 m e' a h fd)).trans hp2

/-- Sending the device's own block to a neighbour. -/
theorem wp_own (c e : Dev nD) {e' : Dev nD} (he : e' = e) (q₁ q₂ : DmaSem sig) (n : ℕ) (h1 : 1 ≤ q₁.val) (h1' : q₁.val ≤ 30) (h2 : 1 ≤ q₂.val) (h2' : q₂.val ≤ 30)
    (ha : amtQ q₁.val = amtQ q₂.val) (hd : debtAt c (16 - n) = (dcell e q₂, amtQ q₂.val)) (hN : N512 = amtQ q₂.val)
    {o : Fin 2 → ℕ} {i : inbG512 o} (h : o = ![512 * c.val, 0])
    {hsc : (gM512 o i : Memref sig (e' : Thread nD τ).2.kind .hbm S512x4096 .bf16).view.ref.isScScratch = false}
    {hsrc : (Memref.whole cc0_scratch0 : Memref sig .tc .vmem S512x4096 .bf16).view.WordExact} {hdst : (gM512 o i).view.WordExact}
    {hsem : DmaTarget.Typed .vmem (.dma q₂) (.remote (e' : Thread nD τ) (gM512 o i : Memref sig (e' : Thread nD τ).2.kind .hbm S512x4096 .bf16) (.dma q₁) hsc)}
    {sh : PosShare TreeShare} {fd : S4096x4096.Idx → Elt F .bf16} {R : sProp 𝕄}
    (hp1 : ownP m c sh ⊢ payQ m c q₁.val)
    (hp2 : iprop(gp e fullShare (512 * c.val) 512 (GF m) ∗ R) ⊢ payQ m e q₂.val) :
    iprop(Ctx m ∗ Due c (n + 1) ∗ Snd c e q₁ q₂ ∗ ownP m c sh ∗ gp e fullShare (512 * c.val) 512 fd ∗ R)
      ⊢ iprop(((Rcv c q₁ ∗ Due c n) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (Memref.whole cc0_scratch0) (.remote (e' : Thread nD τ) (gM512 o i) (.dma q₁) hsc) (.dma q₂) hsrc hdst hsem) k) Q) := by
  subst he
  have he : ownP m c sh = ((Memref.whole cc0_scratch0 : Memref sig .tc .vmem S512x4096 .bf16).view.loc (c : Thread nD τ)
      ↦[(Memref.whole cc0_scratch0 : Memref sig .tc .vmem S512x4096 .bf16).view.set]{sh} (ownV m c) : sProp 𝕄) := by
    rw [show (Memref.whole cc0_scratch0 : Memref sig .tc .vmem S512x4096 .bf16).view.set = Finset.univ from View.set_whole _]; rfl
  rw [gp512_eq e' fullShare _ (i := i) h fd]
  rw [he] at hp1 ⊢
  refine wp_snd m c e' q₁ q₂ n h1 h1' h2 h2' ha hd (src := Memref.whole cc0_scratch0) (dst := gM512 o i) (fs := ownV m c) (fd := fd) (sh := sh) (R := R) (gM512_credit.trans hN) hp1 ?_
  exact (sep_mono_left (landOwn m c e' h fd)).trans hp2

/-- Sending the row of maxima to another device. -/
theorem wp_amx (c e : Dev nD) {e' : Dev nD} (he : e' = e) (q₁ q₂ : DmaSem sig) (n : ℕ) (h1 : 1 ≤ q₁.val) (h1' : q₁.val ≤ 30) (h2 : 1 ≤ q₂.val) (h2' : q₂.val ≤ 30)
    (ha : amtQ q₁.val = amtQ q₂.val) (hd : debtAt c (16 - n) = (dcell e q₂, amtQ q₂.val)) (hN : Nam = amtQ q₂.val)
    {o : Fin 2 → ℕ} {i : inbA o} (h : o = ![c.val, 0])
    {hsc : (aM o i : Memref sig (e' : Thread nD τ).2.kind .vmem S1x128 .f32).view.ref.isScScratch = false}
    {hsrc : (aM o i).view.WordExact} {hdst : (aM o i).view.WordExact}
    {hsem : DmaTarget.Typed .vmem (.dma q₂) (.remote (e' : Thread nD τ) (aM o i : Memref sig (e' : Thread nD τ).2.kind .vmem S1x128 .f32) (.dma q₁) hsc)}
    {sh : PosShare TreeShare}
    (hp1 : ap c sh c.val (AM m) ⊢ payQ m c q₁.val)
    (hp2 : ap e fullShare c.val (AM m) ⊢ payQ m e q₂.val) :
    iprop(Ctx m ∗ Due c (n + 1) ∗ Snd c e q₁ q₂ ∗ ap c sh c.val (AM m) ∗ perm e c)
      ⊢ iprop(((Rcv c q₁ ∗ Due c n) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (aM o i) (.remote (e' : Thread nD τ) (aM o i) (.dma q₁) hsc) (.dma q₂) hsrc hdst hsem) k) Q) := by
  subst he
  unfold perm
  rw [ap_eq c sh c.val (i := i) h] at hp1 ⊢
  iintro ⟨HC, HO, HS, Ha, %fd, Hp⟩ Hk
  ihave Hp := (Entails.of_eq (ap_eq e' fullShare c.val (i := i) h fd)) $$ Hp
  iapply (wp_snd m c e' q₁ q₂ n h1 h1' h2 h2' ha hd (src := aM o i) (dst := aM o i) (fs := AM m) (fd := fd) (sh := sh) (R := iprop(emp)) (aM_credit.trans hN) hp1
    (BI.Laws.sep_emp.1.trans ((landA m e' c.val h fd).trans hp2))) $$ [HC HO HS Ha Hp]
  · isplitl [HC]; · iexact HC
    isplitl [HO]; · iexact HO
    isplitl [HS]; · iexact HS
    isplitl [Ha]; · iexact Ha
    isplitl [Hp]; · iexact Hp
    iempintro
  iexact Hk
end Rules

end Cert.Ring

end
-- ==== Proof.Chunk.lean ====
/-
The chunk buffer: gathered rows are copied into one of its two slots and read from there.
-/
module

public import proofs.«01_k».proof.Proof.Moves

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Slot `s` of the chunk buffer. -/
def slotC (s : Fin 2) : Finset S2x512x4096.Idx := Finset.univ.filter fun i => (i 0).val = s.val
theorem mem_slotC {s : Fin 2} {i : S2x512x4096.Idx} : i ∈ slotC s ↔ (i 0).val = s.val := by simp [slotC]
def chP (c : Dev nD) (s : Fin 2) (f : S2x512x4096.Idx → Elt F .bf16) : sProp 𝕄 :=
  ((c : Thread nD τ).loc cc0_scratch1 : Loc nD τ sig) ↦[slotC s]{fullShare} f
/-- Slot `s` holding rows `a … a + n - 1` of the gathered array. -/
def TC (c : Dev nD) (s : Fin 2) (a n : ℕ) : sProp 𝕄 :=
  iprop(∃ f, ⌜∀ (i : S2x512x4096.Idx) (j : S4096x4096.Idx), (i 0).val = s.val → (i 1).val < n → (j 0).val = a + (i 1).val → (j 1).val = (i 2).val → f i = GF m j⌝ ∗ chP c s f)

abbrev inbC512 (o : Fin 3 → ℕ) : Prop := ∀ a, o a + S1x512x4096.size a ≤ S2x512x4096.size a
abbrev cM512 (o : Fin 3 → ℕ) (i : inbC512 o) (h : S1x512x4096.Squeezes S512x4096) : Memref sig .tc .vmem S512x4096 .bf16 :=
  ((Memref.whole cc0_scratch1 : Memref sig .tc .vmem S2x512x4096 .bf16).slice (Rect.unit (s := S2x512x4096) o S1x512x4096.size i) (fun _ => rfl)).squeeze S512x4096 h
theorem cM512_credit {o i h} : (cM512 o i h).view.dmaCredit = N512 := rfl
/-- Where an element of the squeezed slice sits. -/
theorem cM512_emb {o i h} (s : Fin 2) (ho : o = ![s.val, 0, 0]) (x : S512x4096.Idx) :
    (((cM512 o i h).view.emb x 0).val = s.val) ∧ (((cM512 o i h).view.emb x 1).val = (x 0).val) ∧ (((cM512 o i h).view.emb x 2).val = (x 1).val) := by
  subst ho
  have hx : x = ValueIdx.ix2 (n0 := 512) (n1 := 4096) (x 0) (x 1) := by
    funext a; match a with
    | 0 => rfl
    | 1 => rfl
  have e : Shape.reshapeEquiv h.numel_eq x = ValueIdx.ix3 (n0 := 1) (n1 := 512) (n2 := 4096) ⟨0, Nat.one_pos⟩ (x 0) (x 1) := by
    conv_lhs => rw [hx]
    exact ValueIdx.reshapeEquiv_ix2_1ab _ _ _
  have e' : (cM512 ![s.val, 0, 0] i h).view.emb x = (Rect.unit (s := S2x512x4096) ![s.val, 0, 0] S1x512x4096.size i).emb (ValueIdx.ix3 (n0 := 1) (n1 := 512) (n2 := 4096) ⟨0, Nat.one_pos⟩ (x 0) (x 1)) := by
    rw [← e]; rfl
  rw [e']
  refine ⟨?_, ?_, ?_⟩
  · show s.val + 1 * 0 = s.val; omega
  · show 0 + 1 * (x 0).val = (x 0).val; omega
  · show 0 + 1 * (x 1).val = (x 1).val; omega
theorem cM512_sub {o i h} (s : Fin 2) (ho : o = ![s.val, 0, 0]) : (cM512 o i h).view.set ⊆ slotC s := by
  intro j hj
  obtain ⟨x, -, rfl⟩ := Finset.mem_map.mp hj
  exact mem_slotC.mpr (cM512_emb s ho x).1

/-- The slot after the copy of 512 rows. -/
theorem write_chunk512 (s : Fin 2) (a : ℕ) {o1 : Fin 2 → ℕ} {i1 : inbG512 o1} {o2 : Fin 3 → ℕ} {i2 : inbC512 o2} {h} (h1 : o1 = ![a, 0]) (h2 : o2 = ![s.val, 0, 0])
    (fd : S2x512x4096.Idx → Elt F .bf16) (i : S2x512x4096.Idx) (j : S4096x4096.Idx) (hi : (i 0).val = s.val) (hn : (i 1).val < 512) (hj0 : (j 0).val = a + (i 1).val) (hj1 : (j 1).val = (i 2).val) :
    (cM512 o2 i2 h).view.write (Elt F) fd ((gM512 o1 i1).view.read (Elt F) (GF m)) Finset.univ i = GF m j := by
  let x : S512x4096.Idx := Shape.pair (d := ![512, 4096]) ⟨(i 1).val, hn⟩ ⟨(i 2).val, (i 2).isLt⟩
  have hx : (cM512 o2 i2 h).view.emb x = i := by
    obtain ⟨e0, e1, e2⟩ := cM512_emb (i := i2) (h := h) s h2 x
    funext b; apply Fin.ext
    match b with
    | 0 => exact e0.trans hi.symm
    | 1 => exact e1
    | 2 => exact e2
  conv_lhs => rw [← hx]
  rw [View.write_emb_of_mem _ _ (Finset.mem_univ _)]
  subst h1
  show GF m _ = GF m j
  congr 1
  funext b; apply Fin.ext
  match b with
  | 0 => show a + 1 * (i 1).val = (j 0).val; omega
  | 1 => show 0 + 1 * (i 2).val = (j 1).val; omega

section
variable {α : Type}
variable {Q : α → sProp (MT nD τ sig Unit (Elt F) ℕ UU ℕ)}

/-- What that copy leaves. -/
theorem landC512 (c : Dev nD) (s : Fin 2) (a : ℕ) (sh : PosShare TreeShare) {o1 : Fin 2 → ℕ} {i1 : inbG512 o1} {o2 : Fin 3 → ℕ} {i2 : inbC512 o2} {h} (h1 : o1 = ![a, 0]) (h2 : o2 = ![s.val, 0, 0])
    (fd : S2x512x4096.Idx → Elt F .bf16) :
    iprop((((cM512 o2 i2 h).view.loc (c : Thread nD τ) ↦[slotC s]{fullShare} ((cM512 o2 i2 h).view.write (Elt F) fd ((gM512 o1 i1).view.read (Elt F) (GF m)) Finset.univ))
        ∗ ((gM512 o1 i1).view.loc (c : Thread nD τ) ↦[(gM512 o1 i1).view.set]{sh} (GF m))) ∗ emp) ⊢ TC m c s a 512 := by
  unfold TC chP
  iintro ⟨⟨Hd, -⟩, -⟩
  iexists ((cM512 o2 i2 h).view.write (Elt F) fd ((gM512 o1 i1).view.read (Elt F) (GF m)) Finset.univ)
  isplitr
  · ipureintro
    exact fun i j hi hn hj0 hj1 => write_chunk512 m s a h1 h2 fd i j hi hn hj0 hj1
  · iexact Hd

/-- Starting the copy of 512 gathered rows into slot `s`. -/
theorem wp_enqC512 (c : Dev nD) (s : Fin 2) (a : ℕ) (sh : PosShare TreeShare) {o1 : Fin 2 → ℕ} {i1 : inbG512 o1} {o2 : Fin 3 → ℕ} {i2 : inbC512 o2} {h} (h1 : o1 = ![a, 0]) (h2 : o2 = ![s.val, 0, 0])
    {hsrc : (gM512 o1 i1).view.WordExact} {hdst : (cM512 o2 i2 h).view.WordExact} {hsem : DmaTarget.Typed (nD := nD) (τ := τ) (p := .tc) .hbm (.dma (lq s)) (.here (cM512 o2 i2 h))}
    {K : PUnit → Prog (TpuEff nD τ sig (Elt F) Λ₀ .tc) α} :
    iprop(semVal (dcell c (lq s)) 0 ∗ (∃ f, chP c s f) ∗ gp c sh a 512 (GF m))
      ⊢ iprop((Fl c (lq s) N512 (TC m c s a 512) -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma (gM512 o1 i1) (.here (cM512 o2 i2 h)) (.dma (lq s)) hsrc hdst hsem) K) Q) := by
  rw [gp512_eq c sh a (i := i1) h1]
  iintro ⟨Hv, ⟨%fd, Hst⟩, Hg⟩ Hk
  iapply (wp_cp (src := gM512 o1 i1) (dst := cM512 o2 i2 h) (hsrc := hsrc) (hdst := hdst) (hsem := hsem) c (lq s) N512 (TC m c s a 512) iprop(emp) (Sd := slotC s) (fd := fd) (fs := GF m) (sh := sh) (k := K) cM512_credit N512_pos
      (cM512_sub s h2) (landC512 m c s a sh h1 h2 fd)) $$ [Hv Hst Hg]
  · isplitl [Hg]; · iexact Hg
    isplitl [Hst]; · unfold chP; iexact Hst
    isplitl [Hv]; · iexact Hv
    iempintro
  iexact Hk

/-- The slot's elements are those its load reads. -/
theorem ld_chunk512 (s : Fin 2) {o : Fin 3 → ℕ} (i : inbC512 o) (h : o = ![s.val, 0, 0]) :
    (Memref.whole cc0_scratch1 : Memref sig .tc .vmem S2x512x4096 .bf16).view.setOn (Rect.unit (s := S2x512x4096) o S1x512x4096.size i).toLoadRect.set ⊆ slotC s := by
  subst h
  intro j hj
  obtain ⟨y, hy, rfl⟩ := Finset.mem_map.mp hj
  have h0 : s.val ≤ (y 0).val ∧ (y 0).val < s.val + 1 := Rect.mem_set_unit.mp hy 0
  refine mem_slotC.mpr ?_
  show (y 0).val = s.val
  omega

/-- Reading the slot. -/
theorem wp_ldC512 (c : Dev nD) (s : Fin 2) (a : ℕ) {o : Fin 3 → ℕ} {i : inbC512 o} (h : o = ![s.val, 0, 0]) (v : S1x512x4096.Idx → Elt F .bf16)
    (hv : ∀ (x : S1x512x4096.Idx) (j : S4096x4096.Idx), (j 0).val = a + (x 1).val → (j 1).val = (x 2).val → GF m j = v x) (ha : a + 512 ≤ 4096)
    {hl} {K : (S1x512x4096.Idx → Elt F .bf16) → Prog (TpuEff nD τ sig (Elt F) Λ₀ .tc) α} :
    TC m c s a 512 ⊢ iprop(((∃ f, chP c s f) -∗ wp frame (wpE (defs₀ (F := F)) 𝒱₀ (c : Thread nD τ) none) Set.univ (K v) Q)
        -∗ wp frame (wpE (defs₀ (F := F)) 𝒱₀ (c : Thread nD τ) none) Set.univ (.op (.load (Memref.whole cc0_scratch1) (Rect.unit (s := S2x512x4096) o S1x512x4096.size i).toLoadRect hl) K) Q) := by
  unfold TC chP
  iintro ⟨%f, %hf, Hc⟩ Hk
  iapply (wp_ld c (Memref.whole cc0_scratch1) v (r := Rect.unit (s := S2x512x4096) o S1x512x4096.size i) (k := K) (ld_chunk512 s i h) (by
    subst h
    funext x
    have h0 : (x 0).val < 1 := (x 0).isLt
    have h1 : (x 1).val < 512 := (x 1).isLt
    have h2 : (x 2).val < 4096 := (x 2).isLt
    let j : S4096x4096.Idx := Shape.pair (d := ![4096, 4096]) ⟨a + (x 1).val, by show _ < 4096; omega⟩ ⟨(x 2).val, h2⟩
    refine Eq.trans ?_ (hv x j rfl rfl)
    show f ((Rect.unit (s := S2x512x4096) ![s.val, 0, 0] S1x512x4096.size i).toLoadRect.idx x) = GF m j
    refine hf _ j ?_ ?_ ?_ ?_
    · show s.val + 1 * (x 0).val = s.val; omega
    · show 0 + 1 * (x 1).val < 512; omega
    · show a + (x 1).val = a + (0 + 1 * (x 1).val); omega
    · show (x 2).val = 0 + 1 * (x 2).val; omega)) $$ Hc
  iintro Hc
  iapply Hk
  iexists f; iexact Hc
end

abbrev inbC256 (o : Fin 3 → ℕ) : Prop := ∀ a, o a + S1x256x4096.size a ≤ S2x512x4096.size a
abbrev cM256 (o : Fin 3 → ℕ) (i : inbC256 o) (h : S1x256x4096.Squeezes S256x4096) : Memref sig .tc .vmem S256x4096 .bf16 :=
  ((Memref.whole cc0_scratch1 : Memref sig .tc .vmem S2x512x4096 .bf16).slice (Rect.unit (s := S2x512x4096) o S1x256x4096.size i) (fun _ => rfl)).squeeze S256x4096 h
theorem cM256_credit {o i h} : (cM256 o i h).view.dmaCredit = N256 := rfl
/-- Where an element of the squeezed slice sits. -/
theorem cM256_emb {o i h} (s : Fin 2) (ho : o = ![s.val, 0, 0]) (x : S256x4096.Idx) :
    (((cM256 o i h).view.emb x 0).val = s.val) ∧ (((cM256 o i h).view.emb x 1).val = (x 0).val) ∧ (((cM256 o i h).view.emb x 2).val = (x 1).val) := by
  subst ho
  have hx : x = ValueIdx.ix2 (n0 := 256) (n1 := 4096) (x 0) (x 1) := by
    funext a; match a with
    | 0 => rfl
    | 1 => rfl
  have e : Shape.reshapeEquiv h.numel_eq x = ValueIdx.ix3 (n0 := 1) (n1 := 256) (n2 := 4096) ⟨0, Nat.one_pos⟩ (x 0) (x 1) := by
    conv_lhs => rw [hx]
    exact ValueIdx.reshapeEquiv_ix2_1ab _ _ _
  have e' : (cM256 ![s.val, 0, 0] i h).view.emb x = (Rect.unit (s := S2x512x4096) ![s.val, 0, 0] S1x256x4096.size i).emb (ValueIdx.ix3 (n0 := 1) (n1 := 256) (n2 := 4096) ⟨0, Nat.one_pos⟩ (x 0) (x 1)) := by
    rw [← e]; rfl
  rw [e']
  refine ⟨?_, ?_, ?_⟩
  · show s.val + 1 * 0 = s.val; omega
  · show 0 + 1 * (x 0).val = (x 0).val; omega
  · show 0 + 1 * (x 1).val = (x 1).val; omega
theorem cM256_sub {o i h} (s : Fin 2) (ho : o = ![s.val, 0, 0]) : (cM256 o i h).view.set ⊆ slotC s := by
  intro j hj
  obtain ⟨x, -, rfl⟩ := Finset.mem_map.mp hj
  exact mem_slotC.mpr (cM256_emb s ho x).1

/-- The slot after the copy of 256 rows. -/
theorem write_chunk256 (s : Fin 2) (a : ℕ) {o1 : Fin 2 → ℕ} {i1 : inbG256 o1} {o2 : Fin 3 → ℕ} {i2 : inbC256 o2} {h} (h1 : o1 = ![a, 0]) (h2 : o2 = ![s.val, 0, 0])
    (fd : S2x512x4096.Idx → Elt F .bf16) (i : S2x512x4096.Idx) (j : S4096x4096.Idx) (hi : (i 0).val = s.val) (hn : (i 1).val < 256) (hj0 : (j 0).val = a + (i 1).val) (hj1 : (j 1).val = (i 2).val) :
    (cM256 o2 i2 h).view.write (Elt F) fd ((gM256 o1 i1).view.read (Elt F) (GF m)) Finset.univ i = GF m j := by
  let x : S256x4096.Idx := Shape.pair (d := ![256, 4096]) ⟨(i 1).val, hn⟩ ⟨(i 2).val, (i 2).isLt⟩
  have hx : (cM256 o2 i2 h).view.emb x = i := by
    obtain ⟨e0, e1, e2⟩ := cM256_emb (i := i2) (h := h) s h2 x
    funext b; apply Fin.ext
    match b with
    | 0 => exact e0.trans hi.symm
    | 1 => exact e1
    | 2 => exact e2
  conv_lhs => rw [← hx]
  rw [View.write_emb_of_mem _ _ (Finset.mem_univ _)]
  subst h1
  show GF m _ = GF m j
  congr 1
  funext b; apply Fin.ext
  match b with
  | 0 => show a + 1 * (i 1).val = (j 0).val; omega
  | 1 => show 0 + 1 * (i 2).val = (j 1).val; omega

section
variable {α : Type}
variable {Q : α → sProp (MT nD τ sig Unit (Elt F) ℕ UU ℕ)}

/-- What that copy leaves. -/
theorem landC256 (c : Dev nD) (s : Fin 2) (a : ℕ) (sh : PosShare TreeShare) {o1 : Fin 2 → ℕ} {i1 : inbG256 o1} {o2 : Fin 3 → ℕ} {i2 : inbC256 o2} {h} (h1 : o1 = ![a, 0]) (h2 : o2 = ![s.val, 0, 0])
    (fd : S2x512x4096.Idx → Elt F .bf16) :
    iprop((((cM256 o2 i2 h).view.loc (c : Thread nD τ) ↦[slotC s]{fullShare} ((cM256 o2 i2 h).view.write (Elt F) fd ((gM256 o1 i1).view.read (Elt F) (GF m)) Finset.univ))
        ∗ ((gM256 o1 i1).view.loc (c : Thread nD τ) ↦[(gM256 o1 i1).view.set]{sh} (GF m))) ∗ emp) ⊢ TC m c s a 256 := by
  unfold TC chP
  iintro ⟨⟨Hd, -⟩, -⟩
  iexists ((cM256 o2 i2 h).view.write (Elt F) fd ((gM256 o1 i1).view.read (Elt F) (GF m)) Finset.univ)
  isplitr
  · ipureintro
    exact fun i j hi hn hj0 hj1 => write_chunk256 m s a h1 h2 fd i j hi hn hj0 hj1
  · iexact Hd

/-- Starting the copy of 256 gathered rows into slot `s`. -/
theorem wp_enqC256 (c : Dev nD) (s : Fin 2) (a : ℕ) (sh : PosShare TreeShare) {o1 : Fin 2 → ℕ} {i1 : inbG256 o1} {o2 : Fin 3 → ℕ} {i2 : inbC256 o2} {h} (h1 : o1 = ![a, 0]) (h2 : o2 = ![s.val, 0, 0])
    {hsrc : (gM256 o1 i1).view.WordExact} {hdst : (cM256 o2 i2 h).view.WordExact} {hsem : DmaTarget.Typed (nD := nD) (τ := τ) (p := .tc) .hbm (.dma (lq s)) (.here (cM256 o2 i2 h))}
    {K : PUnit → Prog (TpuEff nD τ sig (Elt F) Λ₀ .tc) α} :
    iprop(semVal (dcell c (lq s)) 0 ∗ (∃ f, chP c s f) ∗ gp c sh a 256 (GF m))
      ⊢ iprop((Fl c (lq s) N256 (TC m c s a 256) -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma (gM256 o1 i1) (.here (cM256 o2 i2 h)) (.dma (lq s)) hsrc hdst hsem) K) Q) := by
  rw [gp256_eq c sh a (i := i1) h1]
  iintro ⟨Hv, ⟨%fd, Hst⟩, Hg⟩ Hk
  iapply (wp_cp (src := gM256 o1 i1) (dst := cM256 o2 i2 h) (hsrc := hsrc) (hdst := hdst) (hsem := hsem) c (lq s) N256 (TC m c s a 256) iprop(emp) (Sd := slotC s) (fd := fd) (fs := GF m) (sh := sh) (k := K) cM256_credit N256_pos
      (cM256_sub s h2) (landC256 m c s a sh h1 h2 fd)) $$ [Hv Hst Hg]
  · isplitl [Hg]; · iexact Hg
    isplitl [Hst]; · unfold chP; iexact Hst
    isplitl [Hv]; · iexact Hv
    iempintro
  iexact Hk

/-- The slot's elements are those its load reads. -/
theorem ld_chunk256 (s : Fin 2) {o : Fin 3 → ℕ} (i : inbC256 o) (h : o = ![s.val, 0, 0]) :
    (Memref.whole cc0_scratch1 : Memref sig .tc .vmem S2x512x4096 .bf16).view.setOn (Rect.unit (s := S2x512x4096) o S1x256x4096.size i).toLoadRect.set ⊆ slotC s := by
  subst h
  intro j hj
  obtain ⟨y, hy, rfl⟩ := Finset.mem_map.mp hj
  have h0 : s.val ≤ (y 0).val ∧ (y 0).val < s.val + 1 := Rect.mem_set_unit.mp hy 0
  refine mem_slotC.mpr ?_
  show (y 0).val = s.val
  omega

/-- Reading the slot. -/
theorem wp_ldC256 (c : Dev nD) (s : Fin 2) (a : ℕ) {o : Fin 3 → ℕ} {i : inbC256 o} (h : o = ![s.val, 0, 0]) (v : S1x256x4096.Idx → Elt F .bf16)
    (hv : ∀ (x : S1x256x4096.Idx) (j : S4096x4096.Idx), (j 0).val = a + (x 1).val → (j 1).val = (x 2).val → GF m j = v x) (ha : a + 256 ≤ 4096)
    {hl} {K : (S1x256x4096.Idx → Elt F .bf16) → Prog (TpuEff nD τ sig (Elt F) Λ₀ .tc) α} :
    TC m c s a 256 ⊢ iprop(((∃ f, chP c s f) -∗ wp frame (wpE (defs₀ (F := F)) 𝒱₀ (c : Thread nD τ) none) Set.univ (K v) Q)
        -∗ wp frame (wpE (defs₀ (F := F)) 𝒱₀ (c : Thread nD τ) none) Set.univ (.op (.load (Memref.whole cc0_scratch1) (Rect.unit (s := S2x512x4096) o S1x256x4096.size i).toLoadRect hl) K) Q) := by
  unfold TC chP
  iintro ⟨%f, %hf, Hc⟩ Hk
  iapply (wp_ld c (Memref.whole cc0_scratch1) v (r := Rect.unit (s := S2x512x4096) o S1x256x4096.size i) (k := K) (ld_chunk256 s i h) (by
    subst h
    funext x
    have h0 : (x 0).val < 1 := (x 0).isLt
    have h1 : (x 1).val < 256 := (x 1).isLt
    have h2 : (x 2).val < 4096 := (x 2).isLt
    let j : S4096x4096.Idx := Shape.pair (d := ![4096, 4096]) ⟨a + (x 1).val, by show _ < 4096; omega⟩ ⟨(x 2).val, h2⟩
    refine Eq.trans ?_ (hv x j rfl rfl)
    show f ((Rect.unit (s := S2x512x4096) ![s.val, 0, 0] S1x256x4096.size i).toLoadRect.idx x) = GF m j
    refine hf _ j ?_ ?_ ?_ ?_
    · show s.val + 1 * (x 0).val = s.val; omega
    · show 0 + 1 * (x 1).val < 256; omega
    · show a + (x 1).val = a + (0 + 1 * (x 1).val); omega
    · show (x 2).val = 0 + 1 * (x 2).val; omega)) $$ Hc
  iintro Hc
  iapply Hk
  iexists f; iexact Hc
end

end Cert.Ring

end
-- ==== Proof.Out.lean ====
/-
The result buffer while the products are stored, and the buffers read whole.
-/
module

public import proofs.«01_k».proof.Proof.Chunk
public import proofs.«01_k».proof.Proof.Blocks

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The result buffer with the blocks of 256 rows in `l` holding their products. -/
def OutP (c : Dev nD) (l : List ℕ) : sProp 𝕄 :=
  iprop(∃ y : S4096x1024.Idx → Elt F .f32, ⌜∀ i : S4096x1024.Idx, (i 0).val / 256 ∈ l → y i = YB m c i⌝ ∗ (((c : Thread nD τ).loc cc0_stg0_0 : Loc nD τ sig) ↦{fullShare} y))

abbrev inbO512 (o : Fin 2 → ℕ) : Prop := ∀ a, o a + S512x1024.size a ≤ S4096x1024.size a
abbrev oR512 (o : Fin 2 → ℕ) (i : inbO512 o) : Rect S4096x1024 := Rect.unit (s := S4096x1024) o S512x1024.size i
/-- `w` is the products' rows `512 p …`. -/
def Is512 (c : Dev nD) (p : ℕ) (w : S512x1024.Idx → Elt F .f32) : Prop :=
  ∀ (x : S512x1024.Idx) (i : S4096x1024.Idx), (i 0).val = 512 * p + (x 0).val → (i 1).val = (x 1).val → w x = YB m c i

theorem write_out512 (c : Dev nD) (p : ℕ) {o i} (h : o = ![512 * p, 0]) (l : List ℕ) (w : S512x1024.Idx → Elt F .f32) (hw : Is512 m c p w)
    (y : S4096x1024.Idx → Elt F .f32) (hy : ∀ j : S4096x1024.Idx, (j 0).val / 256 ∈ l → y j = YB m c j) (j : S4096x1024.Idx) (hj : (j 0).val / 256 ∈ (2 * p) :: (2 * p + 1) :: l) :
    ((Memref.whole cc0_stg0_0 : Memref sig .tc .vmem S4096x1024 .f32).access (oR512 o i)).write (Elt F) y w Finset.univ j = YB m c j := by
  subst h
  by_cases hr : 512 * p ≤ (j 0).val ∧ (j 0).val < 512 * p + 512
  · let x : S512x1024.Idx := Shape.pair (d := ![512, 1024]) ⟨(j 0).val - 512 * p, by show _ < 512; omega⟩ ⟨(j 1).val, (j 1).isLt⟩
    have hx : ((Memref.whole cc0_stg0_0 : Memref sig .tc .vmem S4096x1024 .f32).access (oR512 ![512 * p, 0] i)).emb x = j := by
      funext a; apply Fin.ext
      match a with
      | 0 => show 512 * p + 1 * ((j 0).val - 512 * p) = (j 0).val; omega
      | 1 => show 0 + 1 * (j 1).val = (j 1).val; omega
    conv_lhs => rw [← hx]
    rw [View.write_emb_of_mem _ _ (Finset.mem_univ _)]
    exact hw x j (by show (j 0).val = 512 * p + ((j 0).val - 512 * p); omega) rfl
  · have e : ((Memref.whole cc0_stg0_0 : Memref sig .tc .vmem S4096x1024 .f32).access (oR512 ![512 * p, 0] i)).setOn Finset.univ = rows (512 * p) 512 :=
      (View.set_slice_whole _ _).trans (set_rows i (512 * p) 512 rfl rfl)
    have hnm : j ∉ ((Memref.whole cc0_stg0_0 : Memref sig .tc .vmem S4096x1024 .f32).access (oR512 ![512 * p, 0] i)).setOn Finset.univ := by
      rw [e, mem_rows]; exact hr
    refine (View.write_of_not_mem _ _ _ hnm).trans (hy j ?_)
    simp only [List.mem_cons] at hj
    rcases hj with hj | hj | hj
    · exfalso; omega
    · exfalso; omega
    · exact hj

section
variable {α : Type}
variable {Q : α → sProp (MT nD τ sig Unit (Elt F) ℕ UU ℕ)}

/-- Storing a product (after the load of what was there, which is dropped). -/
theorem wp_outS512 (c : Dev nD) (p : ℕ) {o : Fin 2 → ℕ} {i : inbO512 o} (h : o = ![512 * p, 0]) (l : List ℕ) {w : S512x1024.Idx → Elt F .f32} (hw : Is512 m c p w)
    {hl} {x} {hm} {K : PUnit → Prog (TpuEff nD τ sig (Elt F) Λ₀ .tc) α} :
    OutP m c l ⊢ iprop((OutP m c ((2 * p) :: (2 * p + 1) :: l) -∗ wp frame (wpE (defs₀ (F := F)) 𝒱₀ (c : Thread nD τ) none) Set.univ (K ⟨⟩) Q)
        -∗ wp frame (wpE (defs₀ (F := F)) 𝒱₀ (c : Thread nD τ) none) Set.univ (.op (.load (Memref.whole cc0_stg0_0) (oR512 o i).toLoadRect hl) fun _ =>
            .op (.store (Memref.whole cc0_stg0_0) (oR512 o i) w Finset.univ x hm) K) Q) := by
  unfold OutP
  iintro ⟨%y, %hy, Ho⟩ Hk
  iapply (wp_ld0 c (Memref.whole cc0_stg0_0) (oR512 o i)) $$ Ho
  iintro Ho
  iapply (wp_st c (Memref.whole cc0_stg0_0) (oR512 o i)) $$ Ho
  iintro Ho
  iapply Hk
  iexists (((Memref.whole cc0_stg0_0 : Memref sig .tc .vmem S4096x1024 .f32).access (oR512 o i)).write (Elt F) y w Finset.univ)
  isplitr
  · ipureintro; exact fun j hj => write_out512 m c p h l w hw y hy j hj
  · iexact Ho

/-- Loading it back. -/
theorem wp_outL512 (c : Dev nD) (p : ℕ) {o : Fin 2 → ℕ} {i : inbO512 o} (h : o = ![512 * p, 0]) (l : List ℕ) (hp : 2 * p ∈ l ∧ 2 * p + 1 ∈ l) (w : S512x1024.Idx → Elt F .f32) (hw : Is512 m c p w)
    {hl} {K : (S512x1024.Idx → Elt F .f32) → Prog (TpuEff nD τ sig (Elt F) Λ₀ .tc) α} :
    OutP m c l ⊢ iprop((OutP m c l -∗ wp frame (wpE (defs₀ (F := F)) 𝒱₀ (c : Thread nD τ) none) Set.univ (K w) Q)
        -∗ wp frame (wpE (defs₀ (F := F)) 𝒱₀ (c : Thread nD τ) none) Set.univ (.op (.load (Memref.whole cc0_stg0_0) (oR512 o i).toLoadRect hl) K) Q) := by
  unfold OutP
  iintro ⟨%y, %hy, Ho⟩ Hk
  iapply (wp_ld c (Memref.whole cc0_stg0_0) (r := oR512 o i) w (Finset.subset_univ _) (by
    subst h
    funext x
    have h0 : (x 0).val < 512 := (x 0).isLt
    have hj0 : (((oR512 ![512 * p, 0] i).toLoadRect.idx x) 0).val = 512 * p + (x 0).val := by
      show 512 * p + 1 * (x 0).val = _; omega
    have hj1 : (((oR512 ![512 * p, 0] i).toLoadRect.idx x) 1).val = (x 1).val := by
      show 0 + 1 * (x 1).val = _; omega
    refine Eq.trans (hy ((oR512 ![512 * p, 0] i).toLoadRect.idx x) ?_) (hw x _ hj0 hj1).symm
    rw [hj0]
    rcases Nat.lt_or_ge (x 0).val 256 with hlt | hge
    · rw [show (512 * p + (x 0).val) / 256 = 2 * p by omega]; exact hp.1
    · rw [show (512 * p + (x 0).val) / 256 = 2 * p + 1 by omega]; exact hp.2)) $$ Ho
  iintro Ho
  iapply Hk
  iexists y
  isplitr; · ipureintro; exact hy
  iexact Ho
end

abbrev inbO256 (o : Fin 2 → ℕ) : Prop := ∀ a, o a + S256x1024.size a ≤ S4096x1024.size a
abbrev oR256 (o : Fin 2 → ℕ) (i : inbO256 o) : Rect S4096x1024 := Rect.unit (s := S4096x1024) o S256x1024.size i
/-- `w` is the products' rows `256 p …`. -/
def Is256 (c : Dev nD) (p : ℕ) (w : S256x1024.Idx → Elt F .f32) : Prop :=
  ∀ (x : S256x1024.Idx) (i : S4096x1024.Idx), (i 0).val = 256 * p + (x 0).val → (i 1).val = (x 1).val → w x = YB m c i

theorem write_out256 (c : Dev nD) (p : ℕ) {o i} (h : o = ![256 * p, 0]) (l : List ℕ) (w : S256x1024.Idx → Elt F .f32) (hw : Is256 m c p w)
    (y : S4096x1024.Idx → Elt F .f32) (hy : ∀ j : S4096x1024.Idx, (j 0).val / 256 ∈ l → y j = YB m c j) (j : S4096x1024.Idx) (hj : (j 0).val / 256 ∈ p :: l) :
    ((Memref.whole cc0_stg0_0 : Memref sig .tc .vmem S4096x1024 .f32).access (oR256 o i)).write (Elt F) y w Finset.univ j = YB m c j := by
  subst h
  by_cases hr : 256 * p ≤ (j 0).val ∧ (j 0).val < 256 * p + 256
  · let x : S256x1024.Idx := Shape.pair (d := ![256, 1024]) ⟨(j 0).val - 256 * p, by show _ < 256; omega⟩ ⟨(j 1).val, (j 1).isLt⟩
    have hx : ((Memref.whole cc0_stg0_0 : Memref sig .tc .vmem S4096x1024 .f32).access (oR256 ![256 * p, 0] i)).emb x = j := by
      funext a; apply Fin.ext
      match a with
      | 0 => show 256 * p + 1 * ((j 0).val - 256 * p) = (j 0).val; omega
      | 1 => show 0 + 1 * (j 1).val = (j 1).val; omega
    conv_lhs => rw [← hx]
    rw [View.write_emb_of_mem _ _ (Finset.mem_univ _)]
    exact hw x j (by show (j 0).val = 256 * p + ((j 0).val - 256 * p); omega) rfl
  · have e : ((Memref.whole cc0_stg0_0 : Memref sig .tc .vmem S4096x1024 .f32).access (oR256 ![256 * p, 0] i)).setOn Finset.univ = rows (256 * p) 256 :=
      (View.set_slice_whole _ _).trans (set_rows i (256 * p) 256 rfl rfl)
    have hnm : j ∉ ((Memref.whole cc0_stg0_0 : Memref sig .tc .vmem S4096x1024 .f32).access (oR256 ![256 * p, 0] i)).setOn Finset.univ := by
      rw [e, mem_rows]; exact hr
    refine (View.write_of_not_mem _ _ _ hnm).trans (hy j ?_)
    simp only [List.mem_cons] at hj
    rcases hj with hj | hj
    · exfalso; omega
    · exact hj

section
variable {α : Type}
variable {Q : α → sProp (MT nD τ sig Unit (Elt F) ℕ UU ℕ)}

/-- Storing a product (after the load of what was there, which is dropped). -/
theorem wp_outS256 (c : Dev nD) (p : ℕ) {o : Fin 2 → ℕ} {i : inbO256 o} (h : o = ![256 * p, 0]) (l : List ℕ) {w : S256x1024.Idx → Elt F .f32} (hw : Is256 m c p w)
    {hl} {x} {hm} {K : PUnit → Prog (TpuEff nD τ sig (Elt F) Λ₀ .tc) α} :
    OutP m c l ⊢ iprop((OutP m c (p :: l) -∗ wp frame (wpE (defs₀ (F := F)) 𝒱₀ (c : Thread nD τ) none) Set.univ (K ⟨⟩) Q)
        -∗ wp frame (wpE (defs₀ (F := F)) 𝒱₀ (c : Thread nD τ) none) Set.univ (.op (.load (Memref.whole cc0_stg0_0) (oR256 o i).toLoadRect hl) fun _ =>
            .op (.store (Memref.whole cc0_stg0_0) (oR256 o i) w Finset.univ x hm) K) Q) := by
  unfold OutP
  iintro ⟨%y, %hy, Ho⟩ Hk
  iapply (wp_ld0 c (Memref.whole cc0_stg0_0) (oR256 o i)) $$ Ho
  iintro Ho
  iapply (wp_st c (Memref.whole cc0_stg0_0) (oR256 o i)) $$ Ho
  iintro Ho
  iapply Hk
  iexists (((Memref.whole cc0_stg0_0 : Memref sig .tc .vmem S4096x1024 .f32).access (oR256 o i)).write (Elt F) y w Finset.univ)
  isplitr
  · ipureintro; exact fun j hj => write_out256 m c p h l w hw y hy j hj
  · iexact Ho

/-- Loading it back. -/
theorem wp_outL256 (c : Dev nD) (p : ℕ) {o : Fin 2 → ℕ} {i : inbO256 o} (h : o = ![256 * p, 0]) (l : List ℕ) (hp : p ∈ l) (w : S256x1024.Idx → Elt F .f32) (hw : Is256 m c p w)
    {hl} {K : (S256x1024.Idx → Elt F .f32) → Prog (TpuEff nD τ sig (Elt F) Λ₀ .tc) α} :
    OutP m c l ⊢ iprop((OutP m c l -∗ wp frame (wpE (defs₀ (F := F)) 𝒱₀ (c : Thread nD τ) none) Set.univ (K w) Q)
        -∗ wp frame (wpE (defs₀ (F := F)) 𝒱₀ (c : Thread nD τ) none) Set.univ (.op (.load (Memref.whole cc0_stg0_0) (oR256 o i).toLoadRect hl) K) Q) := by
  unfold OutP
  iintro ⟨%y, %hy, Ho⟩ Hk
  iapply (wp_ld c (Memref.whole cc0_stg0_0) (r := oR256 o i) w (Finset.subset_univ _) (by
    subst h
    funext x
    have h0 : (x 0).val < 256 := (x 0).isLt
    have hj0 : (((oR256 ![256 * p, 0] i).toLoadRect.idx x) 0).val = 256 * p + (x 0).val := by
      show 256 * p + 1 * (x 0).val = _; omega
    have hj1 : (((oR256 ![256 * p, 0] i).toLoadRect.idx x) 1).val = (x 1).val := by
      show 0 + 1 * (x 1).val = _; omega
    refine Eq.trans (hy ((oR256 ![256 * p, 0] i).toLoadRect.idx x) ?_) (hw x _ hj0 hj1).symm
    rw [hj0]
    rw [show (256 * p + (x 0).val) / 256 = p by omega]; exact hp)) $$ Ho
  iintro Ho
  iapply Hk
  iexists y
  isplitr; · ipureintro; exact hy
  iexact Ho
end

/-! ## Which rows the products are -/

theorem is_own (c : Dev nD) : Is512 m c c.val (yOwn m c) := by
  intro x i h0 h1
  have hx : (x 0).val < 512 := (x 0).isLt
  have hq : (i 0).val / 512 = c.val := by omega
  unfold YB
  rw [if_pos hq]
  congr 1
  funext a; apply Fin.ext
  match a with
  | 0 => show (x 0).val = (i 0).val % 512; omega
  | 1 => exact h1.symm

theorem is_rem (c : Dev nD) (j : ℕ) (hj0 : j % 8 ≠ 0) (hj4 : j % 8 ≠ 4) : Is512 m c (dv c j).val (yRem m c (dv c j)) := by
  intro x i h0 h1
  have hx : (x 0).val < 512 := (x 0).isLt
  have hc : c.val < 8 := c.isLt
  have hv : (dv c j).val = (c.val + j) % 8 := rfl
  have hv4 : (dv c 4).val = (c.val + 4) % 8 := rfl
  have hq : (i 0).val / 512 = (dv c j).val := by omega
  unfold YB
  rw [if_neg (by omega), if_neg (by omega)]
  congr 1
  · exact (show dv c j = ⟨(i 0).val / 512, by show _ < 8; omega⟩ from Fin.ext hq.symm)
  · funext a; apply Fin.ext
    match a with
    | 0 => show (x 0).val = (i 0).val % 512; omega
    | 1 => exact h1.symm

theorem is_half (c : Dev nD) (h : Fin 2) : Is256 m c (2 * (dv c 4).val + h.val) (yHalf m c (dv c 4) h) := by
  intro x i h0 h1
  have hx : (x 0).val < 256 := (x 0).isLt
  have hc : c.val < 8 := c.isLt
  have hh := h.isLt
  have hv4 : (dv c 4).val = (c.val + 4) % 8 := rfl
  have hq : (i 0).val / 512 = (dv c 4).val := by omega
  unfold YB
  rw [if_neg (by omega), if_pos hq]
  congr 1
  · exact (show h = ⟨(i 0).val / 256 % 2, Nat.mod_lt _ (by decide)⟩ from Fin.ext (by show h.val = (i 0).val / 256 % 2; omega))
  · funext a; apply Fin.ext
    match a with
    | 0 => show (x 0).val = (i 0).val % 256; omega
    | 1 => exact h1.symm

/-! ## Whole buffers read at once -/

/-- The bf16 rows of `w`, all made. -/
def WBP (c : Dev nD) : sProp 𝕄 := ((c : Thread nD τ).loc cc0_scratch2 : Loc nD τ sig) ↦{fullShare} (WB m c)
theorem wbP_done (c : Dev nD) : wbP m c 16 ⊢ WBP m c := by
  unfold wbP WBP
  iintro ⟨%v, %hv, H⟩
  have e : v = WB m c := funext fun i => hv i (by have : (i 0).val < 4096 := (i 0).isLt; omega)
  ihave H := (Entails.of_eq (congrArg (fun u => (((c : Thread nD τ).loc cc0_scratch2 : Loc nD τ sig) ↦{fullShare} u : sProp 𝕄)) e)) $$ H
  iexact H

section
variable {α : Type}
variable {Q : α → sProp (MT nD τ sig Unit (Elt F) ℕ UU ℕ)}
theorem wp_ldWB (c : Dev nD) {i} {hl} {K : (S4096x1024.Idx → Elt F .bf16) → Prog (TpuEff nD τ sig (Elt F) Λ₀ .tc) α} :
    WBP m c ⊢ iprop((WBP m c -∗ wp frame (wpE (defs₀ (F := F)) 𝒱₀ (c : Thread nD τ) none) Set.univ (K (WB m c)) Q)
        -∗ wp frame (wpE (defs₀ (F := F)) 𝒱₀ (c : Thread nD τ) none) Set.univ (.op (.load (Memref.whole cc0_scratch2) (Rect.unit (s := S4096x1024) ![0, 0] S4096x1024.size i).toLoadRect hl) K) Q) := by
  unfold WBP
  iintro H Hk
  iapply (wp_ld c (Memref.whole cc0_scratch2) (r := Rect.unit (s := S4096x1024) ![0, 0] S4096x1024.size i) (WB m c) (Finset.subset_univ _)
    (Memref.readAt_unit_zero (Elt F) cc0_scratch2 (by funext a; match a with | 0 => rfl | 1 => rfl) i (WB m c))) $$ H
  iexact Hk
theorem wp_ldOwn (c : Dev nD) (q : PosShare TreeShare) {i} {hl} {K : (S512x4096.Idx → Elt F .bf16) → Prog (TpuEff nD τ sig (Elt F) Λ₀ .tc) α} :
    ownP m c q ⊢ iprop((ownP m c q -∗ wp frame (wpE (defs₀ (F := F)) 𝒱₀ (c : Thread nD τ) none) Set.univ (K (ownV m c)) Q)
        -∗ wp frame (wpE (defs₀ (F := F)) 𝒱₀ (c : Thread nD τ) none) Set.univ (.op (.load (Memref.whole cc0_scratch0) (Rect.unit (s := S512x4096) ![0, 0] S512x4096.size i).toLoadRect hl) K) Q) := by
  unfold ownP
  iintro H Hk
  iapply (wp_ld c (Memref.whole cc0_scratch0) (r := Rect.unit (s := S512x4096) ![0, 0] S512x4096.size i) (ownV m c) (Finset.subset_univ _)
    (Memref.readAt_unit_zero (Elt F) cc0_scratch0 (by funext a; match a with | 0 => rfl | 1 => rfl) i (ownV m c))) $$ H
  iexact Hk
theorem wp_ldAM (c : Dev nD) (q : PosShare TreeShare) {i} {hl} {K : (S8x128.Idx → Elt F .f32) → Prog (TpuEff nD τ sig (Elt F) Λ₀ .tc) α} :
    (((c : Thread nD τ).loc cc0_scratch4 : Loc nD τ sig) ↦{q} (AM m) : sProp 𝕄) ⊢ iprop(((((c : Thread nD τ).loc cc0_scratch4 : Loc nD τ sig) ↦{q} (AM m)) -∗ wp frame (wpE (defs₀ (F := F)) 𝒱₀ (c : Thread nD τ) none) Set.univ (K (AM m)) Q)
        -∗ wp frame (wpE (defs₀ (F := F)) 𝒱₀ (c : Thread nD τ) none) Set.univ (.op (.load (Memref.whole cc0_scratch4) (Rect.unit (s := S8x128) ![0, 0] S8x128.size i).toLoadRect hl) K) Q) := by
  iintro H Hk
  iapply (wp_ld c (Memref.whole cc0_scratch4) (r := Rect.unit (s := S8x128) ![0, 0] S8x128.size i) (AM m) (Finset.subset_univ _)
    (Memref.readAt_unit_zero (Elt F) cc0_scratch4 (by funext a; match a with | 0 => rfl | 1 => rfl) i (AM m))) $$ H
  iexact Hk

/-! ## The device's own row of the maxima -/

/-- Writing it (after the load of what was there, which is dropped). -/
theorem wp_amS (c : Dev nD) {o : Fin 2 → ℕ} {i : inbA o} (h : o = ![c.val, 0]) {w : S1x128.Idx → Elt F .f32} (hw : w = mxRow m c)
    {hl} {x} {hm} {K : PUnit → Prog (TpuEff nD τ sig (Elt F) Λ₀ .tc) α} :
    perm c c ⊢ iprop((ap c fullShare c.val (AM m) -∗ wp frame (wpE (defs₀ (F := F)) 𝒱₀ (c : Thread nD τ) none) Set.univ (K ⟨⟩) Q)
        -∗ wp frame (wpE (defs₀ (F := F)) 𝒱₀ (c : Thread nD τ) none) Set.univ (.op (.load (Memref.whole cc0_scratch4) (Rect.unit (s := S8x128) o S1x128.size i).toLoadRect hl) fun _ =>
            .op (.store (Memref.whole cc0_scratch4) (Rect.unit (s := S8x128) o S1x128.size i) w Finset.univ x hm) K) Q) := by
  have e : ((Memref.whole cc0_scratch4 : Memref sig .tc .vmem S8x128 .f32).access (Rect.unit (s := S8x128) o S1x128.size i)).setOn Finset.univ = rows c.val 1 :=
    (View.set_slice_whole _ _).trans (set_rows i c.val 1 h rfl)
  have e2 : (Memref.whole cc0_scratch4 : Memref sig .tc .vmem S8x128 .f32).view.setOn (Rect.unit (s := S8x128) o S1x128.size i).toLoadRect.set = rows c.val 1 := by
    have e3 := (View.set_slice_whole (κ := .tc) (sig := sig) cc0_scratch4 (Rect.unit (s := S8x128) o S1x128.size i)).trans (set_rows i c.val 1 h rfl)
    rw [View.set_slice] at e3
    exact e3
  have ef : ∀ f : S8x128.Idx → Elt F .f32,
      ((((c : Thread nD τ).loc cc0_scratch4 : Loc nD τ sig) ↦[rows c.val 1]{fullShare} (((Memref.whole cc0_scratch4 : Memref sig .tc .vmem S8x128 .f32).access (Rect.unit (s := S8x128) o S1x128.size i)).write (Elt F) f w Finset.univ)) : sProp 𝕄)
        = (((c : Thread nD τ).loc cc0_scratch4 : Loc nD τ sig) ↦[rows c.val 1]{fullShare} (AM m)) := by
    intro f
    refine pointsTo_congr (fun j hj => ?_)
    rw [mem_rows] at hj
    subst h hw
    let x : S1x128.Idx := Shape.pair (d := ![1, 128]) ⟨0, by decide⟩ ⟨(j 1).val, (j 1).isLt⟩
    have hx : ((Memref.whole cc0_scratch4 : Memref sig .tc .vmem S8x128 .f32).access (Rect.unit (s := S8x128) ![c.val, 0] S1x128.size i)).emb x = j := by
      funext a; apply Fin.ext
      match a with
      | 0 => show c.val + 1 * 0 = (j 0).val; omega
      | 1 => show 0 + 1 * (j 1).val = (j 1).val; omega
    conv_lhs => rw [← hx]
    rw [View.write_emb_of_mem _ _ (Finset.mem_univ _)]
    unfold AM
    exact congrFun (congrArg (mxRow m) (Fin.ext (by show c.val = (j 0).val; omega))) x
  unfold perm
  iintro ⟨%f, H⟩ Hk
  unfold ap
  iapply (wp_load 𝒱₀ (c : Thread nD τ) none Set.univ (m := (Memref.whole cc0_scratch4 : Memref sig .tc .vmem S8x128 .f32)) (r := (Rect.unit (s := S8x128) o S1x128.size i).toLoadRect) (S := rows c.val 1) (f := f) (q := fullShare) e2.subset) $$ H
  iintro H
  iapply (wp_store 𝒱₀ (c : Thread nD τ) none Set.univ (Q := Q) (m := (Memref.whole cc0_scratch4 : Memref sig .tc .vmem S8x128 .f32)) (r := Rect.unit (s := S8x128) o S1x128.size i) (w := w) (Mk := Finset.univ) (hx := x) (hm := hm) (k := K) (f := f) (S := rows c.val 1) e.subset) $$ H
  iintro H
  iapply Hk
  ihave H := (Entails.of_eq (ef f)) $$ H
  iexact H
end

end Cert.Ring

end
-- ==== Proof.Facts.lean ====
/-
The offsets of the program at each device, what each transfer hands over, and the splittings of the buffers.
-/
module

public import proofs.«01_k».proof.Proof.Out

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The printed offsets, by device -/

/-! ## The transfers' semaphores -/

abbrev q1 : DmaSem sig := ⟨1, by decide⟩
abbrev q2 : DmaSem sig := ⟨2, by decide⟩
abbrev q3 : DmaSem sig := ⟨3, by decide⟩
abbrev q4 : DmaSem sig := ⟨4, by decide⟩
abbrev q5 : DmaSem sig := ⟨5, by decide⟩
abbrev q6 : DmaSem sig := ⟨6, by decide⟩
abbrev q7 : DmaSem sig := ⟨7, by decide⟩
abbrev q8 : DmaSem sig := ⟨8, by decide⟩
abbrev q9 : DmaSem sig := ⟨9, by decide⟩
abbrev q10 : DmaSem sig := ⟨10, by decide⟩
abbrev q11 : DmaSem sig := ⟨11, by decide⟩
abbrev q12 : DmaSem sig := ⟨12, by decide⟩
abbrev q13 : DmaSem sig := ⟨13, by decide⟩
abbrev q14 : DmaSem sig := ⟨14, by decide⟩
abbrev q15 : DmaSem sig := ⟨15, by decide⟩
abbrev q16 : DmaSem sig := ⟨16, by decide⟩
abbrev q17 : DmaSem sig := ⟨17, by decide⟩
abbrev q18 : DmaSem sig := ⟨18, by decide⟩
abbrev q19 : DmaSem sig := ⟨19, by decide⟩
abbrev q20 : DmaSem sig := ⟨20, by decide⟩
abbrev q21 : DmaSem sig := ⟨21, by decide⟩
abbrev q22 : DmaSem sig := ⟨22, by decide⟩
abbrev q23 : DmaSem sig := ⟨23, by decide⟩
abbrev q24 : DmaSem sig := ⟨24, by decide⟩
abbrev q25 : DmaSem sig := ⟨25, by decide⟩
abbrev q26 : DmaSem sig := ⟨26, by decide⟩
abbrev q27 : DmaSem sig := ⟨27, by decide⟩
abbrev q28 : DmaSem sig := ⟨28, by decide⟩
abbrev q29 : DmaSem sig := ⟨29, by decide⟩
abbrev q30 : DmaSem sig := ⟨30, by decide⟩
theorem off3_0 (c : Dev nD) : k0_off3 c 0#32 = ![512 * (dv c 7).val, 0] :=
  (k0_off3_eq c 0).trans (congrArg (fun n : ℕ => (![n, 0] : Fin 2 → ℕ)) (by have hc : c.val < 8 := c.isLt; show 512 * (((c.val + 7) - 0) % 8) = 512 * ((c.val + 7) % 8); omega))
theorem off5_0 (c : Dev nD) : k0_off5 c 0#32 = ![512 * (dv c 7).val, 0] :=
  (k0_off5_eq c 0).trans (congrArg (fun n : ℕ => (![n, 0] : Fin 2 → ℕ)) (by have hc : c.val < 8 := c.isLt; show 512 * (((c.val + 7) - 0) % 8) = 512 * ((c.val + 7) % 8); omega))
theorem off4_0 (c : Dev nD) : k0_off4 c 0#32 = ![512 * (dv c 1).val, 0] :=
  (k0_off4_eq c 0).trans (congrArg (fun n : ℕ => (![n, 0] : Fin 2 → ℕ)) (by have hc : c.val < 8 := c.isLt; show 512 * ((c.val + 0 + 1) % 8) = 512 * ((c.val + 1) % 8); omega))
theorem off6_0 (c : Dev nD) : k0_off6 c 0#32 = ![512 * (dv c 1).val, 0] :=
  (k0_off6_eq c 0).trans (congrArg (fun n : ℕ => (![n, 0] : Fin 2 → ℕ)) (by have hc : c.val < 8 := c.isLt; show 512 * ((c.val + 0 + 1) % 8) = 512 * ((c.val + 1) % 8); omega))
theorem off3_1 (c : Dev nD) : k0_off3 c 1#32 = ![512 * (dv c 6).val, 0] :=
  (k0_off3_eq c 1).trans (congrArg (fun n : ℕ => (![n, 0] : Fin 2 → ℕ)) (by have hc : c.val < 8 := c.isLt; show 512 * (((c.val + 7) - 1) % 8) = 512 * ((c.val + 6) % 8); omega))
theorem off5_1 (c : Dev nD) : k0_off5 c 1#32 = ![512 * (dv c 6).val, 0] :=
  (k0_off5_eq c 1).trans (congrArg (fun n : ℕ => (![n, 0] : Fin 2 → ℕ)) (by have hc : c.val < 8 := c.isLt; show 512 * (((c.val + 7) - 1) % 8) = 512 * ((c.val + 6) % 8); omega))
theorem off4_1 (c : Dev nD) : k0_off4 c 1#32 = ![512 * (dv c 2).val, 0] :=
  (k0_off4_eq c 1).trans (congrArg (fun n : ℕ => (![n, 0] : Fin 2 → ℕ)) (by have hc : c.val < 8 := c.isLt; show 512 * ((c.val + 1 + 1) % 8) = 512 * ((c.val + 2) % 8); omega))
theorem off6_1 (c : Dev nD) : k0_off6 c 1#32 = ![512 * (dv c 2).val, 0] :=
  (k0_off6_eq c 1).trans (congrArg (fun n : ℕ => (![n, 0] : Fin 2 → ℕ)) (by have hc : c.val < 8 := c.isLt; show 512 * ((c.val + 1 + 1) % 8) = 512 * ((c.val + 2) % 8); omega))
theorem off3_2 (c : Dev nD) : k0_off3 c 2#32 = ![512 * (dv c 5).val, 0] :=
  (k0_off3_eq c 2).trans (congrArg (fun n : ℕ => (![n, 0] : Fin 2 → ℕ)) (by have hc : c.val < 8 := c.isLt; show 512 * (((c.val + 7) - 2) % 8) = 512 * ((c.val + 5) % 8); omega))
theorem off5_2 (c : Dev nD) : k0_off5 c 2#32 = ![512 * (dv c 5).val, 0] :=
  (k0_off5_eq c 2).trans (congrArg (fun n : ℕ => (![n, 0] : Fin 2 → ℕ)) (by have hc : c.val < 8 := c.isLt; show 512 * (((c.val + 7) - 2) % 8) = 512 * ((c.val + 5) % 8); omega))
theorem off4_2 (c : Dev nD) : k0_off4 c 2#32 = ![512 * (dv c 3).val, 0] :=
  (k0_off4_eq c 2).trans (congrArg (fun n : ℕ => (![n, 0] : Fin 2 → ℕ)) (by have hc : c.val < 8 := c.isLt; show 512 * ((c.val + 2 + 1) % 8) = 512 * ((c.val + 3) % 8); omega))
theorem off6_2 (c : Dev nD) : k0_off6 c 2#32 = ![512 * (dv c 3).val, 0] :=
  (k0_off6_eq c 2).trans (congrArg (fun n : ℕ => (![n, 0] : Fin 2 → ℕ)) (by have hc : c.val < 8 := c.isLt; show 512 * ((c.val + 2 + 1) % 8) = 512 * ((c.val + 3) % 8); omega))
theorem off7_0 (c : Dev nD) : k0_off7 c 2#32 = ![512 * (dv c 5).val, 0] :=
  (k0_off7_eq c 0).trans (congrArg (fun n : ℕ => (![n, 0] : Fin 2 → ℕ)) (by have hc : c.val < 8 := c.isLt; show 512 * (((c.val + 5) - 0) % 8) = 512 * ((c.val + 5) % 8); omega))
theorem off8_0 (c : Dev nD) : k0_off8 c 2#32 = ![512 * (dv c 3).val + 256, 0] :=
  (k0_off8_eq c 0).trans (congrArg (fun n : ℕ => (![n, 0] : Fin 2 → ℕ)) (by have hc : c.val < 8 := c.isLt; show 512 * ((c.val + 0 + 3) % 8) + 256 = 512 * ((c.val + 3) % 8) + 256; omega))
theorem off7_1 (c : Dev nD) : k0_off7 c 3#32 = ![512 * (dv c 4).val, 0] :=
  (k0_off7_eq c 1).trans (congrArg (fun n : ℕ => (![n, 0] : Fin 2 → ℕ)) (by have hc : c.val < 8 := c.isLt; show 512 * (((c.val + 5) - 1) % 8) = 512 * ((c.val + 4) % 8); omega))
theorem off8_1 (c : Dev nD) : k0_off8 c 3#32 = ![512 * (dv c 4).val + 256, 0] :=
  (k0_off8_eq c 1).trans (congrArg (fun n : ℕ => (![n, 0] : Fin 2 → ℕ)) (by have hc : c.val < 8 := c.isLt; show 512 * ((c.val + 1 + 3) % 8) + 256 = 512 * ((c.val + 4) % 8) + 256; omega))
theorem off9_0 (c : Dev nD) : k0_off9 c = ![256 * (2 * (dv c 4).val + 0), 0] :=
  (k0_off9_eq c).trans (congrArg (fun n : ℕ => (![n, 0] : Fin 2 → ℕ)) (by have hc : c.val < 8 := c.isLt; show 512 * ((c.val + 4) % 8) = 256 * (2 * ((c.val + 4) % 8) + 0); omega))
theorem off10_0 (c : Dev nD) : k0_off10 c = ![256 * (2 * (dv c 4).val + 1), 0] :=
  (k0_off10_eq c).trans (congrArg (fun n : ℕ => (![n, 0] : Fin 2 → ℕ)) (by have hc : c.val < 8 := c.isLt; show 512 * ((c.val + 4) % 8) + 256 = 256 * (2 * ((c.val + 4) % 8) + 1); omega))

/-! ## What the sends hand over and the waits receive -/

theorem give6 (c : Dev nD) : iprop(gp (dv c 1) fullShare (512 * (dv c 7).val) 512 (GF m) ∗ permsUp (dv c 7) 3 (dv c 1)) ⊢ payQ m (dv c 1) 6 :=
  Entails.of_eq (by simp only [payQ, dv_dv, Nat.reduceAdd])
theorem give7 (c : Dev nD) : iprop(gp (dv c 1) fullShare (512 * (dv c 6).val) 512 (GF m) ∗ permsUp (dv c 6) 2 (dv c 1)) ⊢ payQ m (dv c 1) 7 :=
  Entails.of_eq (by simp only [payQ, dv_dv, Nat.reduceAdd])
theorem give8 (c : Dev nD) : iprop(gp (dv c 1) fullShare (512 * (dv c 5).val) 256 (GF m) ∗ permsUp (dv c 5) 1 (dv c 1)) ⊢ payQ m (dv c 1) 8 :=
  Entails.of_eq (by simp only [payQ, dv_dv, Nat.reduceAdd])
theorem give5 (c : Dev nD) : iprop(gp (dv c 1) fullShare (512 * c.val) 512 (GF m) ∗ permsUp c 4 (dv c 1)) ⊢ payQ m (dv c 1) 5 :=
  Entails.of_eq (by simp only [payQ, dv_dv, Nat.reduceAdd, dv_eight])
theorem give13 (c : Dev nD) : iprop(gp (dv c 7) fullShare (512 * c.val) 512 (GF m) ∗ permsDn c 3 (dv c 7)) ⊢ payQ m (dv c 7) 13 :=
  Entails.of_eq (by simp only [payQ, dv_dv, Nat.reduceAdd, dv_eight])
theorem give14 (c : Dev nD) : iprop(gp (dv c 7) fullShare (512 * (dv c 1).val) 512 (GF m) ∗ permsDn (dv c 1) 2 (dv c 7)) ⊢ payQ m (dv c 7) 14 :=
  Entails.of_eq (by simp only [payQ, dv_dv, Nat.reduceAdd, dv9])
theorem give15 (c : Dev nD) : iprop(gp (dv c 7) fullShare (512 * (dv c 2).val) 512 (GF m) ∗ permsDn (dv c 2) 1 (dv c 7)) ⊢ payQ m (dv c 7) 15 :=
  Entails.of_eq (by simp only [payQ, dv_dv, Nat.reduceAdd, dv10])
theorem give16 (c : Dev nD) : iprop(gp (dv c 7) fullShare (512 * (dv c 3).val + 256) 256 (GF m) ∗ permsDn (dv c 3) 0 (dv c 7)) ⊢ payQ m (dv c 7) 16 :=
  Entails.of_eq (by simp only [payQ, dv_dv, Nat.reduceAdd, dv11])
theorem give24 (c : Dev nD) : ap (dv c 1) fullShare c.val (AM m) ⊢ payQ m (dv c 1) 24 :=
  Entails.of_eq (by simp only [payQ, dv_dv, Nat.reduceAdd, dv_eight])
theorem give25 (c : Dev nD) : ap (dv c 2) fullShare c.val (AM m) ⊢ payQ m (dv c 2) 25 :=
  Entails.of_eq (by simp only [payQ, dv_dv, Nat.reduceAdd, dv_eight])
theorem give26 (c : Dev nD) : ap (dv c 3) fullShare c.val (AM m) ⊢ payQ m (dv c 3) 26 :=
  Entails.of_eq (by simp only [payQ, dv_dv, Nat.reduceAdd, dv_eight])
theorem give27 (c : Dev nD) : ap (dv c 4) fullShare c.val (AM m) ⊢ payQ m (dv c 4) 27 :=
  Entails.of_eq (by simp only [payQ, dv_dv, Nat.reduceAdd, dv_eight])
theorem give28 (c : Dev nD) : ap (dv c 5) fullShare c.val (AM m) ⊢ payQ m (dv c 5) 28 :=
  Entails.of_eq (by simp only [payQ, dv_dv, Nat.reduceAdd, dv_eight])
theorem give29 (c : Dev nD) : ap (dv c 6) fullShare c.val (AM m) ⊢ payQ m (dv c 6) 29 :=
  Entails.of_eq (by simp only [payQ, dv_dv, Nat.reduceAdd, dv_eight])
theorem give30 (c : Dev nD) : ap (dv c 7) fullShare c.val (AM m) ⊢ payQ m (dv c 7) 30 :=
  Entails.of_eq (by simp only [payQ, dv_dv, Nat.reduceAdd, dv_eight])
theorem take5 (c : Dev nD) : payQ m c 5 ⊢ iprop(gp c fullShare (512 * (dv c 7).val) 512 (GF m) ∗ perm (dv c 7) c ∗ permsUp (dv c 7) 3 (dv c 1)) := Entails.of_eq rfl
theorem take6 (c : Dev nD) : payQ m c 6 ⊢ iprop(gp c fullShare (512 * (dv c 6).val) 512 (GF m) ∗ perm (dv c 6) c ∗ permsUp (dv c 6) 2 (dv c 1)) := Entails.of_eq rfl
theorem take7 (c : Dev nD) : payQ m c 7 ⊢ iprop(gp c fullShare (512 * (dv c 5).val) 512 (GF m) ∗ perm (dv c 5) c ∗ permsUp (dv c 5) 1 (dv c 1)) := Entails.of_eq rfl
theorem take8 (c : Dev nD) : payQ m c 8 ⊢ iprop(gp c fullShare (512 * (dv c 4).val) 256 (GF m) ∗ perm (dv c 4) c ∗ permsUp (dv c 4) 0 (dv c 1)) := Entails.of_eq rfl
theorem take13 (c : Dev nD) : payQ m c 13 ⊢ iprop(gp c fullShare (512 * (dv c 1).val) 512 (GF m) ∗ perm (dv c 1) c ∗ permsDn (dv c 1) 2 (dv c 7)) := Entails.of_eq rfl
theorem take14 (c : Dev nD) : payQ m c 14 ⊢ iprop(gp c fullShare (512 * (dv c 2).val) 512 (GF m) ∗ perm (dv c 2) c ∗ permsDn (dv c 2) 1 (dv c 7)) := Entails.of_eq rfl
theorem take15 (c : Dev nD) : payQ m c 15 ⊢ iprop(gp c fullShare (512 * (dv c 3).val) 512 (GF m) ∗ perm (dv c 3) c ∗ permsDn (dv c 3) 0 (dv c 7)) := Entails.of_eq rfl
theorem take16 (c : Dev nD) : payQ m c 16 ⊢ iprop(gp c fullShare (512 * (dv c 4).val + 256) 256 (GF m) ∗ emp) := Entails.of_eq rfl

/-- The rows a device's two neighbours have given it leave to write, in its own terms. -/
theorem landR_from (c : Dev nD) : landR m (dv c 1) ⊢ iprop(gp (dv c 1) fullShare (512 * c.val) 512 (G0 m (dv c 1)) ∗ gp (dv c 1) fullShare (512 * (dv c 7).val) 512 (G0 m (dv c 1))
    ∗ gp (dv c 1) fullShare (512 * (dv c 6).val) 512 (G0 m (dv c 1)) ∗ gp (dv c 1) fullShare (512 * (dv c 5).val) 256 (G0 m (dv c 1))) :=
  Entails.of_eq (by simp only [landR, dv_dv, Nat.reduceAdd, dv_eight])
theorem landL_from (c : Dev nD) : landL m (dv c 7) ⊢ iprop(gp (dv c 7) fullShare (512 * c.val) 512 (G0 m (dv c 7)) ∗ gp (dv c 7) fullShare (512 * (dv c 1).val) 512 (G0 m (dv c 7))
    ∗ gp (dv c 7) fullShare (512 * (dv c 2).val) 512 (G0 m (dv c 7)) ∗ gp (dv c 7) fullShare (512 * (dv c 3).val + 256) 256 (G0 m (dv c 7))) :=
  Entails.of_eq (by simp only [landL, dv_dv, Nat.reduceAdd, dv_eight, dv9, dv10, dv11])
theorem barPay_left (c : Dev nD) : landR m c ⊢ barPay m (dv c 7) false :=
  Entails.of_eq (by unfold barPay; rw [if_neg (by decide), dv_dv, dv_eight])
theorem barPay_right (c : Dev nD) : landL m c ⊢ barPay m (dv c 1) true :=
  Entails.of_eq (by unfold barPay; rw [if_pos rfl, dv_dv, dv_eight])

/-! ## Splitting rows -/

theorem gp_halve (c : Dev nD) (q : PosShare TreeShare) (a n : ℕ) (f : S4096x4096.Idx → Elt F .bf16) :
    gp c q a n f ⊢ iprop(gp c q.left a n f ∗ gp c q.right a n f) := by
  unfold gp; exact (pointsTo_share (PosShare.mem_left_op_right q)).1
theorem gp_cut (c : Dev nD) (q : PosShare TreeShare) (a n k : ℕ) (h : k ≤ n) (f : S4096x4096.Idx → Elt F .bf16) :
    gp c q a n f ⊢ iprop(gp c q a k f ∗ gp c q (a + k) (n - k) f) := by
  unfold gp
  have hs : (rows a n : Finset S4096x4096.Idx) \ rows a k = rows (a + k) (n - k) := by
    ext i; rw [Finset.mem_sdiff, mem_rows, mem_rows, mem_rows]; omega
  have h1 := (pointsTo_split_subset (Ix := Unit) (Name := ℕ) (U := UU) (Lvl := ℕ) (ℓ := ((c : Thread nD τ).loc main_v1_1 : Loc nD τ sig)) (q := q) (f := f)
    (I := rows a k) (S := rows a n) (fun i hi => by rw [mem_rows] at hi ⊢; omega)).1
  rw [hs] at h1
  exact h1
theorem own_halve (c : Dev nD) (q : PosShare TreeShare) : ownP m c q ⊢ iprop(ownP m c q.left ∗ ownP m c q.right) := by
  unfold ownP; exact (pointsTo_share (PosShare.mem_left_op_right q)).1
theorem own_join (c : Dev nD) (q : PosShare TreeShare) : iprop(ownP m c q.left ∗ ownP m c q.right) ⊢ ownP m c q := by
  unfold ownP; exact (pointsTo_share (PosShare.mem_left_op_right q)).2
theorem ap_halve (c : Dev nD) (q : PosShare TreeShare) (a : ℕ) (f : S8x128.Idx → Elt F .f32) :
    ap c q a f ⊢ iprop(ap c q.left a f ∗ ap c q.right a f) := by
  unfold ap; exact (pointsTo_share (PosShare.mem_left_op_right q)).1
theorem ap_join (c : Dev nD) (q : PosShare TreeShare) (a : ℕ) (f : S8x128.Idx → Elt F .f32) :
    iprop(ap c q.left a f ∗ ap c q.right a f) ⊢ ap c q a f := by
  unfold ap; exact (pointsTo_share (PosShare.mem_left_op_right q)).2
theorem wA_join (c : Dev nD) : iprop(wA m c fullShare.left ∗ wA m c fullShare.right) ⊢ wA m c fullShare := by
  unfold wA; exact (pointsTo_share (PosShare.mem_left_op_right fullShare)).2

/-! ## The chunk buffer's values -/

theorem chunk_val (o : Dev nD) (x : S1x512x4096.Idx) (j : S4096x4096.Idx) (h0 : (j 0).val = 512 * o.val + (x 1).val) (h1 : (j 1).val = (x 2).val) :
    GF m j = chunkV m o x := by
  unfold chunkV
  congr 1
  funext a; apply Fin.ext
  match a with
  | 0 => exact h0
  | 1 => exact h1
theorem half_val (o : Dev nD) (h : Fin 2) (x : S1x256x4096.Idx) (j : S4096x4096.Idx) (h0 : (j 0).val = 512 * o.val + 256 * h.val + (x 1).val) (h1 : (j 1).val = (x 2).val) :
    GF m j = halfV m o h x := by
  unfold halfV
  congr 1
  funext a; apply Fin.ext
  match a with
  | 0 => exact h0
  | 1 => exact h1
theorem dev_le (c : Dev nD) (j : ℕ) : 512 * (dv c j).val + 512 ≤ 4096 := by
  have : (dv c j).val < 8 := (dv c j).isLt
  omega

end Cert.Ring

end
-- ==== Proof.PartsA.lean ====
/-
The first two parts of the body: the barrier, the device's own bf16 block and its two sends.
-/
module

public import proofs.«01_k».proof.Proof.PartsW
public import proofs.«01_k».proof.Proof.Moves
public import proofs.«01_k».proof.Proof.Facts

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The argument `x`. -/
def xA (c : Dev nD) : sProp 𝕄 :=
  ((c : Thread nD τ).loc main_arg0 : Loc nD τ sig) ↦{fullShare} (m ((c : Thread nD τ).loc main_arg0))
/-- The staging buffer, whole. -/
def stA (c : Dev nD) (f : S512x4096.Idx → Elt F .f32) : sProp 𝕄 :=
  ((c : Thread nD τ).loc cc0_scratch3 : Loc nD τ sig) ↦{fullShare} f
def NX : ℕ := (Memref.whole cc0_scratch3 : Memref sig .tc .vmem S512x4096 .f32).view.dmaCredit
theorem NX_pos : 0 < NX := View.dmaCredit_pos _ (by decide)
def TX (c : Dev nD) : sProp 𝕄 := iprop(stA c (m ((c : Thread nD τ).loc main_arg0)) ∗ xA m c)

section
variable {α : Type}
variable {Q : α → sProp (MT nD τ sig Unit (Elt F) ℕ UU ℕ)}

/-- Starting the copy of `x` into the staging buffer. -/
theorem wp_enqX (c : Dev nD) {hsrc : (Memref.whole main_arg0 : Memref sig .tc .hbm S512x4096 .f32).view.WordExact} {hdst : (Memref.whole cc0_scratch3 : Memref sig .tc .vmem S512x4096 .f32).view.WordExact}
    {hsem : DmaTarget.Typed (nD := nD) (τ := τ) (p := .tc) .hbm (.dma (lq 0)) (.here (Memref.whole cc0_scratch3 : Memref sig .tc .vmem S512x4096 .f32))}
    {K : PUnit → Prog (TpuEff nD τ sig (Elt F) Λ₀ .tc) α} :
    iprop(semVal (dcell c (lq 0)) 0 ∗ (∃ f, stA c f) ∗ xA m c)
      ⊢ iprop((Fl c (lq 0) NX (TX m c) -∗ wp frame (wpE (defs₀ (F := F)) 𝒱₀ (c : Thread nD τ) none) Set.univ (K ⟨⟩) Q)
        -∗ wp frame (wpE (defs₀ (F := F)) 𝒱₀ (c : Thread nD τ) none) Set.univ (.op (.enqueueDma (Memref.whole main_arg0) (.here (Memref.whole cc0_scratch3)) (.dma (lq 0)) hsrc hdst hsem) K) Q) := by
  have ex : xA m c = ((Memref.whole main_arg0 : Memref sig .tc .hbm S512x4096 .f32).view.loc (c : Thread nD τ)
      ↦[(Memref.whole main_arg0 : Memref sig .tc .hbm S512x4096 .f32).view.set]{fullShare} (m ((c : Thread nD τ).loc main_arg0)) : sProp 𝕄) := by
    rw [show (Memref.whole main_arg0 : Memref sig .tc .hbm S512x4096 .f32).view.set = Finset.univ from View.set_whole _]; rfl
  have hT : ∀ fd : S512x4096.Idx → Elt F .f32, iprop((((Memref.whole cc0_scratch3 : Memref sig .tc .vmem S512x4096 .f32).view.loc (c : Thread nD τ) ↦{fullShare}
        ((Memref.whole cc0_scratch3 : Memref sig .tc .vmem S512x4096 .f32).view.write (Elt F) fd ((Memref.whole main_arg0 : Memref sig .tc .hbm S512x4096 .f32).view.read (Elt F) (m ((c : Thread nD τ).loc main_arg0))) Finset.univ))
        ∗ ((Memref.whole main_arg0 : Memref sig .tc .hbm S512x4096 .f32).view.loc (c : Thread nD τ)
      ↦[(Memref.whole main_arg0 : Memref sig .tc .hbm S512x4096 .f32).view.set]{fullShare} (m ((c : Thread nD τ).loc main_arg0)))) ∗ emp) ⊢ TX m c := by
    intro fd
    have ew : (Memref.whole cc0_scratch3 : Memref sig .tc .vmem S512x4096 .f32).view.write (Elt F) fd ((Memref.whole main_arg0 : Memref sig .tc .hbm S512x4096 .f32).view.read (Elt F) (m ((c : Thread nD τ).loc main_arg0))) Finset.univ
        = (m ((c : Thread nD τ).loc main_arg0) : S512x4096.Idx → Elt F .f32) := View.write_whole_univ ..
    rw [ew, ← ex]
    unfold TX stA
    iintro ⟨⟨H1, H2⟩, -⟩
    isplitl [H1]; · iexact H1
    iexact H2
  iintro ⟨Hv, ⟨%fd, Hst⟩, Hx⟩ Hk
  ihave Hx := (Entails.of_eq ex) $$ Hx
  iapply (wp_cp (src := Memref.whole main_arg0) (dst := Memref.whole cc0_scratch3) (hsrc := hsrc) (hdst := hdst) (hsem := hsem) c (lq 0) NX (TX m c) iprop(emp) (Sd := Finset.univ) (fd := fd) (fs := m ((c : Thread nD τ).loc main_arg0)) (sh := fullShare) (k := K) rfl NX_pos
      (Finset.subset_univ _) (hT fd)) $$ [Hv Hst Hx]
  · isplitl [Hx]; · iexact Hx
    isplitl [Hst]; · unfold stA; iexact Hst
    isplitl [Hv]; · iexact Hv
    iempintro
  iexact Hk

/-- Reading the staged `x`. -/
theorem wp_ldX (c : Dev nD) (f : S512x4096.Idx → Elt F .f32) {i} {hl} {K : (S512x4096.Idx → Elt F .f32) → Prog (TpuEff nD τ sig (Elt F) Λ₀ .tc) α} :
    stA c f ⊢ iprop((stA c f -∗ wp frame (wpE (defs₀ (F := F)) 𝒱₀ (c : Thread nD τ) none) Set.univ (K f) Q)
        -∗ wp frame (wpE (defs₀ (F := F)) 𝒱₀ (c : Thread nD τ) none) Set.univ (.op (.load (Memref.whole cc0_scratch3) (Rect.unit (s := S512x4096) ![0, 0] S512x4096.size i).toLoadRect hl) K) Q) := by
  unfold stA
  iintro H Hk
  iapply (wp_ld c (Memref.whole cc0_scratch3) (r := Rect.unit (s := S512x4096) ![0, 0] S512x4096.size i) f (Finset.subset_univ _)
    (Memref.readAt_unit_zero (Elt F) cc0_scratch3 (by funext a; match a with | 0 => rfl | 1 => rfl) i f)) $$ H
  iexact Hk

/-- Writing its bf16 copy (after the load of what was there, which is dropped). -/
theorem wp_stOwn (c : Dev nD) {i} {hl} {x} {hm} {w : S512x4096.Idx → Elt F .bf16} (hw : w = ownV m c) {K : PUnit → Prog (TpuEff nD τ sig (Elt F) Λ₀ .tc) α} :
    (iprop(∃ f, ((c : Thread nD τ).loc cc0_scratch0 : Loc nD τ sig) ↦{fullShare} f) : sProp 𝕄) ⊢ iprop((ownP m c fullShare -∗ wp frame (wpE (defs₀ (F := F)) 𝒱₀ (c : Thread nD τ) none) Set.univ (K ⟨⟩) Q)
        -∗ wp frame (wpE (defs₀ (F := F)) 𝒱₀ (c : Thread nD τ) none) Set.univ (.op (.load (Memref.whole cc0_scratch0) (Rect.unit (s := S512x4096) ![0, 0] S512x4096.size i).toLoadRect hl) fun _ =>
          .op (.store (Memref.whole cc0_scratch0) (Rect.unit (s := S512x4096) ![0, 0] S512x4096.size i) w Finset.univ x hm) K) Q) := by
  subst hw
  iintro ⟨%f, H⟩ Hk
  iapply (wp_ld0 c (Memref.whole cc0_scratch0) (Rect.unit (s := S512x4096) ![0, 0] S512x4096.size i)) $$ H
  iintro H
  iapply (wp_st c (Memref.whole cc0_scratch0) (Rect.unit (s := S512x4096) ![0, 0] S512x4096.size i)) $$ H
  iintro H
  iapply Hk
  unfold ownP
  ihave H := (Entails.of_eq (congrArg (fun u => (((c : Thread nD τ).loc cc0_scratch0 : Loc nD τ sig) ↦{fullShare} u : sProp 𝕄))
    (Memref.write_access_unit_zero_univ (Elt F) cc0_scratch0 (by funext a; match a with | 0 => rfl | 1 => rfl) i f (ownV m c)))) $$ H
  iexact H
end

theorem stage_cut (c : Dev nD) (f : S512x4096.Idx → Elt F .f32) :
    stA c f ⊢ iprop(stP c 0 f ∗ stP c 1 f ∗ (((c : Thread nD τ).loc cc0_scratch3 : Loc nD τ sig) ↦[(Finset.univ \ slotW 0) \ slotW 1]{fullShare} f)) := by
  unfold stA stP
  iintro H
  ihave H := (pointsTo_split_subset (Ix := Unit) (Name := ℕ) (U := UU) (Lvl := ℕ) (ℓ := ((c : Thread nD τ).loc cc0_scratch3 : Loc nD τ sig)) (q := fullShare) (f := f)
    (I := slotW 0) (S := Finset.univ) (Finset.subset_univ _)).1 $$ H
  icases H with ⟨H0, H⟩
  have hs : slotW 1 ⊆ Finset.univ \ slotW 0 := fun i hi => by
    rw [Finset.mem_sdiff, mem_slotW]; rw [mem_slotW] at hi
    refine ⟨Finset.mem_univ _, fun h => ?_⟩
    have h1 : 1024 * 1 ≤ (i 1).val := hi.2.1
    have h2 : (i 1).val < 1024 * 0 + 1024 := h.2.2
    omega
  ihave H := (pointsTo_split_subset (Ix := Unit) (Name := ℕ) (U := UU) (Lvl := ℕ) (ℓ := ((c : Thread nD τ).loc cc0_scratch3 : Loc nD τ sig)) (q := fullShare) (f := f)
    (I := slotW 1) (S := Finset.univ \ slotW 0) hs).1 $$ H
  icases H with ⟨H1, H⟩
  isplitl [H0]; · iexact H0
  isplitl [H1]; · iexact H1
  iexact H

/-- The barrier, the device's own bf16 block. -/
theorem part1 (c : Dev nD)  : iprop(Ctx m ∗ Due c 17 ∗ dutyTok ER (barCell (dv c 7)) 0 false ∗ landR m c ∗ dutyTok ER (barCell (dv c 1)) 0 true ∗ landL m c ∗ atPos ER (barCell c) 0 ∅ 0 ∗ cred (tallyAt (barCell c) () 2) ∗ semVal (dcell c (lq 0)) 0 ∗ xA m c ∗ (∃ f, stA (F := F) c f) ∗ (∃ f, ((c : Thread nD τ).loc cc0_scratch0 : Loc nD τ sig) ↦{fullShare} f))
    ⊢ wp frame (wpE (defs₀ (F := F)) 𝒱₀ (c : Thread nD τ) none) Set.univ (k0_part1 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 )
      (fun r => iprop(⌜r.1 = c⌝ ∗ Due c 15 ∗ landR m (dv c 1) ∗ landL m (dv c 7) ∗ semVal (barCell c) 0 ∗ semVal (dcell c (lq 0)) 0 ∗ xA m c ∗ (∃ f, stA (F := F) c f) ∗ ownP m c fullShare)) := by
  iintro ⟨#HC, HO, Ht7, HR, Ht1, HL, Hat, Hcr, Hv0, Hx, Hst, Hown⟩
  simp only [k0_part1_eq_skeleton]; unfold k0_part1_skel
  simp only [semSignalWord, semWaitWord, Prog.lift, Prog.bind_op, Prog.bind_ret, Prog.pure_eq_ret, Prog.bind_assoc]
  simp only [sem31]
  simp only [wp_deviceId, dev1_eq, dev2_eq]
  ihave HR := (barPay_left m c) $$ HR
  iapply (wp_sig m c (dv c 7) false 16 rfl rfl) $$ [HO Ht7 HR]
  · isplitr; · iexact HC
    isplitl [HO]; · iexact HO
    isplitl [Ht7]; · iexact Ht7
    iexact HR
  iintro HO
  ihave HL := (barPay_right m c) $$ HL
  iapply (wp_sig m c (dv c 1) true 15 rfl rfl) $$ [HO Ht1 HL]
  · isplitr; · iexact HC
    isplitl [HO]; · iexact HO
    isplitl [Ht1]; · iexact Ht1
    iexact HL
  iintro HO
  iapply (wp_enqX m c) $$ [Hv0 Hst Hx]
  · isplitl [Hv0]; · iexact Hv0
    isplitl [Hst]; · iexact Hst
    iexact Hx
  iintro HF
  iapply (wp_wl m c (lq 0) (by decide) NX 15 (TX m c) rfl) $$ [HO HF]
  · isplitr; · iexact HC
    isplitl [HO]; · iexact HO
    iexact HF
  iintro ⟨HT, Hv0, HO⟩
  unfold TX
  icases HT with ⟨Hst, Hx⟩
  iapply (wp_ldX c (m ((c : Thread nD τ).loc main_arg0))) $$ Hst
  iintro Hst
  iapply (wp_stOwn m c rfl) $$ Hown
  iintro Hown
  iapply (wp_bar m c 15 rfl (by decide)) $$ [HO Hat Hcr]
  · isplitr; · iexact HC
    isplitl [HO]; · iexact HO
    isplitl [Hat]; · iexact Hat
    iexact Hcr
  iintro ⟨HR, HL, Hvb, HO⟩
  iapply (le_wp_ret frame (wpE (defs₀ (F := F)) 𝒱₀ (c : Thread nD τ) none) Set.univ)
  isplitr; · ipureintro; rfl
  isplitl [HO]; · iexact HO
  isplitl [HR]; · iexact HR
  isplitl [HL]; · iexact HL
  isplitl [Hvb]; · iexact Hvb
  isplitl [Hv0]; · iexact Hv0
  isplitl [Hx]; · iexact Hx
  isplitl [Hst]; · iexists _; iexact Hst
  iexact Hown

/-- Both sends of the device's block, and the first block of `w`. -/
theorem part2 (c : Dev nD) (v2 v5 : BitVec 32) : iprop(Ctx m ∗ Due c 15 ∗ Snd c (dv c 1) q1 q5 ∗ Snd c (dv c 7) q9 q13 ∗ ownP m c fullShare.left.left ∗ ownP m c fullShare.left.right ∗ gp (dv c 1) fullShare (512 * c.val) 512 (G0 m (dv c 1)) ∗ gp (dv c 7) fullShare (512 * c.val) 512 (G0 m (dv c 7)) ∗ permsUp c 4 (dv c 1) ∗ permsDn c 3 (dv c 7) ∗ semVal (dcell c (lq 0)) 0 ∗ semVal (dcell c (lq 1)) 0 ∗ (∃ f, stP (F := F) c 0 f) ∗ (∃ f, stP (F := F) c 1 f) ∗ wA m c fullShare.left ∗ wA m c fullShare.right ∗ wbP m c 0)
    ⊢ wp frame (wpE (defs₀ (F := F)) 𝒱₀ (c : Thread nD τ) none) Set.univ (k0_part2 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v5)
      (fun r => iprop(Due c 13 ∗ Rcv c q1 ∗ Rcv c q9 ∗ WS m c 1)) := by
  iintro ⟨#HC, HO, HS1, HS9, Ho1, Ho2, Hg1, Hg7, Hp, Hq, Hv0, Hv1, Hs0, Hs1, Hw0, Hw1, Hwb⟩
  simp only [k0_part2_eq_skeleton]; unfold k0_part2_skel
  simp only [semSignalWord, semWaitWord, Prog.lift, Prog.bind_op, Prog.bind_ret, Prog.pure_eq_ret, Prog.bind_assoc]
  simp only [sem1, sem5, sem9, sem13, sem31, sem32]
  iapply (wp_own m c (dv c 1) (dev3_eq c) q1 q5 14 (by decide) (by decide) (by decide) (by decide) rfl rfl rfl (k0_off1_eq c) (sh := fullShare.left.left) (R := permsUp c 4 (dv c 1)) (Entails.of_eq rfl) (give5 m c)) $$ [HO HS1 Ho1 Hg1 Hp]
  · isplitr; · iexact HC
    isplitl [HO]; · iexact HO
    isplitl [HS1]; · iexact HS1
    isplitl [Ho1]; · iexact Ho1
    isplitl [Hg1]; · iexact Hg1
    iexact Hp
  iintro ⟨HR1, HO⟩
  iapply (wp_own m c (dv c 7) (dev4_eq c) q9 q13 13 (by decide) (by decide) (by decide) (by decide) rfl rfl rfl (k0_off1_eq c) (sh := fullShare.left.right) (R := permsDn c 3 (dv c 7)) (Entails.of_eq rfl) (give13 m c)) $$ [HO HS9 Ho2 Hg7 Hq]
  · isplitr; · iexact HC
    isplitl [HO]; · iexact HO
    isplitl [HS9]; · iexact HS9
    isplitl [Ho2]; · iexact Ho2
    isplitl [Hg7]; · iexact Hg7
    iexact Hq
  iintro ⟨HR9, HO⟩
  iapply (wp_enqW m c 0 0 fullShare.left rfl rfl) $$ [Hv0 Hs0 Hw0]
  · isplitl [Hv0]; · iexact Hv0
    isplitl [Hs0]; · iexact Hs0
    iexact Hw0
  iintro HF0
  iapply (wp_enqW m c 1 1 fullShare.right rfl rfl) $$ [Hv1 Hs1 Hw1]
  · isplitl [Hv1]; · iexact Hv1
    isplitl [Hs1]; · iexact Hs1
    iexact Hw1
  iintro HF1
  iapply (wp_finW m c 0 0 fullShare.left 13 rfl rfl (P := k0_pay3) rfl) $$ [HO HF0 Hwb]
  · isplitr; · iexact HC
    isplitl [HO]; · iexact HO
    isplitl [HF0]; · iexact HF0
    iexact Hwb
  iintro ⟨Hv0, Hs0, Hw0, Hwb, HO⟩
  iapply (le_wp_ret frame (wpE (defs₀ (F := F)) 𝒱₀ (c : Thread nD τ) none) Set.univ)
  isplitl [HO]; · iexact HO
  isplitl [HR1]; · iexact HR1
  isplitl [HR9]; · iexact HR9
  unfold WS; isplitl [HF1]; · iexact HF1
  isplitl [Hv0]; · iexact Hv0
  isplitl [Hs0]; · iexact Hs0
  isplitl [Hw0]; · iexact Hw0
  iexact Hwb

end Cert.Ring

end
-- ==== Proof.PartsB.lean ====
/-
The products: each block arrives, goes on round the ring, and is multiplied.
-/
module

public import proofs.«01_k».proof.Proof.PartsA

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The last block of `w`, and the device's own product. -/
theorem part10 (c : Dev nD) (v2 : BitVec 32) : iprop(Ctx m ∗ Due c 13 ∗ WS m c 15 ∗ ownP m c fullShare.right ∗ OutP m c [])
    ⊢ wp frame (wpE (defs₀ (F := F)) 𝒱₀ (c : Thread nD τ) none) Set.univ (k0_part10 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2)
      (fun r => iprop(⌜r.1 = mx0 m c⌝ ∗ Due c 13 ∗ WBP m c ∗ wA m c fullShare ∗ semVal (dcell c (lq 0)) 0 ∗ semVal (dcell c (lq 1)) 0 ∗ (∃ f, stP (F := F) c 0 f) ∗ (∃ f, stP (F := F) c 1 f) ∗ ownP m c fullShare.right ∗ OutP m c ([2 * c.val, 2 * c.val + 1]))) := by
  iintro ⟨#HC, HO, HW, Hown, Ho⟩
  simp only [k0_part10_eq_skeleton]; unfold k0_part10_skel
  simp only [semSignalWord, semWaitWord, Prog.lift, Prog.bind_op, Prog.bind_ret, Prog.pure_eq_ret, Prog.bind_assoc]
  simp only [sem32]
  unfold WS
  icases HW with ⟨HF1, Hv0, Hs0, Hw0, Hwb⟩
  iapply (wp_finW m c 15 1 fullShare.right 13 rfl rfl (P := k0_pay18) rfl) $$ [HO HF1 Hwb]
  · isplitr; · iexact HC
    isplitl [HO]; · iexact HO
    isplitl [HF1]; · iexact HF1
    iexact Hwb
  iintro ⟨Hv1, Hs1, Hw1, Hwb, HO⟩
  ihave Hwb := (show wbP m c ((15 : Fin 16).val + 1) ⊢ WBP m c from wbP_done m c) $$ Hwb
  iapply (wp_ldOwn m c fullShare.right) $$ Hown
  iintro Hown
  iapply (wp_ldWB m c) $$ Hwb
  iintro Hwb
  iapply (wp_outS512 m c c.val (k0_off2_eq c) [] (is_own m c)) $$ Ho
  iintro Ho
  iapply (wp_outL512 m c c.val (k0_off2_eq c) ([2 * c.val, 2 * c.val + 1]) ⟨by simp, by simp⟩ (yOwn m c) (is_own m c)) $$ Ho
  iintro Ho
  ihave Hw := (wA_join m c) $$ [Hw0 Hw1]
  · isplitl [Hw0] <;> iassumption
  iapply (le_wp_ret frame (wpE (defs₀ (F := F)) 𝒱₀ (c : Thread nD τ) none) Set.univ)
  isplitr; · ipureintro; dsimp only [mx0]
  isplitl [HO]; · iexact HO
  isplitl [Hwb]; · iexact Hwb
  isplitl [Hw]; · iexact Hw
  isplitl [Hv0]; · iexact Hv0
  isplitl [Hv1]; · iexact Hv1
  isplitl [Hs0]; · iexact Hs0
  isplitl [Hs1]; · iexact Hs1
  isplitl [Hown]; · iexact Hown
  iexact Ho

/-- The right neighbour's block goes on; the left one's arrives. -/
theorem part11 (c : Dev nD) (v5 v7 v264 v267 : BitVec 32) : iprop(Ctx m ∗ Due c 13 ∗ Rcv c q5 ∗ Snd c (dv c 1) q2 q6 ∗ gp (dv c 1) fullShare (512 * (dv c 7).val) 512 (G0 m (dv c 1)) ∗ Rcv c q13)
    ⊢ wp frame (wpE (defs₀ (F := F)) 𝒱₀ (c : Thread nD τ) none) Set.univ (k0_part11 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v7 v264 v267)
      (fun r => iprop(Due c 12 ∗ semVal (dcell c q5) 0 ∗ Rcv c q2 ∗ perm (F := F) (dv c 7) c ∗ gp c fullShare.right (512 * (dv c 7).val) 512 (GF m) ∗ semVal (dcell c q13) 0 ∗ gp c fullShare (512 * (dv c 1).val) 512 (GF m) ∗ perm (F := F) (dv c 1) c ∗ permsDn (F := F) (dv c 1) 2 (dv c 7))) := by
  iintro ⟨#HC, HO, HR5, HS, Hg, HR13⟩
  simp only [k0_part11_eq_skeleton]; unfold k0_part11_skel
  simp only [semSignalWord, semWaitWord, Prog.lift, Prog.bind_op, Prog.bind_ret, Prog.pure_eq_ret, Prog.bind_assoc]
  simp only [sem2, sem5, sem6, sem13]
  iapply (wp_rcv m c q5 13 (by decide) (by decide) (by decide) (gM512_credit.trans rfl)) $$ [HO HR5]
  · isplitr; · iexact HC
    isplitl [HO]; · iexact HO
    iexact HR5
  iintro ⟨HP, Hv5, HO⟩
  ihave H := (take5 m c) $$ HP
  icases H with ⟨Hr, Hp7, HU⟩
  ihave H := (gp_halve c fullShare _ _ _) $$ Hr
  icases H with ⟨Hrl, Hrr⟩
  iapply (wp_fwd512 m c (dv c 1) (dev5_eq c) q2 q6 12 (512 * (dv c 7).val) (by decide) (by decide) (by decide) (by decide) rfl rfl rfl (off3_0 c) (sh := fullShare.left) (R := permsUp (dv c 7) 3 (dv c 1)) (Entails.of_eq rfl) (give6 m c)) $$ [HO HS Hrl Hg HU]
  · isplitr; · iexact HC
    isplitl [HO]; · iexact HO
    isplitl [HS]; · iexact HS
    isplitl [Hrl]; · iexact Hrl
    isplitl [Hg]; · iexact Hg
    iexact HU
  iintro ⟨HR2, HO⟩
  iapply (wp_rcv m c q13 12 (by decide) (by decide) (by decide) (gM512_credit.trans rfl)) $$ [HO HR13]
  · isplitr; · iexact HC
    isplitl [HO]; · iexact HO
    iexact HR13
  iintro ⟨HP, Hv13, HO⟩
  ihave H := (take13 m c) $$ HP
  icases H with ⟨Hl, Hp1, HD⟩
  iapply (le_wp_ret frame (wpE (defs₀ (F := F)) 𝒱₀ (c : Thread nD τ) none) Set.univ)
  isplitl [HO]; · iexact HO
  isplitl [Hv5]; · iexact Hv5
  isplitl [HR2]; · iexact HR2
  isplitl [Hp7]; · iexact Hp7
  isplitl [Hrr]; · iexact Hrr
  isplitl [Hv13]; · iexact Hv13
  isplitl [Hl]; · iexact Hl
  isplitl [Hp1]; · iexact Hp1
  iexact HD

/-- The left block goes on; both are copied in, and the first product is made. -/
theorem part12 (c : Dev nD) (v5 v264 v267 c1 : BitVec 32) : iprop(Ctx m ∗ Due c 12 ∗ Snd c (dv c 7) q10 q14 ∗ gp c fullShare (512 * (dv c 1).val) 512 (GF m) ∗ gp (dv c 7) fullShare (512 * (dv c 1).val) 512 (G0 m (dv c 7)) ∗ permsDn (dv c 1) 2 (dv c 7) ∗ gp c fullShare.right (512 * (dv c 7).val) 512 (GF m) ∗ semVal (dcell c (lq 0)) 0 ∗ semVal (dcell c (lq 1)) 0 ∗ (∃ f, chP (F := F) c 0 f) ∗ (∃ f, chP (F := F) c 1 f) ∗ WBP m c)
    ⊢ wp frame (wpE (defs₀ (F := F)) 𝒱₀ (c : Thread nD τ) none) Set.univ (k0_part12 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v264 v267 c1)
      (fun r => iprop(⌜r.1 = yRem m c (dv c 7)⌝ ∗ Due c 11 ∗ Rcv c q10 ∗ semVal (dcell c (lq 0)) 0 ∗ (∃ f, chP (F := F) c 0 f) ∗ Fl c (lq 1) N512 (TC m c 1 (512 * (dv c 1).val) 512) ∗ WBP m c)) := by
  iintro ⟨#HC, HO, HS, Hl, Hg, HD, Hrr, Hv0, Hv1, Hc0, Hc1, Hwb⟩
  simp only [k0_part12_eq_skeleton]; unfold k0_part12_skel
  simp only [semSignalWord, semWaitWord, Prog.lift, Prog.bind_op, Prog.bind_ret, Prog.pure_eq_ret, Prog.bind_assoc]
  simp only [sem10, sem14, sem31, sem32]
  ihave H := (gp_halve c fullShare _ _ _) $$ Hl
  icases H with ⟨Hll, Hlr⟩
  iapply (wp_fwd512 m c (dv c 7) (dev6_eq c) q10 q14 11 (512 * (dv c 1).val) (by decide) (by decide) (by decide) (by decide) rfl rfl rfl (off4_0 c) (sh := fullShare.left) (R := permsDn (dv c 1) 2 (dv c 7)) (Entails.of_eq rfl) (give14 m c)) $$ [HO HS Hll Hg HD]
  · isplitr; · iexact HC
    isplitl [HO]; · iexact HO
    isplitl [HS]; · iexact HS
    isplitl [Hll]; · iexact Hll
    isplitl [Hg]; · iexact Hg
    iexact HD
  iintro ⟨HR10, HO⟩
  iapply (wp_enqC512 m c 0 (512 * (dv c 7).val) fullShare.right (off3_0 c) rfl) $$ [Hv0 Hc0 Hrr]
  · isplitl [Hv0]; · iexact Hv0
    isplitl [Hc0]; · iexact Hc0
    iexact Hrr
  iintro HF0
  iapply (wp_enqC512 m c 1 (512 * (dv c 1).val) fullShare.right (off4_0 c) rfl) $$ [Hv1 Hc1 Hlr]
  · isplitl [Hv1]; · iexact Hv1
    isplitl [Hc1]; · iexact Hc1
    iexact Hlr
  iintro HF1
  iapply (wp_wl m c (lq 0) (by decide) N512 11 (TC m c 0 (512 * (dv c 7).val) 512) cM512_credit) $$ [HO HF0]
  · isplitr; · iexact HC
    isplitl [HO]; · iexact HO
    iexact HF0
  iintro ⟨HT, Hv0, HO⟩
  iapply (wp_ldC512 m c 0 (512 * (dv c 7).val) rfl (chunkV m (dv c 7)) (chunk_val m (dv c 7)) (dev_le c 7)) $$ HT
  iintro Hc0
  iapply (wp_ldWB m c) $$ Hwb
  iintro Hwb
  iapply (le_wp_ret frame (wpE (defs₀ (F := F)) 𝒱₀ (c : Thread nD τ) none) Set.univ)
  isplitr; · ipureintro; rfl
  isplitl [HO]; · iexact HO
  isplitl [HR10]; · iexact HR10
  isplitl [Hv0]; · iexact Hv0
  isplitl [Hc0]; · iexact Hc0
  isplitl [HF1]; · iexact HF1
  iexact Hwb

/-- The first two products of other devices' blocks are stored. -/
theorem part13 (c : Dev nD) (v2 v264 v267 c512 : BitVec 32) : iprop(Ctx m ∗ Due c 11 ∗ OutP m c ([2 * c.val, 2 * c.val + 1]) ∗ Fl c (lq 1) N512 (TC m c 1 (512 * (dv c 1).val) 512) ∗ WBP m c)
    ⊢ wp frame (wpE (defs₀ (F := F)) 𝒱₀ (c : Thread nD τ) none) Set.univ (k0_part13 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 (mx0 m c) v264 v267 (yRem m c (dv c 7)) c512)
      (fun r => iprop(⌜r.1 = mx1 m c⌝ ∗ Due c 11 ∗ OutP m c ((2 * (dv c 1).val) :: (2 * (dv c 1).val + 1) :: ((2 * (dv c 7).val) :: (2 * (dv c 7).val + 1) :: ([2 * c.val, 2 * c.val + 1]))) ∗ semVal (dcell c (lq 1)) 0 ∗ (∃ f, chP (F := F) c 1 f) ∗ WBP m c)) := by
  iintro ⟨#HC, HO, Ho, HF1, Hwb⟩
  simp only [k0_part13_eq_skeleton]; unfold k0_part13_skel
  simp only [semSignalWord, semWaitWord, Prog.lift, Prog.bind_op, Prog.bind_ret, Prog.pure_eq_ret, Prog.bind_assoc]
  simp only [sem32]
  iapply (wp_outS512 m c (dv c 7).val (off5_0 c) ([2 * c.val, 2 * c.val + 1]) (is_rem m c 7 (by decide) (by decide))) $$ Ho
  iintro Ho
  iapply (wp_outL512 m c (dv c 7).val (off5_0 c) ((2 * (dv c 7).val) :: (2 * (dv c 7).val + 1) :: ([2 * c.val, 2 * c.val + 1])) ⟨by simp, by simp⟩ (yRem m c (dv c 7)) (is_rem m c 7 (by decide) (by decide))) $$ Ho
  iintro Ho
  iapply (wp_wl m c (lq 1) (by decide) N512 11 (TC m c 1 (512 * (dv c 1).val) 512) cM512_credit) $$ [HO HF1]
  · isplitr; · iexact HC
    isplitl [HO]; · iexact HO
    iexact HF1
  iintro ⟨HT, Hv1, HO⟩
  iapply (wp_ldC512 m c 1 (512 * (dv c 1).val) rfl (chunkV m (dv c 1)) (chunk_val m (dv c 1)) (dev_le c 1)) $$ HT
  iintro Hc1
  iapply (wp_ldWB m c) $$ Hwb
  iintro Hwb
  iapply (wp_outS512 m c (dv c 1).val (off6_0 c) ((2 * (dv c 7).val) :: (2 * (dv c 7).val + 1) :: ([2 * c.val, 2 * c.val + 1])) (is_rem m c 1 (by decide) (by decide))) $$ Ho
  iintro Ho
  iapply (wp_outL512 m c (dv c 1).val (off6_0 c) ((2 * (dv c 1).val) :: (2 * (dv c 1).val + 1) :: ((2 * (dv c 7).val) :: (2 * (dv c 7).val + 1) :: ([2 * c.val, 2 * c.val + 1]))) ⟨by simp, by simp⟩ (yRem m c (dv c 1)) (is_rem m c 1 (by decide) (by decide))) $$ Ho
  iintro Ho
  iapply (le_wp_ret frame (wpE (defs₀ (F := F)) 𝒱₀ (c : Thread nD τ) none) Set.univ)
  isplitr; · ipureintro; rfl
  isplitl [HO]; · iexact HO
  isplitl [Ho]; · iexact Ho
  isplitl [Hv1]; · iexact Hv1
  isplitl [Hc1]; · iexact Hc1
  iexact Hwb

/-- The second rightward block arrives and goes on. -/
theorem part14 (c : Dev nD) (v2 v5 v7 v360 : BitVec 32) : iprop(Ctx m ∗ Due c 11 ∗ Rcv c q6 ∗ Snd c (dv c 1) q3 q7 ∗ gp (dv c 1) fullShare (512 * (dv c 6).val) 512 (G0 m (dv c 1)))
    ⊢ wp frame (wpE (defs₀ (F := F)) 𝒱₀ (c : Thread nD τ) none) Set.univ (k0_part14 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v5 v7 v360)
      (fun r => iprop(Due c 10 ∗ semVal (dcell c q6) 0 ∗ Rcv c q3 ∗ perm (F := F) (dv c 6) c ∗ gp c fullShare.right (512 * (dv c 6).val) 512 (GF m))) := by
  iintro ⟨#HC, HO, HR6, HS, Hg⟩
  simp only [k0_part14_eq_skeleton]; unfold k0_part14_skel
  simp only [semSignalWord, semWaitWord, Prog.lift, Prog.bind_op, Prog.bind_ret, Prog.pure_eq_ret, Prog.bind_assoc]
  simp only [sem3, sem6, sem7]
  iapply (wp_rcv m c q6 11 (by decide) (by decide) (by decide) (gM512_credit.trans rfl)) $$ [HO HR6]
  · isplitr; · iexact HC
    isplitl [HO]; · iexact HO
    iexact HR6
  iintro ⟨HP, Hv6, HO⟩
  ihave H := (take6 m c) $$ HP
  icases H with ⟨Hr, Hp6, HU⟩
  ihave H := (gp_halve c fullShare _ _ _) $$ Hr
  icases H with ⟨Hrl, Hrr⟩
  iapply (wp_fwd512 m c (dv c 1) (dev7_eq c) q3 q7 10 (512 * (dv c 6).val) (by decide) (by decide) (by decide) (by decide) rfl rfl rfl (off3_1 c) (sh := fullShare.left) (R := permsUp (dv c 6) 2 (dv c 1)) (Entails.of_eq rfl) (give7 m c)) $$ [HO HS Hrl Hg HU]
  · isplitr; · iexact HC
    isplitl [HO]; · iexact HO
    isplitl [HS]; · iexact HS
    isplitl [Hrl]; · iexact Hrl
    isplitl [Hg]; · iexact Hg
    iexact HU
  iintro ⟨HR3, HO⟩
  iapply (le_wp_ret frame (wpE (defs₀ (F := F)) 𝒱₀ (c : Thread nD τ) none) Set.univ)
  isplitl [HO]; · iexact HO
  isplitl [Hv6]; · iexact Hv6
  isplitl [HR3]; · iexact HR3
  isplitl [Hp6]; · iexact Hp6
  iexact Hrr

/-- The second leftward block arrives and goes on; both are copied in. -/
theorem part15 (c : Dev nD) (v5 v363 v366 : BitVec 32) : iprop(Ctx m ∗ Due c 10 ∗ Rcv c q14 ∗ Snd c (dv c 7) q11 q15 ∗ gp (dv c 7) fullShare (512 * (dv c 2).val) 512 (G0 m (dv c 7)) ∗ gp c fullShare.right (512 * (dv c 6).val) 512 (GF m) ∗ semVal (dcell c (lq 0)) 0 ∗ semVal (dcell c (lq 1)) 0 ∗ (∃ f, chP (F := F) c 0 f) ∗ (∃ f, chP (F := F) c 1 f))
    ⊢ wp frame (wpE (defs₀ (F := F)) 𝒱₀ (c : Thread nD τ) none) Set.univ (k0_part15 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v363 v366)
      (fun r => iprop(Due c 9 ∗ semVal (dcell c q14) 0 ∗ Rcv c q11 ∗ perm (F := F) (dv c 2) c ∗ Fl c (lq 0) N512 (TC m c 0 (512 * (dv c 6).val) 512) ∗ Fl c (lq 1) N512 (TC m c 1 (512 * (dv c 2).val) 512))) := by
  iintro ⟨#HC, HO, HR14, HS, Hg, Hrr, Hv0, Hv1, Hc0, Hc1⟩
  simp only [k0_part15_eq_skeleton]; unfold k0_part15_skel
  simp only [semSignalWord, semWaitWord, Prog.lift, Prog.bind_op, Prog.bind_ret, Prog.pure_eq_ret, Prog.bind_assoc]
  simp only [sem11, sem14, sem15, sem31, sem32]
  iapply (wp_rcv m c q14 10 (by decide) (by decide) (by decide) (gM512_credit.trans rfl)) $$ [HO HR14]
  · isplitr; · iexact HC
    isplitl [HO]; · iexact HO
    iexact HR14
  iintro ⟨HP, Hv14, HO⟩
  ihave H := (take14 m c) $$ HP
  icases H with ⟨Hl, Hp2, HD⟩
  ihave H := (gp_halve c fullShare _ _ _) $$ Hl
  icases H with ⟨Hll, Hlr⟩
  iapply (wp_fwd512 m c (dv c 7) (dev8_eq c) q11 q15 9 (512 * (dv c 2).val) (by decide) (by decide) (by decide) (by decide) rfl rfl rfl (off4_1 c) (sh := fullShare.left) (R := permsDn (dv c 2) 1 (dv c 7)) (Entails.of_eq rfl) (give15 m c)) $$ [HO HS Hll Hg HD]
  · isplitr; · iexact HC
    isplitl [HO]; · iexact HO
    isplitl [HS]; · iexact HS
    isplitl [Hll]; · iexact Hll
    isplitl [Hg]; · iexact Hg
    iexact HD
  iintro ⟨HR11, HO⟩
  iapply (wp_enqC512 m c 0 (512 * (dv c 6).val) fullShare.right (off3_1 c) rfl) $$ [Hv0 Hc0 Hrr]
  · isplitl [Hv0]; · iexact Hv0
    isplitl [Hc0]; · iexact Hc0
    iexact Hrr
  iintro HF0
  iapply (wp_enqC512 m c 1 (512 * (dv c 2).val) fullShare.right (off4_1 c) rfl) $$ [Hv1 Hc1 Hlr]
  · isplitl [Hv1]; · iexact Hv1
    isplitl [Hc1]; · iexact Hc1
    iexact Hlr
  iintro HF1
  iapply (le_wp_ret frame (wpE (defs₀ (F := F)) 𝒱₀ (c : Thread nD τ) none) Set.univ)
  isplitl [HO]; · iexact HO
  isplitl [Hv14]; · iexact Hv14
  isplitl [HR11]; · iexact HR11
  isplitl [Hp2]; · iexact Hp2
  isplitl [HF0]; · iexact HF0
  iexact HF1

/-- The next two products. -/
theorem part16 (c : Dev nD) (l : List ℕ) (v363 v366 : BitVec 32) : iprop(Ctx m ∗ Due c 9 ∗ OutP m c l ∗ Fl c (lq 0) N512 (TC m c 0 (512 * (dv c 6).val) 512) ∗ Fl c (lq 1) N512 (TC m c 1 (512 * (dv c 2).val) 512) ∗ WBP m c)
    ⊢ wp frame (wpE (defs₀ (F := F)) 𝒱₀ (c : Thread nD τ) none) Set.univ (k0_part16 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c (mx1 m c) v363 v366)
      (fun r => iprop(⌜r = mx2 m c⌝ ∗ Due c 9 ∗ OutP m c ((2 * (dv c 2).val) :: (2 * (dv c 2).val + 1) :: ((2 * (dv c 6).val) :: (2 * (dv c 6).val + 1) :: (l))) ∗ semVal (dcell c (lq 0)) 0 ∗ semVal (dcell c (lq 1)) 0 ∗ (∃ f, chP (F := F) c 0 f) ∗ (∃ f, chP (F := F) c 1 f) ∗ WBP m c)) := by
  iintro ⟨#HC, HO, Ho, HF0, HF1, Hwb⟩
  simp only [k0_part16_eq_skeleton]; unfold k0_part16_skel
  simp only [semSignalWord, semWaitWord, Prog.lift, Prog.bind_op, Prog.bind_ret, Prog.pure_eq_ret, Prog.bind_assoc]
  simp only [sem31, sem32]
  iapply (wp_wl m c (lq 0) (by decide) N512 9 (TC m c 0 (512 * (dv c 6).val) 512) cM512_credit) $$ [HO HF0]
  · isplitr; · iexact HC
    isplitl [HO]; · iexact HO
    iexact HF0
  iintro ⟨HT, Hv0, HO⟩
  iapply (wp_ldC512 m c 0 (512 * (dv c 6).val) rfl (chunkV m (dv c 6)) (chunk_val m (dv c 6)) (dev_le c 6)) $$ HT
  iintro Hc0
  iapply (wp_ldWB m c) $$ Hwb
  iintro Hwb
  iapply (wp_outS512 m c (dv c 6).val (off5_1 c) (l) (is_rem m c 6 (by decide) (by decide))) $$ Ho
  iintro Ho
  iapply (wp_outL512 m c (dv c 6).val (off5_1 c) ((2 * (dv c 6).val) :: (2 * (dv c 6).val + 1) :: (l)) ⟨by simp, by simp⟩ (yRem m c (dv c 6)) (is_rem m c 6 (by decide) (by decide))) $$ Ho
  iintro Ho
  iapply (wp_wl m c (lq 1) (by decide) N512 9 (TC m c 1 (512 * (dv c 2).val) 512) cM512_credit) $$ [HO HF1]
  · isplitr; · iexact HC
    isplitl [HO]; · iexact HO
    iexact HF1
  iintro ⟨HT, Hv1, HO⟩
  iapply (wp_ldC512 m c 1 (512 * (dv c 2).val) rfl (chunkV m (dv c 2)) (chunk_val m (dv c 2)) (dev_le c 2)) $$ HT
  iintro Hc1
  iapply (wp_ldWB m c) $$ Hwb
  iintro Hwb
  iapply (wp_outS512 m c (dv c 2).val (off6_1 c) ((2 * (dv c 6).val) :: (2 * (dv c 6).val + 1) :: (l)) (is_rem m c 2 (by decide) (by decide))) $$ Ho
  iintro Ho
  iapply (le_wp_ret frame (wpE (defs₀ (F := F)) 𝒱₀ (c : Thread nD τ) none) Set.univ)
  isplitr; · ipureintro; rfl
  isplitl [HO]; · iexact HO
  isplitl [Ho]; · iexact Ho
  isplitl [Hv0]; · iexact Hv0
  isplitl [Hv1]; · iexact Hv1
  isplitl [Hc0]; · iexact Hc0
  isplitl [Hc1]; · iexact Hc1
  iexact Hwb

/-- The third rightward block arrives; half of it goes on. -/
theorem part17 (c : Dev nD) (l : List ℕ) (v2 v5 v7 : BitVec 32) : iprop(Ctx m ∗ Due c 9 ∗ OutP m c ((2 * (dv c 2).val) :: (2 * (dv c 2).val + 1) :: ((2 * (dv c 6).val) :: (2 * (dv c 6).val + 1) :: (l))) ∗ Rcv c q7 ∗ Snd c (dv c 1) q4 q8 ∗ gp (dv c 1) fullShare (512 * (dv c 5).val) 256 (G0 m (dv c 1)))
    ⊢ wp frame (wpE (defs₀ (F := F)) 𝒱₀ (c : Thread nD τ) none) Set.univ (k0_part17 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v5 v7 (mx2 m c))
      (fun r => iprop(⌜r.1 = mx3 m c⌝ ∗ Due c 8 ∗ OutP m c ((2 * (dv c 2).val) :: (2 * (dv c 2).val + 1) :: ((2 * (dv c 6).val) :: (2 * (dv c 6).val + 1) :: (l))) ∗ semVal (dcell c q7) 0 ∗ Rcv c q4 ∗ perm (F := F) (dv c 5) c ∗ gp c fullShare.right (512 * (dv c 5).val) 512 (GF m))) := by
  iintro ⟨#HC, HO, Ho, HR7, HS, Hg⟩
  simp only [k0_part17_eq_skeleton]; unfold k0_part17_skel
  simp only [semSignalWord, semWaitWord, Prog.lift, Prog.bind_op, Prog.bind_ret, Prog.pure_eq_ret, Prog.bind_assoc]
  simp only [sem4, sem7, sem8]
  iapply (wp_outL512 m c (dv c 2).val (off6_1 c) ((2 * (dv c 2).val) :: (2 * (dv c 2).val + 1) :: ((2 * (dv c 6).val) :: (2 * (dv c 6).val + 1) :: (l))) ⟨by simp, by simp⟩ (yRem m c (dv c 2)) (is_rem m c 2 (by decide) (by decide))) $$ Ho
  iintro Ho
  iapply (wp_rcv m c q7 9 (by decide) (by decide) (by decide) (gM512_credit.trans rfl)) $$ [HO HR7]
  · isplitr; · iexact HC
    isplitl [HO]; · iexact HO
    iexact HR7
  iintro ⟨HP, Hv7, HO⟩
  ihave H := (take7 m c) $$ HP
  icases H with ⟨Hr, Hp5, HU⟩
  ihave H := (gp_halve c fullShare _ _ _) $$ Hr
  icases H with ⟨Hrl, Hrr⟩
  ihave H := (gp_cut c fullShare.left _ 512 256 (by decide) _) $$ Hrl
  icases H with ⟨Hrl, -⟩
  iapply (wp_fwd256 m c (dv c 1) (dev9_eq c) q4 q8 8 (512 * (dv c 5).val) (by decide) (by decide) (by decide) (by decide) rfl rfl rfl (off7_0 c) (sh := fullShare.left) (R := permsUp (dv c 5) 1 (dv c 1)) (Entails.of_eq rfl) (give8 m c)) $$ [HO HS Hrl Hg HU]
  · isplitr; · iexact HC
    isplitl [HO]; · iexact HO
    isplitl [HS]; · iexact HS
    isplitl [Hrl]; · iexact Hrl
    isplitl [Hg]; · iexact Hg
    iexact HU
  iintro ⟨HR4, HO⟩
  iapply (le_wp_ret frame (wpE (defs₀ (F := F)) 𝒱₀ (c : Thread nD τ) none) Set.univ)
  isplitr; · ipureintro; rfl
  isplitl [HO]; · iexact HO
  isplitl [Ho]; · iexact Ho
  isplitl [Hv7]; · iexact Hv7
  isplitl [HR4]; · iexact HR4
  isplitl [Hp5]; · iexact Hp5
  iexact Hrr

/-- The third leftward block arrives; half of it goes on. -/
theorem part18 (c : Dev nD) (v5 v7 v462 v465 : BitVec 32) : iprop(Ctx m ∗ Due c 8 ∗ Rcv c q15 ∗ Snd c (dv c 7) q12 q16 ∗ gp (dv c 7) fullShare (512 * (dv c 3).val + 256) 256 (G0 m (dv c 7)) ∗ gp c fullShare.right (512 * (dv c 5).val) 512 (GF m) ∗ semVal (dcell c (lq 0)) 0 ∗ (∃ f, chP (F := F) c 0 f))
    ⊢ wp frame (wpE (defs₀ (F := F)) 𝒱₀ (c : Thread nD τ) none) Set.univ (k0_part18 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v7 v462 v465)
      (fun r => iprop(Due c 7 ∗ semVal (dcell c q15) 0 ∗ Rcv c q12 ∗ perm (F := F) (dv c 3) c ∗ Fl c (lq 0) N512 (TC m c 0 (512 * (dv c 5).val) 512) ∗ gp c fullShare.right (512 * (dv c 3).val) 512 (GF m))) := by
  iintro ⟨#HC, HO, HR15, HS, Hg, Hrr, Hv0, Hc0⟩
  simp only [k0_part18_eq_skeleton]; unfold k0_part18_skel
  simp only [semSignalWord, semWaitWord, Prog.lift, Prog.bind_op, Prog.bind_ret, Prog.pure_eq_ret, Prog.bind_assoc]
  simp only [sem12, sem15, sem16, sem31]
  iapply (wp_rcv m c q15 8 (by decide) (by decide) (by decide) (gM512_credit.trans rfl)) $$ [HO HR15]
  · isplitr; · iexact HC
    isplitl [HO]; · iexact HO
    iexact HR15
  iintro ⟨HP, Hv15, HO⟩
  ihave H := (take15 m c) $$ HP
  icases H with ⟨Hl, Hp3, HD⟩
  ihave H := (gp_halve c fullShare _ _ _) $$ Hl
  icases H with ⟨Hll, Hlr⟩
  ihave H := (gp_cut c fullShare.left _ 512 256 (by decide) _) $$ Hll
  icases H with ⟨-, Hll⟩
  iapply (wp_fwd256 m c (dv c 7) (dev10_eq c) q12 q16 7 (512 * (dv c 3).val + 256) (by decide) (by decide) (by decide) (by decide) rfl rfl rfl (off8_0 c) (sh := fullShare.left) (R := permsDn (dv c 3) 0 (dv c 7)) (Entails.of_eq rfl) (give16 m c)) $$ [HO HS Hll Hg HD]
  · isplitr; · iexact HC
    isplitl [HO]; · iexact HO
    isplitl [HS]; · iexact HS
    isplitl [Hll]; · iexact Hll
    isplitl [Hg]; · iexact Hg
    iexact HD
  iintro ⟨HR12, HO⟩
  iapply (wp_enqC512 m c 0 (512 * (dv c 5).val) fullShare.right (off3_2 c) rfl) $$ [Hv0 Hc0 Hrr]
  · isplitl [Hv0]; · iexact Hv0
    isplitl [Hc0]; · iexact Hc0
    iexact Hrr
  iintro HF0
  iapply (le_wp_ret frame (wpE (defs₀ (F := F)) 𝒱₀ (c : Thread nD τ) none) Set.univ)
  isplitl [HO]; · iexact HO
  isplitl [Hv15]; · iexact Hv15
  isplitl [HR12]; · iexact HR12
  isplitl [Hp3]; · iexact Hp3
  isplitl [HF0]; · iexact HF0
  iexact Hlr

/-- The next product, and the copy of the block after it. -/
theorem part19 (c : Dev nD) (l : List ℕ) (v462 : BitVec 32) : iprop(Ctx m ∗ Due c 7 ∗ OutP m c l ∗ Fl c (lq 0) N512 (TC m c 0 (512 * (dv c 5).val) 512) ∗ gp c fullShare.right (512 * (dv c 3).val) 512 (GF m) ∗ semVal (dcell c (lq 1)) 0 ∗ (∃ f, chP (F := F) c 1 f) ∗ WBP m c)
    ⊢ wp frame (wpE (defs₀ (F := F)) 𝒱₀ (c : Thread nD τ) none) Set.univ (k0_part19 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c (mx3 m c) v462)
      (fun r => iprop(⌜r = mx4 m c⌝ ∗ Due c 7 ∗ OutP m c ((2 * (dv c 5).val) :: (2 * (dv c 5).val + 1) :: (l)) ∗ semVal (dcell c (lq 0)) 0 ∗ semVal (dcell c (lq 1)) 0 ∗ (∃ f, chP (F := F) c 0 f) ∗ TC m c 1 (512 * (dv c 3).val) 512 ∗ WBP m c)) := by
  iintro ⟨#HC, HO, Ho, HF0, Hlr, Hv1, Hc1, Hwb⟩
  simp only [k0_part19_eq_skeleton]; unfold k0_part19_skel
  simp only [semSignalWord, semWaitWord, Prog.lift, Prog.bind_op, Prog.bind_ret, Prog.pure_eq_ret, Prog.bind_assoc]
  simp only [sem31, sem32]
  iapply (wp_enqC512 m c 1 (512 * (dv c 3).val) fullShare.right (off4_2 c) rfl) $$ [Hv1 Hc1 Hlr]
  · isplitl [Hv1]; · iexact Hv1
    isplitl [Hc1]; · iexact Hc1
    iexact Hlr
  iintro HF1
  iapply (wp_wl m c (lq 0) (by decide) N512 7 (TC m c 0 (512 * (dv c 5).val) 512) cM512_credit) $$ [HO HF0]
  · isplitr; · iexact HC
    isplitl [HO]; · iexact HO
    iexact HF0
  iintro ⟨HT, Hv0, HO⟩
  iapply (wp_ldC512 m c 0 (512 * (dv c 5).val) rfl (chunkV m (dv c 5)) (chunk_val m (dv c 5)) (dev_le c 5)) $$ HT
  iintro Hc0
  iapply (wp_ldWB m c) $$ Hwb
  iintro Hwb
  iapply (wp_outS512 m c (dv c 5).val (off5_2 c) (l) (is_rem m c 5 (by decide) (by decide))) $$ Ho
  iintro Ho
  iapply (wp_outL512 m c (dv c 5).val (off5_2 c) ((2 * (dv c 5).val) :: (2 * (dv c 5).val + 1) :: (l)) ⟨by simp, by simp⟩ (yRem m c (dv c 5)) (is_rem m c 5 (by decide) (by decide))) $$ Ho
  iintro Ho
  iapply (wp_wl m c (lq 1) (by decide) N512 7 (TC m c 1 (512 * (dv c 3).val) 512) cM512_credit) $$ [HO HF1]
  · isplitr; · iexact HC
    isplitl [HO]; · iexact HO
    iexact HF1
  iintro ⟨HT, Hv1, HO⟩
  iapply (le_wp_ret frame (wpE (defs₀ (F := F)) 𝒱₀ (c : Thread nD τ) none) Set.univ)
  isplitr; · ipureintro; rfl
  isplitl [HO]; · iexact HO
  isplitl [Ho]; · iexact Ho
  isplitl [Hv0]; · iexact Hv0
  isplitl [Hv1]; · iexact Hv1
  isplitl [Hc0]; · iexact Hc0
  isplitl [HT]; · iexact HT
  iexact Hwb

/-- The product of that block; the first half of the opposite device's block arrives. -/
theorem part20 (c : Dev nD) (l : List ℕ) (v2 v5 v465 : BitVec 32) : iprop(Ctx m ∗ Due c 7 ∗ OutP m c l ∗ TC m c 1 (512 * (dv c 3).val) 512 ∗ Rcv c q8 ∗ WBP m c)
    ⊢ wp frame (wpE (defs₀ (F := F)) 𝒱₀ (c : Thread nD τ) none) Set.univ (k0_part20 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v5 v465 (mx4 m c))
      (fun r => iprop(⌜r.1 = mx5 m c⌝ ∗ Due c 7 ∗ OutP m c ((2 * (dv c 3).val) :: (2 * (dv c 3).val + 1) :: (l)) ∗ (∃ f, chP (F := F) c 1 f) ∗ semVal (dcell c q8) 0 ∗ gp c fullShare (512 * (dv c 4).val) 256 (GF m) ∗ perm (F := F) (dv c 4) c ∗ WBP m c)) := by
  iintro ⟨#HC, HO, Ho, HT, HR8, Hwb⟩
  simp only [k0_part20_eq_skeleton]; unfold k0_part20_skel
  simp only [semSignalWord, semWaitWord, Prog.lift, Prog.bind_op, Prog.bind_ret, Prog.pure_eq_ret, Prog.bind_assoc]
  simp only [sem8]
  iapply (wp_ldC512 m c 1 (512 * (dv c 3).val) rfl (chunkV m (dv c 3)) (chunk_val m (dv c 3)) (dev_le c 3)) $$ HT
  iintro Hc1
  iapply (wp_ldWB m c) $$ Hwb
  iintro Hwb
  iapply (wp_outS512 m c (dv c 3).val (off6_2 c) (l) (is_rem m c 3 (by decide) (by decide))) $$ Ho
  iintro Ho
  iapply (wp_outL512 m c (dv c 3).val (off6_2 c) ((2 * (dv c 3).val) :: (2 * (dv c 3).val + 1) :: (l)) ⟨by simp, by simp⟩ (yRem m c (dv c 3)) (is_rem m c 3 (by decide) (by decide))) $$ Ho
  iintro Ho
  iapply (wp_rcv m c q8 7 (by decide) (by decide) (by decide) (gM256_credit.trans rfl)) $$ [HO HR8]
  · isplitr; · iexact HC
    isplitl [HO]; · iexact HO
    iexact HR8
  iintro ⟨HP, Hv8, HO⟩
  ihave H := (take8 m c) $$ HP
  icases H with ⟨Hr, Hp4, -⟩
  iapply (le_wp_ret frame (wpE (defs₀ (F := F)) 𝒱₀ (c : Thread nD τ) none) Set.univ)
  isplitr; · ipureintro; rfl
  isplitl [HO]; · iexact HO
  isplitl [Ho]; · iexact Ho
  isplitl [Hc1]; · iexact Hc1
  isplitl [Hv8]; · iexact Hv8
  isplitl [Hr]; · iexact Hr
  isplitl [Hp4]; · iexact Hp4
  iexact Hwb

/-- The second half arrives; both are copied in. -/
theorem part21 (c : Dev nD) (v7 v563 v566 v575 c256 : BitVec 32) : iprop(Ctx m ∗ Due c 7 ∗ Rcv c q16 ∗ gp c fullShare (512 * (dv c 4).val) 256 (GF m) ∗ semVal (dcell c (lq 0)) 0 ∗ semVal (dcell c (lq 1)) 0 ∗ (∃ f, chP (F := F) c 0 f) ∗ (∃ f, chP (F := F) c 1 f))
    ⊢ wp frame (wpE (defs₀ (F := F)) 𝒱₀ (c : Thread nD τ) none) Set.univ (k0_part21 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v7 v563 v566 v575 c256)
      (fun r => iprop(Due c 7 ∗ semVal (dcell c q16) 0 ∗ semVal (dcell c (lq 0)) 0 ∗ TC m c 0 (512 * (dv c 4).val) 256 ∗ Fl c (lq 1) N256 (TC m c 1 (512 * (dv c 4).val + 256) 256))) := by
  iintro ⟨#HC, HO, HR16, Hr, Hv0, Hv1, Hc0, Hc1⟩
  simp only [k0_part21_eq_skeleton]; unfold k0_part21_skel
  simp only [semSignalWord, semWaitWord, Prog.lift, Prog.bind_op, Prog.bind_ret, Prog.pure_eq_ret, Prog.bind_assoc]
  simp only [sem16, sem31, sem32]
  iapply (wp_rcv m c q16 7 (by decide) (by decide) (by decide) (gM256_credit.trans rfl)) $$ [HO HR16]
  · isplitr; · iexact HC
    isplitl [HO]; · iexact HO
    iexact HR16
  iintro ⟨HP, Hv16, HO⟩
  ihave H := (take16 m c) $$ HP
  icases H with ⟨Hl, -⟩
  iapply (wp_enqC256 m c 0 (512 * (dv c 4).val) fullShare (off7_1 c) rfl) $$ [Hv0 Hc0 Hr]
  · isplitl [Hv0]; · iexact Hv0
    isplitl [Hc0]; · iexact Hc0
    iexact Hr
  iintro HF0
  iapply (wp_enqC256 m c 1 (512 * (dv c 4).val + 256) fullShare (off8_1 c) rfl) $$ [Hv1 Hc1 Hl]
  · isplitl [Hv1]; · iexact Hv1
    isplitl [Hc1]; · iexact Hc1
    iexact Hl
  iintro HF1
  iapply (wp_wl m c (lq 0) (by decide) N256 7 (TC m c 0 (512 * (dv c 4).val) 256) cM256_credit) $$ [HO HF0]
  · isplitr; · iexact HC
    isplitl [HO]; · iexact HO
    iexact HF0
  iintro ⟨HT, Hv0, HO⟩
  iapply (le_wp_ret frame (wpE (defs₀ (F := F)) 𝒱₀ (c : Thread nD τ) none) Set.univ)
  isplitl [HO]; · iexact HO
  isplitl [Hv16]; · iexact Hv16
  isplitl [Hv0]; · iexact Hv0
  isplitl [HT]; · iexact HT
  iexact HF1

/-- The two products of those halves. -/
theorem part22 (c : Dev nD) (l : List ℕ) (v563 v566 : BitVec 32) : iprop(Ctx m ∗ Due c 7 ∗ OutP m c l ∗ TC m c 0 (512 * (dv c 4).val) 256 ∗ Fl c (lq 1) N256 (TC m c 1 (512 * (dv c 4).val + 256) 256) ∗ WBP m c)
    ⊢ wp frame (wpE (defs₀ (F := F)) 𝒱₀ (c : Thread nD τ) none) Set.univ (k0_part22 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c (mx5 m c) v563 v566)
      (fun r => iprop(⌜r = mx6 m c⌝ ∗ Due c 7 ∗ OutP m c ((2 * (dv c 4).val + 1) :: ((2 * (dv c 4).val + 0) :: l)) ∗ semVal (dcell c (lq 1)) 0 ∗ (∃ f, chP (F := F) c 0 f) ∗ (∃ f, chP (F := F) c 1 f) ∗ WBP m c)) := by
  iintro ⟨#HC, HO, Ho, HT, HF1, Hwb⟩
  simp only [k0_part22_eq_skeleton]; unfold k0_part22_skel
  simp only [semSignalWord, semWaitWord, Prog.lift, Prog.bind_op, Prog.bind_ret, Prog.pure_eq_ret, Prog.bind_assoc]
  simp only [sem32]
  iapply (wp_ldC256 m c 0 (512 * (dv c 4).val) rfl (halfV m (dv c 4) 0) (half_val m (dv c 4) 0) (by have := dev_le c 4; omega)) $$ HT
  iintro Hc0
  iapply (wp_ldWB m c) $$ Hwb
  iintro Hwb
  iapply (wp_outS256 m c (2 * (dv c 4).val + 0) (off9_0 c) l (is_half m c 0)) $$ Ho
  iintro Ho
  iapply (wp_outL256 m c (2 * (dv c 4).val + 0) (off9_0 c) ((2 * (dv c 4).val + 0) :: l) (by simp) (yHalf m c (dv c 4) 0) (is_half m c 0)) $$ Ho
  iintro Ho
  iapply (wp_wl m c (lq 1) (by decide) N256 7 (TC m c 1 (512 * (dv c 4).val + 256) 256) cM256_credit) $$ [HO HF1]
  · isplitr; · iexact HC
    isplitl [HO]; · iexact HO
    iexact HF1
  iintro ⟨HT, Hv1, HO⟩
  iapply (wp_ldC256 m c 1 (512 * (dv c 4).val + 256) rfl (halfV m (dv c 4) 1) (half_val m (dv c 4) 1) (by have := dev_le c 4; omega)) $$ HT
  iintro Hc1
  iapply (wp_ldWB m c) $$ Hwb
  iintro Hwb
  iapply (wp_outS256 m c (2 * (dv c 4).val + 1) (off10_0 c) ((2 * (dv c 4).val + 0) :: l) (is_half m c 1)) $$ Ho
  iintro Ho
  iapply (le_wp_ret frame (wpE (defs₀ (F := F)) 𝒱₀ (c : Thread nD τ) none) Set.univ)
  isplitr; · ipureintro; rfl
  isplitl [HO]; · iexact HO
  isplitl [Ho]; · iexact Ho
  isplitl [Hv1]; · iexact Hv1
  isplitl [Hc0]; · iexact Hc0
  isplitl [Hc1]; · iexact Hc1
  iexact Hwb

end Cert.Ring

end
-- ==== Proof.PartsC.lean ====
/-
The rows of maxima are exchanged, and every message is waited for.
-/
module

public import proofs.«01_k».proof.Proof.PartsB

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ap_give (c : Dev nD) (k : ℕ) : ap c (rem k) c.val (AM m) ⊢ iprop(ap c (tk k) c.val (AM m) ∗ ap c (rem (k + 1)) c.val (AM m)) := ap_halve c (rem k) c.val (AM m)
theorem ap_give0 (c : Dev nD) : ap c fullShare c.val (AM m) ⊢ iprop(ap c (tk 0) c.val (AM m) ∗ ap c (rem 1) c.val (AM m)) := ap_halve c fullShare c.val (AM m)
theorem pay17_eq (c : Dev nD) : payQ m c 17 ⊢ ap c (tk 0) c.val (AM m) := Entails.of_eq rfl
theorem pay18_eq (c : Dev nD) : payQ m c 18 ⊢ ap c (tk 1) c.val (AM m) := Entails.of_eq rfl
theorem pay19_eq (c : Dev nD) : payQ m c 19 ⊢ ap c (tk 2) c.val (AM m) := Entails.of_eq rfl
theorem pay20_eq (c : Dev nD) : payQ m c 20 ⊢ ap c (tk 3) c.val (AM m) := Entails.of_eq rfl
theorem pay21_eq (c : Dev nD) : payQ m c 21 ⊢ ap c (tk 4) c.val (AM m) := Entails.of_eq rfl
theorem pay22_eq (c : Dev nD) : payQ m c 22 ⊢ ap c (tk 5) c.val (AM m) := Entails.of_eq rfl
theorem pay23_eq (c : Dev nD) : payQ m c 23 ⊢ ap c (tk 6) c.val (AM m) := Entails.of_eq rfl
theorem pay24_eq (c : Dev nD) : payQ m c 24 ⊢ ap c fullShare (dv c 7).val (AM m) := Entails.of_eq rfl
theorem pay25_eq (c : Dev nD) : payQ m c 25 ⊢ ap c fullShare (dv c 6).val (AM m) := Entails.of_eq rfl
theorem pay26_eq (c : Dev nD) : payQ m c 26 ⊢ ap c fullShare (dv c 5).val (AM m) := Entails.of_eq rfl
theorem pay27_eq (c : Dev nD) : payQ m c 27 ⊢ ap c fullShare (dv c 4).val (AM m) := Entails.of_eq rfl
theorem pay28_eq (c : Dev nD) : payQ m c 28 ⊢ ap c fullShare (dv c 3).val (AM m) := Entails.of_eq rfl
theorem pay29_eq (c : Dev nD) : payQ m c 29 ⊢ ap c fullShare (dv c 2).val (AM m) := Entails.of_eq rfl
theorem pay30_eq (c : Dev nD) : payQ m c 30 ⊢ ap c fullShare (dv c 1).val (AM m) := Entails.of_eq rfl
theorem pay1_eq (c : Dev nD) : payQ m c 1 ⊢ ownP m c fullShare.left.left := Entails.of_eq rfl
theorem pay9_eq (c : Dev nD) : payQ m c 9 ⊢ ownP m c fullShare.left.right := Entails.of_eq rfl
theorem own_credit : (Memref.whole cc0_scratch0 : Memref sig .tc .vmem S512x4096 .bf16).view.dmaCredit = N512 := rfl

/-- The row of maxima is written and goes to the next two devices. -/
theorem part23 (c : Dev nD) (l : List ℕ) (v2 : BitVec 32) : iprop(Ctx m ∗ Due c 7 ∗ OutP m c ((2 * (dv c 4).val + 1) :: ((2 * (dv c 4).val + 0) :: l)) ∗ perm c c ∗ Snd c (dv c 1) q17 q24 ∗ perm (F := F) (dv c 1) c ∗ Snd c (dv c 2) q18 q25 ∗ perm (F := F) (dv c 2) c)
    ⊢ wp frame (wpE (defs₀ (F := F)) 𝒱₀ (c : Thread nD τ) none) Set.univ (k0_part23 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 (mx6 m c))
      (fun r => iprop(Due c 5 ∗ OutP m c ((2 * (dv c 4).val + 1) :: ((2 * (dv c 4).val + 0) :: l)) ∗ ap c (rem 2) c.val (AM m) ∗ Rcv c q17 ∗ Rcv c q18)) := by
  iintro ⟨#HC, HO, Ho, Hpc, HS1, Hp1, HS2, Hp2⟩
  simp only [k0_part23_eq_skeleton]; unfold k0_part23_skel
  simp only [semSignalWord, semWaitWord, Prog.lift, Prog.bind_op, Prog.bind_ret, Prog.pure_eq_ret, Prog.bind_assoc]
  simp only [sem17, sem18, sem24, sem25]
  iapply (wp_outL256 m c (2 * (dv c 4).val + 1) (off10_0 c) ((2 * (dv c 4).val + 1) :: ((2 * (dv c 4).val + 0) :: l)) (by simp) (yHalf m c (dv c 4) 1) (is_half m c 1)) $$ Ho
  iintro Ho
  iapply (wp_amS m c (k0_off11_eq c) (w := k0_pay35 (mx6 m c) (yHalf m c (dv c 4) 1)) rfl) $$ Hpc
  iintro Ha
  ihave H := (ap_give0 m c) $$ Ha
  icases H with ⟨Ht, Ha⟩
  iapply (wp_amx m c (dv c 1) (dev11_eq c) q17 q24 6 (by decide) (by decide) (by decide) (by decide) rfl rfl rfl (k0_off12_eq c) (sh := tk 0) (Entails.of_eq rfl) (give24 m c)) $$ [HO HS1 Ht Hp1]
  · isplitr; · iexact HC
    isplitl [HO]; · iexact HO
    isplitl [HS1]; · iexact HS1
    isplitl [Ht]; · iexact Ht
    iexact Hp1
  iintro ⟨HR17, HO⟩
  ihave H := (ap_give m c 1) $$ Ha
  icases H with ⟨Ht, Ha⟩
  iapply (wp_amx m c (dv c 2) (dev12_eq c) q18 q25 5 (by decide) (by decide) (by decide) (by decide) rfl rfl rfl (k0_off12_eq c) (sh := tk 1) (Entails.of_eq rfl) (give25 m c)) $$ [HO HS2 Ht Hp2]
  · isplitr; · iexact HC
    isplitl [HO]; · iexact HO
    isplitl [HS2]; · iexact HS2
    isplitl [Ht]; · iexact Ht
    iexact Hp2
  iintro ⟨HR18, HO⟩
  iapply (le_wp_ret frame (wpE (defs₀ (F := F)) 𝒱₀ (c : Thread nD τ) none) Set.univ)
  isplitl [HO]; · iexact HO
  isplitl [Ho]; · iexact Ho
  isplitl [Ha]; · iexact Ha
  isplitl [HR17]; · iexact HR17
  iexact HR18

/-- Three more devices get it. -/
theorem part24 (c : Dev nD) (v2 v670 : BitVec 32) : iprop(Ctx m ∗ Due c 5 ∗ ap c (rem 2) c.val (AM m) ∗ Snd c (dv c 3) q19 q26 ∗ perm (F := F) (dv c 3) c ∗ Snd c (dv c 4) q20 q27 ∗ perm (F := F) (dv c 4) c ∗ Snd c (dv c 5) q21 q28 ∗ perm (F := F) (dv c 5) c)
    ⊢ wp frame (wpE (defs₀ (F := F)) 𝒱₀ (c : Thread nD τ) none) Set.univ (k0_part24 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v670)
      (fun r => iprop(Due c 2 ∗ ap c (rem 5) c.val (AM m) ∗ Rcv c q19 ∗ Rcv c q20 ∗ Rcv c q21)) := by
  iintro ⟨#HC, HO, Ha, HS3, Hp3, HS4, Hp4, HS5, Hp5⟩
  simp only [k0_part24_eq_skeleton]; unfold k0_part24_skel
  simp only [semSignalWord, semWaitWord, Prog.lift, Prog.bind_op, Prog.bind_ret, Prog.pure_eq_ret, Prog.bind_assoc]
  simp only [sem19, sem20, sem21, sem26, sem27, sem28]
  ihave H := (ap_give m c 2) $$ Ha
  icases H with ⟨Ht, Ha⟩
  iapply (wp_amx m c (dv c 3) (dev13_eq c) q19 q26 4 (by decide) (by decide) (by decide) (by decide) rfl rfl rfl (k0_off12_eq c) (sh := tk 2) (Entails.of_eq rfl) (give26 m c)) $$ [HO HS3 Ht Hp3]
  · isplitr; · iexact HC
    isplitl [HO]; · iexact HO
    isplitl [HS3]; · iexact HS3
    isplitl [Ht]; · iexact Ht
    iexact Hp3
  iintro ⟨HR19, HO⟩
  ihave H := (ap_give m c 3) $$ Ha
  icases H with ⟨Ht, Ha⟩
  iapply (wp_amx m c (dv c 4) (dev14_eq c) q20 q27 3 (by decide) (by decide) (by decide) (by decide) rfl rfl rfl (k0_off12_eq c) (sh := tk 3) (Entails.of_eq rfl) (give27 m c)) $$ [HO HS4 Ht Hp4]
  · isplitr; · iexact HC
    isplitl [HO]; · iexact HO
    isplitl [HS4]; · iexact HS4
    isplitl [Ht]; · iexact Ht
    iexact Hp4
  iintro ⟨HR20, HO⟩
  ihave H := (ap_give m c 4) $$ Ha
  icases H with ⟨Ht, Ha⟩
  iapply (wp_amx m c (dv c 5) (dev15_eq c) q21 q28 2 (by decide) (by decide) (by decide) (by decide) rfl rfl rfl (k0_off12_eq c) (sh := tk 4) (Entails.of_eq rfl) (give28 m c)) $$ [HO HS5 Ht Hp5]
  · isplitr; · iexact HC
    isplitl [HO]; · iexact HO
    isplitl [HS5]; · iexact HS5
    isplitl [Ht]; · iexact Ht
    iexact Hp5
  iintro ⟨HR21, HO⟩
  iapply (le_wp_ret frame (wpE (defs₀ (F := F)) 𝒱₀ (c : Thread nD τ) none) Set.univ)
  isplitl [HO]; · iexact HO
  isplitl [Ha]; · iexact Ha
  isplitl [HR19]; · iexact HR19
  isplitl [HR20]; · iexact HR20
  iexact HR21

/-- The last two devices get it; the left neighbour's row arrives. -/
theorem part25 (c : Dev nD) (v2 v701 : BitVec 32) : iprop(Ctx m ∗ Due c 2 ∗ ap c (rem 5) c.val (AM m) ∗ Snd c (dv c 6) q22 q29 ∗ perm (F := F) (dv c 6) c ∗ Snd c (dv c 7) q23 q30 ∗ perm (F := F) (dv c 7) c ∗ Rcv c q24)
    ⊢ wp frame (wpE (defs₀ (F := F)) 𝒱₀ (c : Thread nD τ) none) Set.univ (k0_part25 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v701)
      (fun r => iprop(Due c 0 ∗ ap c (rem 7) c.val (AM m) ∗ Rcv c q22 ∗ Rcv c q23 ∗ ap c fullShare (dv c 7).val (AM m) ∗ semVal (dcell c q24) 0)) := by
  iintro ⟨#HC, HO, Ha, HS6, Hp6, HS7, Hp7, HQ24⟩
  simp only [k0_part25_eq_skeleton]; unfold k0_part25_skel
  simp only [semSignalWord, semWaitWord, Prog.lift, Prog.bind_op, Prog.bind_ret, Prog.pure_eq_ret, Prog.bind_assoc]
  simp only [sem22, sem23, sem24, sem29, sem30]
  ihave H := (ap_give m c 5) $$ Ha
  icases H with ⟨Ht, Ha⟩
  iapply (wp_amx m c (dv c 6) (dev16_eq c) q22 q29 1 (by decide) (by decide) (by decide) (by decide) rfl rfl rfl (k0_off12_eq c) (sh := tk 5) (Entails.of_eq rfl) (give29 m c)) $$ [HO HS6 Ht Hp6]
  · isplitr; · iexact HC
    isplitl [HO]; · iexact HO
    isplitl [HS6]; · iexact HS6
    isplitl [Ht]; · iexact Ht
    iexact Hp6
  iintro ⟨HR22, HO⟩
  ihave H := (ap_give m c 6) $$ Ha
  icases H with ⟨Ht, Ha⟩
  iapply (wp_amx m c (dv c 7) (dev17_eq c) q23 q30 0 (by decide) (by decide) (by decide) (by decide) rfl rfl rfl (k0_off12_eq c) (sh := tk 6) (Entails.of_eq rfl) (give30 m c)) $$ [HO HS7 Ht Hp7]
  · isplitr; · iexact HC
    isplitl [HO]; · iexact HO
    isplitl [HS7]; · iexact HS7
    isplitl [Ht]; · iexact Ht
    iexact Hp7
  iintro ⟨HR23, HO⟩
  iapply (wp_rcv m c q24 0 (by decide) (by decide) (by decide) (aM_credit.trans rfl)) $$ [HO HQ24]
  · isplitr; · iexact HC
    isplitl [HO]; · iexact HO
    iexact HQ24
  iintro ⟨HA1, Hv24, HO⟩
  ihave HA1 := (pay24_eq m c) $$ HA1
  iapply (le_wp_ret frame (wpE (defs₀ (F := F)) 𝒱₀ (c : Thread nD τ) none) Set.univ)
  isplitl [HO]; · iexact HO
  isplitl [Ha]; · iexact Ha
  isplitl [HR22]; · iexact HR22
  isplitl [HR23]; · iexact HR23
  isplitl [HA1]; · iexact HA1
  iexact Hv24

/-- Three more rows arrive. -/
theorem part26 (c : Dev nD) (v2 v731 c0 : BitVec 32) : iprop(Ctx m ∗ Due c 0 ∗ Rcv c q25 ∗ Rcv c q26 ∗ Rcv c q27)
    ⊢ wp frame (wpE (defs₀ (F := F)) 𝒱₀ (c : Thread nD τ) none) Set.univ (k0_part26 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v731 c0)
      (fun r => iprop(Due c 0 ∗ ap c fullShare (dv c 6).val (AM m) ∗ semVal (dcell c q25) 0 ∗ ap c fullShare (dv c 5).val (AM m) ∗ semVal (dcell c q26) 0 ∗ ap c fullShare (dv c 4).val (AM m) ∗ semVal (dcell c q27) 0)) := by
  iintro ⟨#HC, HO, HQ25, HQ26, HQ27⟩
  simp only [k0_part26_eq_skeleton]; unfold k0_part26_skel
  simp only [semSignalWord, semWaitWord, Prog.lift, Prog.bind_op, Prog.bind_ret, Prog.pure_eq_ret, Prog.bind_assoc]
  simp only [sem25, sem26, sem27]
  iapply (wp_rcv m c q25 0 (by decide) (by decide) (by decide) (aM_credit.trans rfl)) $$ [HO HQ25]
  · isplitr; · iexact HC
    isplitl [HO]; · iexact HO
    iexact HQ25
  iintro ⟨HA2, Hv25, HO⟩
  ihave HA2 := (pay25_eq m c) $$ HA2
  iapply (wp_rcv m c q26 0 (by decide) (by decide) (by decide) (aM_credit.trans rfl)) $$ [HO HQ26]
  · isplitr; · iexact HC
    isplitl [HO]; · iexact HO
    iexact HQ26
  iintro ⟨HA3, Hv26, HO⟩
  ihave HA3 := (pay26_eq m c) $$ HA3
  iapply (wp_rcv m c q27 0 (by decide) (by decide) (by decide) (aM_credit.trans rfl)) $$ [HO HQ27]
  · isplitr; · iexact HC
    isplitl [HO]; · iexact HO
    iexact HQ27
  iintro ⟨HA4, Hv27, HO⟩
  ihave HA4 := (pay27_eq m c) $$ HA4
  iapply (le_wp_ret frame (wpE (defs₀ (F := F)) 𝒱₀ (c : Thread nD τ) none) Set.univ)
  isplitl [HO]; · iexact HO
  isplitl [HA2]; · iexact HA2
  isplitl [Hv25]; · iexact Hv25
  isplitl [HA3]; · iexact HA3
  isplitl [Hv26]; · iexact Hv26
  isplitl [HA4]; · iexact HA4
  iexact Hv27

/-- The last three rows arrive, and the device's own block is free again. -/
theorem part27 (c : Dev nD) (v2 : BitVec 32) : iprop(Ctx m ∗ Due c 0 ∗ Rcv c q28 ∗ Rcv c q29 ∗ Rcv c q30 ∗ Rcv c q1 ∗ Rcv c q9)
    ⊢ wp frame (wpE (defs₀ (F := F)) 𝒱₀ (c : Thread nD τ) none) Set.univ (k0_part27 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2)
      (fun r => iprop(Due c 0 ∗ ap c fullShare (dv c 3).val (AM m) ∗ semVal (dcell c q28) 0 ∗ ap c fullShare (dv c 2).val (AM m) ∗ semVal (dcell c q29) 0 ∗ ap c fullShare (dv c 1).val (AM m) ∗ semVal (dcell c q30) 0 ∗ ownP m c fullShare.left.left ∗ semVal (dcell c q1) 0 ∗ ownP m c fullShare.left.right ∗ semVal (dcell c q9) 0)) := by
  iintro ⟨#HC, HO, HQ28, HQ29, HQ30, HR1, HR9⟩
  simp only [k0_part27_eq_skeleton]; unfold k0_part27_skel
  simp only [semSignalWord, semWaitWord, Prog.lift, Prog.bind_op, Prog.bind_ret, Prog.pure_eq_ret, Prog.bind_assoc]
  simp only [sem1, sem9, sem28, sem29, sem30]
  iapply (wp_rcv m c q28 0 (by decide) (by decide) (by decide) (aM_credit.trans rfl)) $$ [HO HQ28]
  · isplitr; · iexact HC
    isplitl [HO]; · iexact HO
    iexact HQ28
  iintro ⟨HA5, Hv28, HO⟩
  ihave HA5 := (pay28_eq m c) $$ HA5
  iapply (wp_rcv m c q29 0 (by decide) (by decide) (by decide) (aM_credit.trans rfl)) $$ [HO HQ29]
  · isplitr; · iexact HC
    isplitl [HO]; · iexact HO
    iexact HQ29
  iintro ⟨HA6, Hv29, HO⟩
  ihave HA6 := (pay29_eq m c) $$ HA6
  iapply (wp_rcv m c q30 0 (by decide) (by decide) (by decide) (aM_credit.trans rfl)) $$ [HO HQ30]
  · isplitr; · iexact HC
    isplitl [HO]; · iexact HO
    iexact HQ30
  iintro ⟨HA7, Hv30, HO⟩
  ihave HA7 := (pay30_eq m c) $$ HA7
  iapply (wp_rcv m c q1 0 (by decide) (by decide) (by decide) (own_credit.trans rfl)) $$ [HO HR1]
  · isplitr; · iexact HC
    isplitl [HO]; · iexact HO
    iexact HR1
  iintro ⟨Ho1, Hv1, HO⟩
  ihave Ho1 := (pay1_eq m c) $$ Ho1
  iapply (wp_rcv m c q9 0 (by decide) (by decide) (by decide) (own_credit.trans rfl)) $$ [HO HR9]
  · isplitr; · iexact HC
    isplitl [HO]; · iexact HO
    iexact HR9
  iintro ⟨Ho2, Hv9, HO⟩
  ihave Ho2 := (pay9_eq m c) $$ Ho2
  iapply (le_wp_ret frame (wpE (defs₀ (F := F)) 𝒱₀ (c : Thread nD τ) none) Set.univ)
  isplitl [HO]; · iexact HO
  isplitl [HA5]; · iexact HA5
  isplitl [Hv28]; · iexact Hv28
  isplitl [HA6]; · iexact HA6
  isplitl [Hv29]; · iexact Hv29
  isplitl [HA7]; · iexact HA7
  isplitl [Hv30]; · iexact Hv30
  isplitl [Ho1]; · iexact Ho1
  isplitl [Hv1]; · iexact Hv1
  isplitl [Ho2]; · iexact Ho2
  iexact Hv9

/-- Every forwarded block has gone. -/
theorem part28 (c : Dev nD)  : iprop(Ctx m ∗ Due c 0 ∗ Rcv c q2 ∗ Rcv c q10 ∗ Rcv c q3 ∗ Rcv c q11 ∗ Rcv c q4 ∗ Rcv c q12)
    ⊢ wp frame (wpE (defs₀ (F := F)) 𝒱₀ (c : Thread nD τ) none) Set.univ (k0_part28 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c)
      (fun r => iprop(Due c 0 ∗ semVal (dcell c q2) 0 ∗ semVal (dcell c q10) 0 ∗ semVal (dcell c q3) 0 ∗ semVal (dcell c q11) 0 ∗ semVal (dcell c q4) 0 ∗ semVal (dcell c q12) 0)) := by
  iintro ⟨#HC, HO, HR2, HR10, HR3, HR11, HR4, HR12⟩
  simp only [k0_part28_eq_skeleton]; unfold k0_part28_skel
  simp only [semSignalWord, semWaitWord, Prog.lift, Prog.bind_op, Prog.bind_ret, Prog.pure_eq_ret, Prog.bind_assoc]
  simp only [sem2, sem3, sem4, sem10, sem11, sem12]
  iapply (wp_rcv m c q2 0 (by decide) (by decide) (by decide) (gM512_credit.trans rfl)) $$ [HO HR2]
  · isplitr; · iexact HC
    isplitl [HO]; · iexact HO
    iexact HR2
  iintro ⟨-, Hv2, HO⟩
  iapply (wp_rcv m c q10 0 (by decide) (by decide) (by decide) (gM512_credit.trans rfl)) $$ [HO HR10]
  · isplitr; · iexact HC
    isplitl [HO]; · iexact HO
    iexact HR10
  iintro ⟨-, Hv10, HO⟩
  iapply (wp_rcv m c q3 0 (by decide) (by decide) (by decide) (gM512_credit.trans rfl)) $$ [HO HR3]
  · isplitr; · iexact HC
    isplitl [HO]; · iexact HO
    iexact HR3
  iintro ⟨-, Hv3, HO⟩
  iapply (wp_rcv m c q11 0 (by decide) (by decide) (by decide) (gM512_credit.trans rfl)) $$ [HO HR11]
  · isplitr; · iexact HC
    isplitl [HO]; · iexact HO
    iexact HR11
  iintro ⟨-, Hv11, HO⟩
  iapply (wp_rcv m c q4 0 (by decide) (by decide) (by decide) (gM256_credit.trans rfl)) $$ [HO HR4]
  · isplitr; · iexact HC
    isplitl [HO]; · iexact HO
    iexact HR4
  iintro ⟨-, Hv4, HO⟩
  iapply (wp_rcv m c q12 0 (by decide) (by decide) (by decide) (gM256_credit.trans rfl)) $$ [HO HR12]
  · isplitr; · iexact HC
    isplitl [HO]; · iexact HO
    iexact HR12
  iintro ⟨-, Hv12, HO⟩
  iapply (le_wp_ret frame (wpE (defs₀ (F := F)) 𝒱₀ (c : Thread nD τ) none) Set.univ)
  isplitl [HO]; · iexact HO
  isplitl [Hv2]; · iexact Hv2
  isplitl [Hv10]; · iexact Hv10
  isplitl [Hv3]; · iexact Hv3
  isplitl [Hv11]; · iexact Hv11
  isplitl [Hv4]; · iexact Hv4
  iexact Hv12

/-- The row of maxima has gone to six devices. -/
theorem part29 (c : Dev nD)  : iprop(Ctx m ∗ Due c 0 ∗ Rcv c q17 ∗ Rcv c q18 ∗ Rcv c q19 ∗ Rcv c q20 ∗ Rcv c q21 ∗ Rcv c q22)
    ⊢ wp frame (wpE (defs₀ (F := F)) 𝒱₀ (c : Thread nD τ) none) Set.univ (k0_part29 (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c)
      (fun r => iprop(Due c 0 ∗ ap c (tk 0) c.val (AM m) ∗ semVal (dcell c q17) 0 ∗ ap c (tk 1) c.val (AM m) ∗ semVal (dcell c q18) 0 ∗ ap c (tk 2) c.val (AM m) ∗ semVal (dcell c q19) 0 ∗ ap c (tk 3) c.val (AM m) ∗ semVal (dcell c q20) 0 ∗ ap c (tk 4) c.val (AM m) ∗ semVal (dcell c q21) 0 ∗ ap c (tk 5) c.val (AM m) ∗ semVal (dcell c q22) 0)) := by
  iintro ⟨#HC, HO, HR17, HR18, HR19, HR20, HR21, HR22⟩
  simp only [k0_part29_eq_skeleton]; unfold k0_part29_skel
  simp only [semSignalWord, semWaitWord, Prog.lift, Prog.bind_op, Prog.bind_ret, Prog.pure_eq_ret, Prog.bind_assoc]
  simp only [sem17, sem18, sem19, sem20, sem21, sem22]
  iapply (wp_rcv m c q17 0 (by decide) (by decide) (by decide) (aM_credit.trans rfl)) $$ [HO HR17]
  · isplitr; · iexact HC
    isplitl [HO]; · iexact HO
    iexact HR17
  iintro ⟨Ht17, Hv17, HO⟩
  ihave Ht17 := (pay17_eq m c) $$ Ht17
  iapply (wp_rcv m c q18 0 (by decide) (by decide) (by decide) (aM_credit.trans rfl)) $$ [HO HR18]
  · isplitr; · iexact HC
    isplitl [HO]; · iexact HO
    iexact HR18
  iintro ⟨Ht18, Hv18, HO⟩
  ihave Ht18 := (pay18_eq m c) $$ Ht18
  iapply (wp_rcv m c q19 0 (by decide) (by decide) (by decide) (aM_credit.trans rfl)) $$ [HO HR19]
  · isplitr; · iexact HC
    isplitl [HO]; · iexact HO
    iexact HR19
  iintro ⟨Ht19, Hv19, HO⟩
  ihave Ht19 := (pay19_eq m c) $$ Ht19
  iapply (wp_rcv m c q20 0 (by decide) (by decide) (by decide) (aM_credit.trans rfl)) $$ [HO HR20]
  · isplitr; · iexact HC
    isplitl [HO]; · iexact HO
    iexact HR20
  iintro ⟨Ht20, Hv20, HO⟩
  ihave Ht20 := (pay20_eq m c) $$ Ht20
  iapply (wp_rcv m c q21 0 (by decide) (by decide) (by decide) (aM_credit.trans rfl)) $$ [HO HR21]
  · isplitr; · iexact HC
    isplitl [HO]; · iexact HO
    iexact HR21
  iintro ⟨Ht21, Hv21, HO⟩
  ihave Ht21 := (pay21_eq m c) $$ Ht21
  iapply (wp_rcv m c q22 0 (by decide) (by decide) (by decide) (aM_credit.trans rfl)) $$ [HO HR22]
  · isplitr; · iexact HC
    isplitl [HO]; · iexact HO
    iexact HR22
  iintro ⟨Ht22, Hv22, HO⟩
  ihave Ht22 := (pay22_eq m c) $$ Ht22
  iapply (le_wp_ret frame (wpE (defs₀ (F := F)) 𝒱₀ (c : Thread nD τ) none) Set.univ)
  isplitl [HO]; · iexact HO
  isplitl [Ht17]; · iexact Ht17
  isplitl [Hv17]; · iexact Hv17
  isplitl [Ht18]; · iexact Ht18
  isplitl [Hv18]; · iexact Hv18
  isplitl [Ht19]; · iexact Ht19
  isplitl [Hv19]; · iexact Hv19
  isplitl [Ht20]; · iexact Ht20
  isplitl [Hv20]; · iexact Hv20
  isplitl [Ht21]; · iexact Ht21
  isplitl [Hv21]; · iexact Hv21
  isplitl [Ht22]; · iexact Ht22
  iexact Hv22

end Cert.Ring

end
-- ==== Proof.Quant.lean ====
/-
The quantising loop; cutting and joining the buffers.
-/
module

public import proofs.«01_k».proof.Proof.PartsC

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The quantising loop -/

/-- The result buffer with the first `k` blocks of 256 rows quantised. -/
def LI (c : Dev nD) (k : ℕ) (_ : Unit) : sProp 𝕄 :=
  iprop(∃ f : S4096x1024.Idx → Elt F .f32, ⌜∀ i : S4096x1024.Idx, f i = if (i 0).val / 256 < k then QB m c i else YB m c i⌝ ∗ (((c : Thread nD τ).loc cc0_stg0_0 : Loc nD τ sig) ↦{fullShare} f))

theorem trips_eq : k0_t1_loop.trips = 16 := by decide

theorem write_quant (c : Dev nD) (k : Fin 16) {o i} (h : o = ![256 * k.val, 0])
    (y : S4096x1024.Idx → Elt F .f32) (hy : ∀ j : S4096x1024.Idx, y j = if (j 0).val / 256 < k.val then QB m c j else YB m c j) (j : S4096x1024.Idx) :
    ((Memref.whole cc0_stg0_0 : Memref sig .tc .vmem S4096x1024 .f32).access (oR256 o i)).write (Elt F) y (k0_pay1 (AM m) (yBlk m c k)) Finset.univ j
      = if (j 0).val / 256 < k.val + 1 then QB m c j else YB m c j := by
  subst h
  by_cases hr : 256 * k.val ≤ (j 0).val ∧ (j 0).val < 256 * k.val + 256
  · let x : S256x1024.Idx := Shape.pair (d := ![256, 1024]) ⟨(j 0).val - 256 * k.val, by show _ < 256; omega⟩ ⟨(j 1).val, (j 1).isLt⟩
    have hx : ((Memref.whole cc0_stg0_0 : Memref sig .tc .vmem S4096x1024 .f32).access (oR256 ![256 * k.val, 0] i)).emb x = j := by
      funext a; apply Fin.ext
      match a with
      | 0 => show 256 * k.val + 1 * ((j 0).val - 256 * k.val) = (j 0).val; omega
      | 1 => show 0 + 1 * (j 1).val = (j 1).val; omega
    conv_lhs => rw [← hx]
    rw [View.write_emb_of_mem _ _ (Finset.mem_univ _), if_pos (by omega)]
    unfold QB
    have hb : blkOf j = k := Fin.ext (by show (j 0).val / 256 = k.val; omega)
    have hi : inBlk j = x := by
      funext a; apply Fin.ext
      match a with
      | 0 => show (j 0).val % 256 = (j 0).val - 256 * k.val; omega
      | 1 => rfl
    rw [hb, hi]; rfl
  · have e : ((Memref.whole cc0_stg0_0 : Memref sig .tc .vmem S4096x1024 .f32).access (oR256 ![256 * k.val, 0] i)).setOn Finset.univ = rows (256 * k.val) 256 :=
      (View.set_slice_whole _ _).trans (set_rows i (256 * k.val) 256 rfl rfl)
    have hnm : j ∉ ((Memref.whole cc0_stg0_0 : Memref sig .tc .vmem S4096x1024 .f32).access (oR256 ![256 * k.val, 0] i)).setOn Finset.univ := by
      rw [e, mem_rows]; exact hr
    refine (View.write_of_not_mem _ _ _ hnm).trans ((hy j).trans ?_)
    by_cases hl : (j 0).val / 256 < k.val
    · rw [if_pos hl, if_pos (by omega)]
    · rw [if_neg hl, if_neg (by omega)]

theorem read_quant (c : Dev nD) (k : Fin 16) {o i} (h : o = ![256 * k.val, 0])
    (y : S4096x1024.Idx → Elt F .f32) (hy : ∀ j : S4096x1024.Idx, y j = if (j 0).val / 256 < k.val then QB m c j else YB m c j) :
    (Memref.whole cc0_stg0_0 : Memref sig .tc .vmem S4096x1024 .f32).view.readAt (Elt F) (oR256 o i).toLoadRect y = yBlk m c k := by
  subst h
  funext x
  have h0 : (x 0).val < 256 := (x 0).isLt
  have hj0 : (((oR256 ![256 * k.val, 0] i).toLoadRect.idx x) 0).val = 256 * k.val + (x 0).val := by
    show 256 * k.val + 1 * (x 0).val = _; omega
  have hj1 : (((oR256 ![256 * k.val, 0] i).toLoadRect.idx x) 1).val = (x 1).val := by
    show 0 + 1 * (x 1).val = _; omega
  refine Eq.trans (hy ((oR256 ![256 * k.val, 0] i).toLoadRect.idx x)) ?_
  rw [if_neg (by rw [hj0]; omega)]
  unfold yBlk
  congr 1
  funext a; apply Fin.ext
  match a with
  | 0 => exact hj0
  | 1 => exact hj1

/-- One trip. -/
theorem trip (c : Dev nD) (k : Fin k0_t1_loop.trips) (acc : Unit) :
    LI m c k.val acc ⊢ wp frame (wpE (defs₀ (F := F)) 𝒱₀ (c : Thread nD τ) none) Set.univ (k0_t1_body (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 (AM m) k acc) (LI m c (k.val + 1)) := by
  have hk : k.val < 16 := by exact Nat.lt_of_lt_of_eq k.isLt trips_eq
  unfold k0_t1_body
  simp only [Prog.lift, Prog.bind_op, Prog.bind_ret, Prog.pure_eq_ret]
  iintro HI
  unfold LI
  icases HI with ⟨%f, %hf, H⟩
  iapply (wp_ld c (Memref.whole cc0_stg0_0) (r := oR256 (k0_off14 k) (k0_off14_inb k)) (yBlk m c ⟨k.val, hk⟩) (Finset.subset_univ _)
    (read_quant m c ⟨k.val, hk⟩ (k0_off14_eq k) f hf)) $$ H
  iintro H
  iapply (wp_ld0 c (Memref.whole cc0_stg0_0) (oR256 (k0_off14 k) (k0_off14_inb k))) $$ H
  iintro H
  iapply (wp_st c (Memref.whole cc0_stg0_0) (oR256 (k0_off14 k) (k0_off14_inb k))) $$ H
  iintro H
  iapply (le_wp_ret frame (wpE (defs₀ (F := F)) 𝒱₀ (c : Thread nD τ) none) Set.univ)
  iexists (((Memref.whole cc0_stg0_0 : Memref sig .tc .vmem S4096x1024 .f32).access (oR256 (k0_off14 k) (k0_off14_inb k))).write (Elt F) f (k0_pay1 (AM m) (yBlk m c ⟨k.val, hk⟩)) Finset.univ)
  isplitr
  · ipureintro; exact fun j => write_quant m c ⟨k.val, hk⟩ (k0_off14_eq k) f hf j
  · iexact H

/-- The result buffer, quantised. -/
def ResP (c : Dev nD) : sProp 𝕄 := ((c : Thread nD τ).loc cc0_stg0_0 : Loc nD τ sig) ↦{fullShare} (QB m c)

/-- Before the loop every block holds its product. -/
theorem LI_start (c : Dev nD) (l : List ℕ) (hl : ∀ q : ℕ, q < 16 → q ∈ l) : OutP m c l ⊢ LI m c 0 () := by
  unfold OutP LI
  iintro ⟨%y, %hy, H⟩
  iexists y
  isplitr
  · ipureintro; intro i
    rw [if_neg (Nat.not_lt_zero _)]
    have h0 : (i 0).val < 4096 := (i 0).isLt
    exact hy i (hl _ (by omega))
  · iexact H
theorem LI_end (c : Dev nD) (a : Unit) : LI m c k0_t1_loop.trips a ⊢ ResP m c := by
  rw [trips_eq]
  unfold LI ResP
  iintro ⟨%y, %hy, H⟩
  have e : y = QB m c := funext fun i => (hy i).trans (if_pos (by have h0 : (i 0).val < 4096 := (i 0).isLt; omega))
  ihave H := (Entails.of_eq (congrArg (fun u => (((c : Thread nD τ).loc cc0_stg0_0 : Loc nD τ sig) ↦{fullShare} u : sProp 𝕄)) e)) $$ H
  iexact H

/-- The whole loop. -/
theorem quant (c : Dev nD) (l : List ℕ) (hl : ∀ q : ℕ, q < 16 → q ∈ l) :
    OutP m c l ⊢ wp frame (wpE (defs₀ (F := F)) 𝒱₀ (c : Thread nD τ) none) Set.univ (Scf.Loop.for k0_t1_loop k0_t1_ok () (k0_t1_body (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 (AM m))) (fun _ => ResP m c) := by
  iintro H
  ihave H := (LI_start m c l hl) $$ H
  iapply (Scf.wp_for frame (wpE (defs₀ (F := F)) 𝒱₀ (c : Thread nD τ) none) Set.univ k0_t1_loop.lb k0_t1_loop.ub k0_t1_loop.st k0_t1_ok () (k0_t1_body (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 (AM m)) (LI m c) (trip m c))
  isplitl [H]; · iexact H
  iintro %a H
  iapply (LI_end m c a); iexact H

/-! ## Cutting and joining buffers -/

theorem dv_inj (c : Dev nD) (a b : Fin 8) (h : (dv c a.val).val = (dv c b.val).val) : a = b := by
  have h1 : (dv c a.val).val = (c.val + a.val) % 8 := rfl
  have h2 : (dv c b.val).val = (c.val + b.val) % 8 := rfl
  have := a.isLt; have := b.isLt
  exact Fin.ext (by omega)
theorem dv_surj (c : Dev nD) (s : ℕ) (hs : s < 8) : ∃ j : Fin 8, (dv c j.val).val = s := by
  have hc : c.val < 8 := c.isLt
  refine ⟨⟨(s + 8 - c.val) % 8, Nat.mod_lt _ (by decide)⟩, ?_⟩
  show (c.val + (s + 8 - c.val) % 8) % 8 = s
  omega
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, BI.bigSep_insert (by decide), BI.bigSep_insert (by decide), BI.bigSep_insert (by decide),
    BI.bigSep_insert (by decide), BI.bigSep_insert (by decide), BI.bigSep_insert (by decide), BI.bigSep_insert (by decide), BI.bigSep_singleton]
  rfl

/-- The buffer of maxima, row by row. -/
theorem am_rows (c : Dev nD) (f : S8x128.Idx → Elt F .f32) :
    (((c : Thread nD τ).loc cc0_scratch4 : Loc nD τ sig) ↦{fullShare} f : sProp 𝕄)
      = iprop(ap c fullShare (dv c 0).val f ∗ ap c fullShare (dv c 1).val f ∗ ap c fullShare (dv c 2).val f ∗ ap c fullShare (dv c 3).val f
          ∗ ap c fullShare (dv c 4).val f ∗ ap c fullShare (dv c 5).val f ∗ ap c fullShare (dv c 6).val f ∗ ap c fullShare (dv c 7).val f) := by
  have hu : (Finset.univ : Finset S8x128.Idx) = (Finset.univ : Finset (Fin 8)).biUnion fun j => rows (dv c j.val).val 1 := by
    ext i
    have h0 : (i 0).val < 8 := (i 0).isLt
    obtain ⟨j, hj⟩ := dv_surj c (i 0).val h0
    simp only [Finset.mem_univ, Finset.mem_biUnion, true_and, mem_rows, true_iff]
    exact ⟨j, by omega⟩
  have e := pointsTo_biUnion (Ix := Unit) (Name := ℕ) (U := UU) (Lvl := ℕ) (ℓ := ((c : Thread nD τ).loc cc0_scratch4 : Loc nD τ sig)) (q := fullShare) (f := f) (Finset.univ : Finset (Fin 8)) (fun j => rows (dv c j.val).val 1)
    (fun a _ b _ hab => Finset.disjoint_left.mpr fun i ha hb => hab (dv_inj c a b (by rw [mem_rows] at ha hb; omega)))
  rw [bigSep8] at e
  exact (congrArg (fun S => (((c : Thread nD τ).loc cc0_scratch4 : Loc nD τ sig) ↦[S]{fullShare} f : sProp 𝕄)) hu).trans e

/-- The gathered array, block by block. -/
theorem gath_rows (c : Dev nD) (f : S4096x4096.Idx → Elt F .bf16) :
    (((c : Thread nD τ).loc main_v1_1 : Loc nD τ sig) ↦{fullShare} f : sProp 𝕄)
      = iprop(gp c fullShare (512 * (dv c 0).val) 512 f ∗ gp c fullShare (512 * (dv c 1).val) 512 f ∗ gp c fullShare (512 * (dv c 2).val) 512 f ∗ gp c fullShare (512 * (dv c 3).val) 512 f
          ∗ gp c fullShare (512 * (dv c 4).val) 512 f ∗ gp c fullShare (512 * (dv c 5).val) 512 f ∗ gp c fullShare (512 * (dv c 6).val) 512 f ∗ gp c fullShare (512 * (dv c 7).val) 512 f) := by
  have hu : (Finset.univ : Finset S4096x4096.Idx) = (Finset.univ : Finset (Fin 8)).biUnion fun j => rows (512 * (dv c j.val).val) 512 := by
    ext i
    have h0 : (i 0).val < 4096 := (i 0).isLt
    obtain ⟨j, hj⟩ := dv_surj c ((i 0).val / 512) (by omega)
    simp only [Finset.mem_univ, Finset.mem_biUnion, true_and, mem_rows, true_iff]
    exact ⟨j, by omega⟩
  have e := pointsTo_biUnion (Ix := Unit) (Name := ℕ) (U := UU) (Lvl := ℕ) (ℓ := ((c : Thread nD τ).loc main_v1_1 : Loc nD τ sig)) (q := fullShare) (f := f) (Finset.univ : Finset (Fin 8)) (fun j => rows (512 * (dv c j.val).val) 512)
    (fun a _ b _ hab => Finset.disjoint_left.mpr fun i ha hb => hab (dv_inj c a b (by rw [mem_rows] at ha hb; omega)))
  rw [bigSep8] at e
  exact (congrArg (fun S => (((c : Thread nD τ).loc main_v1_1 : Loc nD τ sig) ↦[S]{fullShare} f : sProp 𝕄)) hu).trans e

/-- At launch each row of maxima is a right to write it. -/
theorem am_split (c : Dev nD) (f : S8x128.Idx → Elt F .f32) :
    (((c : Thread nD τ).loc cc0_scratch4 : Loc nD τ sig) ↦{fullShare} f : sProp 𝕄) ⊢ iprop(perm c c ∗ permsUp c 4 (dv c 1) ∗ permsDn c 3 (dv c 7)) := by
  rw [am_rows]
  simp only [permsUp, permsDn, dv_dv, Nat.reduceAdd]
  rw [show dv c 14 = dv c 6 from dv_mod c 6, show dv c 21 = dv c 5 from (dv_mod c 13).trans (dv_mod c 5)]
  unfold perm
  iintro ⟨H0, H1, H2, H3, H4, H5, H6, H7⟩
  isplitl [H0]; · iexists f; ihave H0 := (Entails.of_eq (congrArg (fun d : Dev nD => ap (F := F) c fullShare d.val f) (dv_zero c))) $$ H0; iexact H0
  isplitl [H1 H2 H3 H4]
  · isplitl [H1]; · iexists f; iexact H1
    isplitl [H2]; · iexists f; iexact H2
    isplitl [H3]; · iexists f; iexact H3
    isplitl [H4]; · iexists f; iexact H4
    iempintro
  isplitl [H7]; · iexists f; iexact H7
  isplitl [H6]; · iexists f; iexact H6
  isplitl [H5]; · iexists f; iexact H5
  iempintro

/-- At the end the rows are the whole buffer of maxima. -/
theorem am_join (c : Dev nD) :
    iprop(ap c fullShare c.val (AM m) ∗ ap c fullShare (dv c 1).val (AM m) ∗ ap c fullShare (dv c 2).val (AM m) ∗ ap c fullShare (dv c 3).val (AM m)
        ∗ ap c fullShare (dv c 4).val (AM m) ∗ ap c fullShare (dv c 5).val (AM m) ∗ ap c fullShare (dv c 6).val (AM m) ∗ ap c fullShare (dv c 7).val (AM m))
      ⊢ (((c : Thread nD τ).loc cc0_scratch4 : Loc nD τ sig) ↦{fullShare} (AM m) : sProp 𝕄) := by
  rw [am_rows, dv_zero]

theorem ap_back (c : Dev nD) (k : ℕ) : iprop(ap c (tk k) c.val (AM m) ∗ ap c (rem (k + 1)) c.val (AM m)) ⊢ ap c (rem k) c.val (AM m) := ap_join c (rem k) c.val (AM m)
/-- The shares of the device's own row, together again. -/
theorem ap_whole (c : Dev nD) :
    iprop(ap c (tk 0) c.val (AM m) ∗ ap c (tk 1) c.val (AM m) ∗ ap c (tk 2) c.val (AM m) ∗ ap c (tk 3) c.val (AM m) ∗ ap c (tk 4) c.val (AM m)
        ∗ ap c (tk 5) c.val (AM m) ∗ ap c (tk 6) c.val (AM m) ∗ ap c (rem 7) c.val (AM m)) ⊢ ap c fullShare c.val (AM m) :=
  (sep_mono_right <| (sep_mono_right <| (sep_mono_right <| (sep_mono_right <| (sep_mono_right <| (sep_mono_right (ap_back m c 6)).trans (ap_back m c 5)).trans (ap_back m c 4)).trans
    (ap_back m c 3)).trans (ap_back m c 2)).trans (ap_back m c 1)).trans (ap_back m c 0)

/-- At launch the gathered array's rows are what the neighbours need of it. -/
theorem gath_split (c : Dev nD) : (((c : Thread nD τ).loc main_v1_1 : Loc nD τ sig) ↦{fullShare} (G0 m c) : sProp 𝕄) ⊢ iprop(landR m c ∗ landL m c) := by
  rw [gath_rows]
  unfold landR landL
  iintro ⟨-, H1, H2, H3, H4, H5, H6, H7⟩
  ihave H := (gp_cut c fullShare (512 * (dv c 4).val) 512 256 (by decide) (G0 m c)) $$ H4
  icases H with ⟨H4, H4'⟩
  isplitl [H4 H5 H6 H7]
  · isplitl [H7]; · iexact H7
    isplitl [H6]; · iexact H6
    isplitl [H5]; · iexact H5
    iexact H4
  isplitl [H1]; · iexact H1
  isplitl [H2]; · iexact H2
  isplitl [H3]; · iexact H3
  iexact H4'

/-- The two slots of the chunk buffer. -/
theorem chunk_compl : (Finset.univ : Finset S2x512x4096.Idx) \ slotC 0 = slotC 1 := by
  ext i
  have h : (i 0).val < 2 := (i 0).isLt
  rw [Finset.mem_sdiff, mem_slotC, mem_slotC]
  simp only [Finset.mem_univ, true_and]
  show ¬ (i 0).val = 0 ↔ (i 0).val = 1
  omega
theorem chunk_cut (c : Dev nD) (f : S2x512x4096.Idx → Elt F .bf16) :
    (((c : Thread nD τ).loc cc0_scratch1 : Loc nD τ sig) ↦{fullShare} f : sProp 𝕄) ⊢ iprop((∃ f, chP c 0 f) ∗ (∃ f, chP c 1 f)) := by
  iintro H
  ihave H := (pointsTo_split_subset (Ix := Unit) (Name := ℕ) (U := UU) (Lvl := ℕ) (ℓ := ((c : Thread nD τ).loc cc0_scratch1 : Loc nD τ sig)) (q := fullShare) (f := f)
    (I := slotC 0) (S := Finset.univ) (Finset.subset_univ _)).1 $$ H
  icases H with ⟨H0, H1⟩
  unfold chP
  isplitl [H0]; · iexists f; iexact H0
  iexists f
  ihave H1 := (Entails.of_eq (congrArg (fun S => (((c : Thread nD τ).loc cc0_scratch1 : Loc nD τ sig) ↦[S]{fullShare} f : sProp 𝕄)) chunk_compl)) $$ H1
  iexact H1
theorem chunk_join (c : Dev nD) :
    iprop((∃ f, chP (F := F) c 0 f) ∗ (∃ f, chP (F := F) c 1 f)) ⊢ iprop(∃ f, (((c : Thread nD τ).loc cc0_scratch1 : Loc nD τ sig) ↦{fullShare} f : sProp 𝕄)) := by
  unfold chP
  iintro ⟨⟨%f, H0⟩, %g, H1⟩
  ihave H1 := (Entails.of_eq (congrArg (fun S => (((c : Thread nD τ).loc cc0_scratch1 : Loc nD τ sig) ↦[S]{fullShare} g : sProp 𝕄)) chunk_compl.symm)) $$ H1
  iexists ((slotC 0).piecewise f g)
  iapply (pointsTo_join_subset (Ix := Unit) (Name := ℕ) (U := UU) (Lvl := ℕ) (ℓ := ((c : Thread nD τ).loc cc0_scratch1 : Loc nD τ sig)) (q := fullShare) (f := g) (g := f) (I := slotC 0) (S := Finset.univ) (Finset.subset_univ _))
  isplitl [H0] <;> iassumption

theorem slot_sub : slotW 1 ⊆ (Finset.univ : Finset S512x4096.Idx) \ slotW 0 := fun i hi => by
  rw [Finset.mem_sdiff, mem_slotW]; rw [mem_slotW] at hi
  refine ⟨Finset.mem_univ _, fun h => ?_⟩
  have h1 : 1024 * 1 ≤ (i 1).val := hi.2.1
  have h2 : (i 1).val < 1024 * 0 + 1024 := h.2.2
  omega
/-- The staging buffer, whole again. -/
theorem stage_join (c : Dev nD) (f : S512x4096.Idx → Elt F .f32) :
    iprop((∃ f, stP (F := F) c 0 f) ∗ (∃ f, stP (F := F) c 1 f) ∗ (((c : Thread nD τ).loc cc0_scratch3 : Loc nD τ sig) ↦[(Finset.univ \ slotW 0) \ slotW 1]{fullShare} f))
      ⊢ iprop(∃ f, (((c : Thread nD τ).loc cc0_scratch3 : Loc nD τ sig) ↦{fullShare} f : sProp 𝕄)) := by
  unfold stP
  iintro ⟨⟨%g, H0⟩, ⟨%h, H1⟩, H⟩
  ihave H := (pointsTo_join_subset (Ix := Unit) (Name := ℕ) (U := UU) (Lvl := ℕ) (ℓ := ((c : Thread nD τ).loc cc0_scratch3 : Loc nD τ sig)) (q := fullShare) (f := f) (g := h) (I := slotW 1) (S := Finset.univ \ slotW 0) slot_sub) $$ [H1 H]
  · isplitl [H1] <;> iassumption
  iexists _
  iapply (pointsTo_join_subset (Ix := Unit) (Name := ℕ) (U := UU) (Lvl := ℕ) (ℓ := ((c : Thread nD τ).loc cc0_scratch3 : Loc nD τ sig)) (q := fullShare) (g := g) (I := slotW 0) (S := Finset.univ) (Finset.subset_univ _))
  isplitl [H0] <;> iassumption

end Cert.Ring

end
-- ==== Proof.Body.lean ====
/-
The whole body of the kernel, part by part.
-/
module

public import proofs.«01_k».proof.Proof.Quant

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section
variable {α β : Type}
variable {Q : β → sProp (MT nD τ sig Unit (Elt F) ℕ UU ℕ)}
/-- One program after another. -/
theorem wp_seq (c : Dev nD) {p : Prog (TpuEff nD τ sig (Elt F) Λ₀ .tc) α} {K : α → Prog (TpuEff nD τ sig (Elt F) Λ₀ .tc) β} {P : sProp 𝕄} {R : α → sProp 𝕄}
    (h : P ⊢ wp frame (wpE (defs₀ (F := F)) 𝒱₀ (c : Thread nD τ) none) Set.univ p R) : P ⊢ iprop((∀ r, R r -∗ wp frame (wpE (defs₀ (F := F)) 𝒱₀ (c : Thread nD τ) none) Set.univ (K r) Q) -∗ wp frame (wpE (defs₀ (F := F)) 𝒱₀ (c : Thread nD τ) none) Set.univ (p >>= K) Q) := by
  rw [wp_bind]
  iintro HP HK
  iapply (wp_wand_r frame (wpE (defs₀ (F := F)) 𝒱₀ (c : Thread nD τ) none) Set.univ)
  isplitl [HP]
  · iapply h; iexact HP
  · iexact HK
end

theorem wbP_zero (c : Dev nD) : (iprop(∃ f, ((c : Thread nD τ).loc cc0_scratch2 : Loc nD τ sig) ↦{fullShare} f) : sProp 𝕄) ⊢ wbP m c 0 := by
  unfold wbP
  iintro ⟨%f, H⟩
  iexists f
  isplitr
  · ipureintro; intro i hi; exact absurd hi (by omega)
  · iexact H
theorem wA_halve (c : Dev nD) : wA m c fullShare ⊢ iprop(wA m c fullShare.left ∗ wA m c fullShare.right) := by
  unfold wA; exact (pointsTo_share (PosShare.mem_left_op_right fullShare)).1
theorem out_start (c : Dev nD) : (iprop(∃ f, ((c : Thread nD τ).loc cc0_stg0_0 : Loc nD τ sig) ↦{fullShare} f) : sProp 𝕄) ⊢ OutP m c [] := by
  unfold OutP
  iintro ⟨%f, H⟩
  iexists f
  isplitr
  · ipureintro; intro i hi; exact absurd hi List.not_mem_nil
  · iexact H
theorem own_some (c : Dev nD) : ownP m c fullShare ⊢ iprop(∃ f, ((c : Thread nD τ).loc cc0_scratch0 : Loc nD τ sig) ↦{fullShare} f) := by
  unfold ownP; iintro H; iexists _; iexact H
theorem wb_some (c : Dev nD) : WBP m c ⊢ iprop(∃ f, ((c : Thread nD τ).loc cc0_scratch2 : Loc nD τ sig) ↦{fullShare} f) := by
  unfold WBP; iintro H; iexists _; iexact H

/-- Every block has its product when the parts are over. -/
theorem all_blocks (c : Dev nD) : ∀ q : ℕ, q < 16 → q ∈ ((2 * (dv c 4).val + 1) :: ((2 * (dv c 4).val + 0) :: ((2 * (dv c 3).val) :: (2 * (dv c 3).val + 1) :: ((2 * (dv c 5).val) :: (2 * (dv c 5).val + 1) :: ((2 * (dv c 2).val) :: (2 * (dv c 2).val + 1) :: ((2 * (dv c 6).val) :: (2 * (dv c 6).val + 1) :: ((2 * (dv c 1).val) :: (2 * (dv c 1).val + 1) :: ((2 * (dv c 7).val) :: (2 * (dv c 7).val + 1) :: ([2 * c.val, 2 * c.val + 1]))))))))) := by
  have h : ∀ (c : Dev nD) (q : Fin 16), q.val ∈ (((2 * (dv c 4).val + 1) :: ((2 * (dv c 4).val + 0) :: ((2 * (dv c 3).val) :: (2 * (dv c 3).val + 1) :: ((2 * (dv c 5).val) :: (2 * (dv c 5).val + 1) :: ((2 * (dv c 2).val) :: (2 * (dv c 2).val + 1) :: ((2 * (dv c 6).val) :: (2 * (dv c 6).val + 1) :: ((2 * (dv c 1).val) :: (2 * (dv c 1).val + 1) :: ((2 * (dv c 7).val) :: (2 * (dv c 7).val + 1) :: ([2 * c.val, 2 * c.val + 1]))))))))) : List ℕ) := by decide
  exact fun q hq => h c ⟨q, hq⟩

/-- What a device's body starts from. -/
def BodyIn (c : Dev nD) : sProp 𝕄 :=
  iprop(Due c 17 ∗ dutyTok ER (barCell (dv c 7)) 0 false ∗ dutyTok ER (barCell (dv c 1)) 0 true ∗ atPos ER (barCell c) 0 ∅ 0 ∗ cred (tallyAt (barCell c) () 2) ∗ Snd c (dv c 1) q1 q5 ∗ Snd c (dv c 1) q2 q6 ∗ Snd c (dv c 1) q3 q7 ∗ Snd c (dv c 1) q4 q8 ∗ Snd c (dv c 7) q9 q13 ∗ Snd c (dv c 7) q10 q14 ∗ Snd c (dv c 7) q11 q15 ∗ Snd c (dv c 7) q12 q16 ∗ Snd c (dv c 1) q17 q24 ∗ Snd c (dv c 2) q18 q25 ∗ Snd c (dv c 3) q19 q26 ∗ Snd c (dv c 4) q20 q27 ∗ Snd c (dv c 5) q21 q28 ∗ Snd c (dv c 6) q22 q29 ∗ Snd c (dv c 7) q23 q30 ∗ Rcv c q5 ∗ Rcv c q6 ∗ Rcv c q7 ∗ Rcv c q8 ∗ Rcv c q13 ∗ Rcv c q14 ∗ Rcv c q15 ∗ Rcv c q16 ∗ Rcv c q24 ∗ Rcv c q25 ∗ Rcv c q26 ∗ Rcv c q27 ∗ Rcv c q28 ∗ Rcv c q29 ∗ Rcv c q30 ∗ semVal (dcell c (lq 0)) 0 ∗ semVal (dcell c (lq 1)) 0 ∗ xA m c ∗ wA m c fullShare ∗ (((c : Thread nD τ).loc main_v1_1 : Loc nD τ sig) ↦{fullShare} (G0 m c)) ∗ (∃ f, ((c : Thread nD τ).loc cc0_scratch0 : Loc nD τ sig) ↦{fullShare} f) ∗ (∃ f, ((c : Thread nD τ).loc cc0_scratch1 : Loc nD τ sig) ↦{fullShare} f) ∗ (∃ f, ((c : Thread nD τ).loc cc0_scratch2 : Loc nD τ sig) ↦{fullShare} f) ∗ (∃ f, ((c : Thread nD τ).loc cc0_scratch3 : Loc nD τ sig) ↦{fullShare} f) ∗ (∃ f, ((c : Thread nD τ).loc cc0_scratch4 : Loc nD τ sig) ↦{fullShare} f) ∗ (∃ f, ((c : Thread nD τ).loc cc0_stg0_0 : Loc nD τ sig) ↦{fullShare} f))
/-- What it ends with. -/
def BodyOut (c : Dev nD) : sProp 𝕄 :=
  iprop(Due c 0 ∗ semVal (dcell c q1) 0 ∗ semVal (dcell c q2) 0 ∗ semVal (dcell c q3) 0 ∗ semVal (dcell c q4) 0 ∗ semVal (dcell c q5) 0 ∗ semVal (dcell c q6) 0 ∗ semVal (dcell c q7) 0 ∗ semVal (dcell c q8) 0 ∗ semVal (dcell c q9) 0 ∗ semVal (dcell c q10) 0 ∗ semVal (dcell c q11) 0 ∗ semVal (dcell c q12) 0 ∗ semVal (dcell c q13) 0 ∗ semVal (dcell c q14) 0 ∗ semVal (dcell c q15) 0 ∗ semVal (dcell c q16) 0 ∗ semVal (dcell c q17) 0 ∗ semVal (dcell c q18) 0 ∗ semVal (dcell c q19) 0 ∗ semVal (dcell c q20) 0 ∗ semVal (dcell c q21) 0 ∗ semVal (dcell c q22) 0 ∗ semVal (dcell c q23) 0 ∗ semVal (dcell c q24) 0 ∗ semVal (dcell c q25) 0 ∗ semVal (dcell c q26) 0 ∗ semVal (dcell c q27) 0 ∗ semVal (dcell c q28) 0 ∗ semVal (dcell c q29) 0 ∗ semVal (dcell c q30) 0 ∗ semVal (dcell c (lq 0)) 0 ∗ semVal (dcell c (lq 1)) 0 ∗ semVal (barCell c) 0 ∗ xA m c ∗ wA m c fullShare ∗ (∃ f, ((c : Thread nD τ).loc cc0_scratch0 : Loc nD τ sig) ↦{fullShare} f) ∗ (∃ f, ((c : Thread nD τ).loc cc0_scratch1 : Loc nD τ sig) ↦{fullShare} f) ∗ (∃ f, ((c : Thread nD τ).loc cc0_scratch2 : Loc nD τ sig) ↦{fullShare} f) ∗ (∃ f, ((c : Thread nD τ).loc cc0_scratch3 : Loc nD τ sig) ↦{fullShare} f) ∗ (∃ f, ((c : Thread nD τ).loc cc0_scratch4 : Loc nD τ sig) ↦{fullShare} f) ∗ ResP m c)

set_option maxHeartbeats 1000000 in
/-- The body, part by part. -/
theorem body_ok (c : Dev nD) : iprop(Ctx m ∗ BodyIn m c) ⊢ wp frame (wpE (defs₀ (F := F)) 𝒱₀ (c : Thread nD τ) none) Set.univ (cc0_body (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11) (fun _ => BodyOut m c) := by
  rw [cc0_body_eq_skeleton]
  unfold cc0_body_skel BodyIn
  iintro ⟨#HC, HO, TF, TT, AB, CB, S1, S2, S3, S4, S9, S10, S11, S12, S17, S18, S19, S20, S21, S22, S23, R5, R6, R7, R8, R13, R14, R15, R16, R24, R25, R26, R27, R28, R29, R30, V31, V32, X, W, G, B0, B1, B2, B3, B4, O⟩
  ihave H := (gath_split m c) $$ G
  icases H with ⟨LR, LL⟩
  icases B4 with ⟨%f4, B4⟩
  ihave H := (am_split c f4) $$ B4
  icases H with ⟨Pc, PU, PD⟩
  iapply (wp_seq c (part1 m c)) $$ [HO TF LR TT LL AB CB V31 X B3 B0]
  · isplitr; · iexact HC
    isplitl [HO]; · iexact HO
    isplitl [TF]; · iexact TF
    isplitl [LR]; · iexact LR
    isplitl [TT]; · iexact TT
    isplitl [LL]; · iexact LL
    isplitl [AB]; · iexact AB
    isplitl [CB]; · iexact CB
    isplitl [V31]; · iexact V31
    isplitl [X]; · iexact X
    isplitl [B3]; · iexact B3
    iexact B0
  iintro %r ⟨%h, HO, LR, LL, VB, V31, X, B3, Own⟩
  obtain ⟨d0, v2, v5, v7⟩ := r
  change d0 = c at h
  subst d0
  dsimp only
  ihave H := (landR_from m c) $$ LR
  icases H with ⟨G10, G17, G16, G15⟩
  ihave H := (landL_from m c) $$ LL
  icases H with ⟨G70, G71, G72, G73⟩
  ihave H := (own_halve m c fullShare) $$ Own
  icases H with ⟨OL, OR⟩
  ihave H := (own_halve m c fullShare.left) $$ OL
  icases H with ⟨OLL, OLR⟩
  icases B3 with ⟨%f3, B3⟩
  ihave H := (stage_cut c f3) $$ B3
  icases H with ⟨St0, St1, St⟩
  ihave H := (wA_halve m c) $$ W
  icases H with ⟨W0, W1⟩
  ihave B2 := (wbP_zero m c) $$ B2
  ihave O := (out_start m c) $$ O
  iapply (wp_seq c (part2 m c v2 v5)) $$ [HO S1 S9 OLL OLR G10 G70 PU PD V31 V32 St0 St1 W0 W1 B2]
  · isplitr; · iexact HC
    isplitl [HO]; · iexact HO
    isplitl [S1]; · iexact S1
    isplitl [S9]; · iexact S9
    isplitl [OLL]; · iexact OLL
    isplitl [OLR]; · iexact OLR
    isplitl [G10]; · iexact G10
    isplitl [G70]; · iexact G70
    isplitl [PU]; · iexact PU
    isplitl [PD]; · iexact PD
    isplitl [V31]; · iexact V31
    isplitl [V32]; · iexact V32
    isplitl [St0]; · iexists f3; iexact St0
    isplitl [St1]; · iexists f3; iexact St1
    isplitl [W0]; · iexact W0
    isplitl [W1]; · iexact W1
    iexact B2
  iintro %_ ⟨HO, R1, R9, WS⟩
  iapply (wp_seq c (part3 m c)) $$ [HO WS]
  · isplitr; · iexact HC
    isplitl [HO]; · iexact HO
    iexact WS
  iintro %_ ⟨HO, WS⟩
  iapply (wp_seq c (part4 m c)) $$ [HO WS]
  · isplitr; · iexact HC
    isplitl [HO]; · iexact HO
    iexact WS
  iintro %_ ⟨HO, WS⟩
  iapply (wp_seq c (part5 m c)) $$ [HO WS]
  · isplitr; · iexact HC
    isplitl [HO]; · iexact HO
    iexact WS
  iintro %_ ⟨HO, WS⟩
  iapply (wp_seq c (part6 m c)) $$ [HO WS]
  · isplitr; · iexact HC
    isplitl [HO]; · iexact HO
    iexact WS
  iintro %_ ⟨HO, WS⟩
  iapply (wp_seq c (part7 m c)) $$ [HO WS]
  · isplitr; · iexact HC
    isplitl [HO]; · iexact HO
    iexact WS
  iintro %_ ⟨HO, WS⟩
  iapply (wp_seq c (part8 m c)) $$ [HO WS]
  · isplitr; · iexact HC
    isplitl [HO]; · iexact HO
    iexact WS
  iintro %_ ⟨HO, WS⟩
  iapply (wp_seq c (part9 m c)) $$ [HO WS]
  · isplitr; · iexact HC
    isplitl [HO]; · iexact HO
    iexact WS
  iintro %_ ⟨HO, WS⟩
  iapply (wp_seq c (part10 m c v2)) $$ [HO WS OR O]
  · isplitr; · iexact HC
    isplitl [HO]; · iexact HO
    isplitl [WS]; · iexact WS
    isplitl [OR]; · iexact OR
    iexact O
  iintro %r ⟨%h, HO, WB, W, V31, V32, St0, St1, OR, O⟩
  obtain ⟨v260, v264, v267⟩ := r
  change v260 = mx0 m c at h
  subst v260
  dsimp only
  iapply (wp_seq c (part11 m c v5 v7 v264 v267)) $$ [HO R5 S2 G17 R13]
  · isplitr; · iexact HC
    isplitl [HO]; · iexact HO
    isplitl [R5]; · iexact R5
    isplitl [S2]; · iexact S2
    isplitl [G17]; · iexact G17
    iexact R13
  iintro %r ⟨HO, V5, R2, P7, Gr, V13, Gl, P1, PD⟩
  icases B1 with ⟨%f1, B1⟩
  ihave H := (chunk_cut c f1) $$ B1
  icases H with ⟨C0, C1⟩
  iapply (wp_seq c (part12 m c v5 v264 v267 _)) $$ [HO S10 Gl G71 PD Gr V31 V32 C0 C1 WB]
  · isplitr; · iexact HC
    isplitl [HO]; · iexact HO
    isplitl [S10]; · iexact S10
    isplitl [Gl]; · iexact Gl
    isplitl [G71]; · iexact G71
    isplitl [PD]; · iexact PD
    isplitl [Gr]; · iexact Gr
    isplitl [V31]; · iexact V31
    isplitl [V32]; · iexact V32
    isplitl [C0]; · iexact C0
    isplitl [C1]; · iexact C1
    iexact WB
  iintro %r ⟨%h, HO, R10, V31, C0, F1, WB⟩
  obtain ⟨v324, c512⟩ := r
  change v324 = yRem m c (dv c 7) at h
  subst v324
  dsimp only
  iapply (wp_seq c (part13 m c v2 v264 v267 c512)) $$ [HO O F1 WB]
  · isplitr; · iexact HC
    isplitl [HO]; · iexact HO
    isplitl [O]; · iexact O
    isplitl [F1]; · iexact F1
    iexact WB
  iintro %r ⟨%h, HO, O, V32, C1, WB⟩
  obtain ⟨v359, v360⟩ := r
  change v359 = mx1 m c at h
  subst v359
  dsimp only
  iapply (wp_seq c (part14 m c v2 v5 v7 v360)) $$ [HO R6 S3 G16]
  · isplitr; · iexact HC
    isplitl [HO]; · iexact HO
    isplitl [R6]; · iexact R6
    isplitl [S3]; · iexact S3
    iexact G16
  iintro %r ⟨HO, V6, R3, P6, Gr⟩
  obtain ⟨v363, v366⟩ := r
  dsimp only
  iapply (wp_seq c (part15 m c v5 v363 v366)) $$ [HO R14 S11 G72 Gr V31 V32 C0 C1]
  · isplitr; · iexact HC
    isplitl [HO]; · iexact HO
    isplitl [R14]; · iexact R14
    isplitl [S11]; · iexact S11
    isplitl [G72]; · iexact G72
    isplitl [Gr]; · iexact Gr
    isplitl [V31]; · iexact V31
    isplitl [V32]; · iexact V32
    isplitl [C0]; · iexact C0
    iexact C1
  iintro %_ ⟨HO, V14, R11, P2, F0, F1⟩
  iapply (wp_seq c (part16 m c _ v363 v366)) $$ [HO O F0 F1 WB]
  · isplitr; · iexact HC
    isplitl [HO]; · iexact HO
    isplitl [O]; · iexact O
    isplitl [F0]; · iexact F0
    isplitl [F1]; · iexact F1
    iexact WB
  iintro %r ⟨%h, HO, O, V31, V32, C0, C1, WB⟩
  change r = mx2 m c at h
  subst r
  iapply (wp_seq c (part17 m c _ v2 v5 v7)) $$ [HO O R7 S4 G15]
  · isplitr; · iexact HC
    isplitl [HO]; · iexact HO
    isplitl [O]; · iexact O
    isplitl [R7]; · iexact R7
    isplitl [S4]; · iexact S4
    iexact G15
  iintro %r ⟨%h, HO, O, V7, R4, P5, Gr⟩
  obtain ⟨v458, v462, v465⟩ := r
  change v458 = mx3 m c at h
  subst v458
  dsimp only
  iapply (wp_seq c (part18 m c v5 v7 v462 v465)) $$ [HO R15 S12 G73 Gr V31 C0]
  · isplitr; · iexact HC
    isplitl [HO]; · iexact HO
    isplitl [R15]; · iexact R15
    isplitl [S12]; · iexact S12
    isplitl [G73]; · iexact G73
    isplitl [Gr]; · iexact Gr
    isplitl [V31]; · iexact V31
    iexact C0
  iintro %_ ⟨HO, V15, R12, P3, F0, Gl⟩
  iapply (wp_seq c (part19 m c _ v462)) $$ [HO O F0 Gl V32 C1 WB]
  · isplitr; · iexact HC
    isplitl [HO]; · iexact HO
    isplitl [O]; · iexact O
    isplitl [F0]; · iexact F0
    isplitl [Gl]; · iexact Gl
    isplitl [V32]; · iexact V32
    isplitl [C1]; · iexact C1
    iexact WB
  iintro %r ⟨%h, HO, O, V31, V32, C0, HT, WB⟩
  change r = mx4 m c at h
  subst r
  iapply (wp_seq c (part20 m c _ v2 v5 v465)) $$ [HO O HT R8 WB]
  · isplitr; · iexact HC
    isplitl [HO]; · iexact HO
    isplitl [O]; · iexact O
    isplitl [HT]; · iexact HT
    isplitl [R8]; · iexact R8
    iexact WB
  iintro %r ⟨%h, HO, O, C1, V8, Gr, P4, WB⟩
  obtain ⟨v559, v563, v566, v575, c256⟩ := r
  change v559 = mx5 m c at h
  subst v559
  dsimp only
  iapply (wp_seq c (part21 m c v7 v563 v566 v575 c256)) $$ [HO R16 Gr V31 V32 C0 C1]
  · isplitr; · iexact HC
    isplitl [HO]; · iexact HO
    isplitl [R16]; · iexact R16
    isplitl [Gr]; · iexact Gr
    isplitl [V31]; · iexact V31
    isplitl [V32]; · iexact V32
    isplitl [C0]; · iexact C0
    iexact C1
  iintro %_ ⟨HO, V16, V31, HT, F1⟩
  iapply (wp_seq c (part22 m c _ v563 v566)) $$ [HO O HT F1 WB]
  · isplitr; · iexact HC
    isplitl [HO]; · iexact HO
    isplitl [O]; · iexact O
    isplitl [HT]; · iexact HT
    isplitl [F1]; · iexact F1
    iexact WB
  iintro %r ⟨%h, HO, O, V32, C0, C1, WB⟩
  change r = mx6 m c at h
  subst r
  iapply (wp_seq c (part23 m c _ v2)) $$ [HO O Pc S17 P1 S18 P2]
  · isplitr; · iexact HC
    isplitl [HO]; · iexact HO
    isplitl [O]; · iexact O
    isplitl [Pc]; · iexact Pc
    isplitl [S17]; · iexact S17
    isplitl [P1]; · iexact P1
    isplitl [S18]; · iexact S18
    iexact P2
  iintro %r ⟨HO, O, Ha, R17, R18⟩
  iapply (wp_seq c (part24 m c v2 _)) $$ [HO Ha S19 P3 S20 P4 S21 P5]
  · isplitr; · iexact HC
    isplitl [HO]; · iexact HO
    isplitl [Ha]; · iexact Ha
    isplitl [S19]; · iexact S19
    isplitl [P3]; · iexact P3
    isplitl [S20]; · iexact S20
    isplitl [P4]; · iexact P4
    isplitl [S21]; · iexact S21
    iexact P5
  iintro %r ⟨HO, Ha, R19, R20, R21⟩
  iapply (wp_seq c (part25 m c v2 _)) $$ [HO Ha S22 P6 S23 P7 R24]
  · isplitr; · iexact HC
    isplitl [HO]; · iexact HO
    isplitl [Ha]; · iexact Ha
    isplitl [S22]; · iexact S22
    isplitl [P6]; · iexact P6
    isplitl [S23]; · iexact S23
    isplitl [P7]; · iexact P7
    iexact R24
  iintro %r ⟨HO, Ha, R22, R23, A1, V24⟩
  obtain ⟨v731, c0⟩ := r
  dsimp only
  iapply (wp_seq c (part26 m c v2 v731 c0)) $$ [HO R25 R26 R27]
  · isplitr; · iexact HC
    isplitl [HO]; · iexact HO
    isplitl [R25]; · iexact R25
    isplitl [R26]; · iexact R26
    iexact R27
  iintro %_ ⟨HO, A2, V25, A3, V26, A4, V27⟩
  iapply (wp_seq c (part27 m c v2)) $$ [HO R28 R29 R30 R1 R9]
  · isplitr; · iexact HC
    isplitl [HO]; · iexact HO
    isplitl [R28]; · iexact R28
    isplitl [R29]; · iexact R29
    isplitl [R30]; · iexact R30
    isplitl [R1]; · iexact R1
    iexact R9
  iintro %_ ⟨HO, A5, V28, A6, V29, A7, V30, OLL, V1, OLR, V9⟩
  iapply (wp_seq c (part28 m c)) $$ [HO R2 R10 R3 R11 R4 R12]
  · isplitr; · iexact HC
    isplitl [HO]; · iexact HO
    isplitl [R2]; · iexact R2
    isplitl [R10]; · iexact R10
    isplitl [R3]; · iexact R3
    isplitl [R11]; · iexact R11
    isplitl [R4]; · iexact R4
    iexact R12
  iintro %_ ⟨HO, V2, V10, V3, V11, V4, V12⟩
  iapply (wp_seq c (part29 m c)) $$ [HO R17 R18 R19 R20 R21 R22]
  · isplitr; · iexact HC
    isplitl [HO]; · iexact HO
    isplitl [R17]; · iexact R17
    isplitl [R18]; · iexact R18
    isplitl [R19]; · iexact R19
    isplitl [R20]; · iexact R20
    isplitl [R21]; · iexact R21
    iexact R22
  iintro %_ ⟨HO, T0, V17, T1, V18, T2, V19, T3, V20, T4, V21, T5, V22⟩
  simp only [Prog.lift, Prog.bind_op, Prog.bind_ret, Prog.pure_eq_ret]
  simp only [sem23]
  iapply (wp_rcv m c q23 0 (by decide) (by decide) (by decide) (aM_credit.trans rfl)) $$ [HO R23]
  · isplitr; · iexact HC
    isplitl [HO]; · iexact HO
    iexact R23
  iintro ⟨T6, V23, HO⟩
  ihave T6 := (pay23_eq m c) $$ T6
  ihave Ha := (ap_whole m c) $$ [T0 T1 T2 T3 T4 T5 T6 Ha]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact Ha
  ihave B4 := (am_join m c) $$ [Ha A7 A6 A5 A4 A3 A2 A1]
  · isplitl [Ha]; · iexact Ha
    isplitl [A7]; · iexact A7
    isplitl [A6]; · iexact A6
    isplitl [A5]; · iexact A5
    isplitl [A4]; · iexact A4
    isplitl [A3]; · iexact A3
    isplitl [A2]; · iexact A2
    iexact A1
  iapply (wp_ldAM m c fullShare) $$ B4
  iintro B4
  iapply (wp_seq c (quant m c _ (all_blocks c))) $$ O
  iintro %_ Y
  iapply (le_wp_ret frame (wpE (defs₀ (F := F)) 𝒱₀ (c : Thread nD τ) none) Set.univ)
  unfold BodyOut
  ihave OL := (own_join m c fullShare.left) $$ [OLL OLR]
  · isplitl [OLL]; · iexact OLL
    iexact OLR
  ihave Own := (own_join m c fullShare) $$ [OL OR]
  · isplitl [OL]; · iexact OL
    iexact OR
  ihave B0 := (own_some m c) $$ Own
  ihave B2 := (wb_some m c) $$ WB
  ihave B1 := (chunk_join c) $$ [C0 C1]
  · isplitl [C0]; · iexact C0
    iexact C1
  ihave B3 := (stage_join c f3) $$ [St0 St1 St]
  · isplitl [St0]; · iexact St0
    isplitl [St1]; · iexact St1
    iexact St
  isplitl [HO]; · iexact HO
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [V8]; · iexact V8
  isplitl [V9]; · iexact V9
  isplitl [V10]; · iexact V10
  isplitl [V11]; · iexact V11
  isplitl [V12]; · iexact V12
  isplitl [V13]; · iexact V13
  isplitl [V14]; · iexact V14
  isplitl [V15]; · iexact V15
  isplitl [V16]; · iexact V16
  isplitl [V17]; · iexact V17
  isplitl [V18]; · iexact V18
  isplitl [V19]; · iexact V19
  isplitl [V20]; · iexact V20
  isplitl [V21]; · iexact V21
  isplitl [V22]; · iexact V22
  isplitl [V23]; · iexact V23
  isplitl [V24]; · iexact V24
  isplitl [V25]; · iexact V25
  isplitl [V26]; · iexact V26
  isplitl [V27]; · iexact V27
  isplitl [V28]; · iexact V28
  isplitl [V29]; · iexact V29
  isplitl [V30]; · iexact V30
  isplitl [V31]; · iexact V31
  isplitl [V32]; · iexact V32
  isplitl [VB]; · iexact VB
  isplitl [X]; · iexact X
  isplitl [W]; · iexact W
  isplitl [B0]; · iexact B0
  isplitl [B1]; · iexact B1
  isplitl [B2]; · iexact B2
  isplitl [B3]; · iexact B3
  isplitl [B4]; · iexists (AM m); iexact B4
  iexact Y

end Cert.Ring

end
-- ==== Proof.Launch.lean ====
/-
The launch: the semaphores, tokens and credits every device starts from, and what it ends with.
-/
module

public import proofs.«01_k».proof.Proof.Body

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-! ## The kernel's own semaphores -/

/-- The kernel's own semaphores: thirty of the transfers between devices, two of the local copies. -/
abbrev osem (j : Fin 32) : SemLoc sig := .dma ⟨j.val + 1, Nat.lt_of_lt_of_le (Nat.succ_lt_succ j.isLt) (by decide)⟩
theorem ownSemFacts : Pipeline.OwnSemFacts cfg0.spec osem := by decide +kernel

/-- The barrier cell and the thirty transfer cells of every device are distinct. -/
theorem osm_injective : Function.Injective osm := by decide +kernel
theorem kcell_injective : Function.Injective (kcell : Dev nD × Fin 31 → GSem nD τ sig) := by
  rintro ⟨c, k⟩ ⟨c', k'⟩ h
  have h1 : c = c' := congrArg (fun g : GSem nD τ sig => g.1.1) h
  have h2 : k = k' := osm_injective (congrArg Prod.snd h)
  rw [h1, h2]
def ringCells : Finset (GSem nD τ sig) := Finset.univ.map ⟨kcell, kcell_injective⟩

/-! ## The tokens -/

/-- The cell and the kind of a device's `j`-th token: two of its barrier cell, one of each transfer cell. -/
def tq (j : Fin 32) : Fin 31 := ⟨j.val - 1, by have := j.isLt; omega⟩
def tb (j : Fin 32) : Bool := decide (j.val = 1)
/-- How far to the right the device is whose `j`-th token a device pays. -/
def shift (j : Fin 32) : ℕ :=
  if j.val = 0 then 7 else if j.val = 1 then 1 else if 6 ≤ j.val ∧ j.val ≤ 9 then 1
    else if 14 ≤ j.val ∧ j.val ≤ 17 then 7 else if 25 ≤ j.val then j.val - 24 else 0

def tokOf (cj : Dev nD × Fin 32) : GSem nD τ sig × ℕ × Bool := (kcell (cj.1, tq cj.2), 0, tb cj.2)
theorem tok_index : Function.Injective fun j : Fin 32 => (tq j, tb j) := by decide +kernel
theorem tokOf_injective : Function.Injective (tokOf : Dev nD × Fin 32 → GSem nD τ sig × ℕ × Bool) := by
  rintro ⟨c, j⟩ ⟨c', j'⟩ h
  have h1 := kcell_injective (congrArg Prod.fst h)
  have h2 : tb j = tb j' := congrArg (fun x : GSem nD τ sig × ℕ × Bool => x.2.2) h
  have h3 : c = c' := congrArg Prod.fst h1
  have h4 : tq j = tq j' := congrArg Prod.snd h1
  have h5 : j = j' := tok_index (Prod.ext h4 h2)
  rw [h3, h5]
def ringToks : Finset (GSem nD τ sig × ℕ × Bool) := Finset.univ.map ⟨tokOf, tokOf_injective⟩
def tok (c : Dev nD) (j : Fin 32) : sProp 𝕄 := dutyTok ER (kcell (c, tq j)) 0 (tb j)

/-- The ring turned by `k` places. -/
def rot (k : ℕ) : Dev nD ≃ Dev nD where
  toFun c := dv c k
  invFun c := dv c (7 * k)
  left_inv c := Fin.ext (by have : c.val < 8 := c.isLt; simp only [dv]; omega)
  right_inv c := Fin.ext (by have : c.val < 8 := c.isLt; simp only [dv]; omega)

/-- Every device's own tokens, dealt to the devices that pay them. -/
theorem toks_around : ((bigSep Finset.univ fun c : Dev nD => bigSep Finset.univ fun j : Fin 32 => tok c j) : sProp 𝕄)
    = bigSep Finset.univ fun c : Dev nD => bigSep Finset.univ fun j : Fin 32 => tok (dv c (shift j)) j := by
  rw [Pipeline.bigSep_univ_comm, Pipeline.bigSep_univ_comm (fun (c : Dev nD) (j : Fin 32) => (tok (dv c (shift j)) j : sProp 𝕄))]
  exact bigSep_congr fun j _ => bigSep_univ_equiv (rot (shift j)) fun c => (tok c j : sProp 𝕄)

/-! ## What the launch element deals, and what the global step makes of it -/

def u₀ : UU :=
  (initOf (Pipeline.cells cfgs cellOf_inj) (Pipeline.launchToks cfgs cellOf_inj), (initOf ringCells ringToks, (1 : Counters)))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

def posns (c : Dev nD) : sProp 𝕄 := bigSep Finset.univ fun k : Fin 31 => iprop(atPos ER (kcell (c, k)) 0 ∅ 0 ∗ reached ER (kcell (c, k)) 0)
def toks (c : Dev nD) : sProp 𝕄 := bigSep Finset.univ fun j : Fin 32 => tok c j
def payToks (c : Dev nD) : sProp 𝕄 := bigSep Finset.univ fun j : Fin 32 => tok (dv c (shift j)) j
def poss (c : Dev nD) : sProp 𝕄 := bigSep Finset.univ fun k : Fin 31 => atPos ER (kcell (c, k)) 0 ∅ 0
def locs (c : Dev nD) : sProp 𝕄 := iprop(semVal (dcell c (lq 0)) 0 ∗ semVal (dcell c (lq 1)) 0)

def G (c : Dev nD) : sProp 𝕄 :=
  iprop((bigSep Finset.univ fun k : Fin 31 => roundState ER (Rd m) (kcell (c, k)) 0) ∗ posns c ∗ toks c)
def G' (c : Dev nD) : sProp 𝕄 := iprop(Recs m ∗ poss c ∗ payToks c ∗ locs c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 31 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hat' Hr']
  · isplitl [Hat']
    · iexact Hat'
    · iexact Hr'
  iexact Htok'

theorem ownSems0_eq (c : Dev nD) : (Pipeline.ownSems0 (Ix := Unit) (Name := ℕ) (U := UU) (Lvl := ℕ) (Val := Elt F) (τ := τ) osem c : sProp 𝕄)
    = iprop(semVal (dcell c q1) 0 ∗ semVal (dcell c q2) 0 ∗ semVal (dcell c q3) 0 ∗ semVal (dcell c q4) 0 ∗ semVal (dcell c q5) 0 ∗ semVal (dcell c q6) 0 ∗ semVal (dcell c q7) 0 ∗ semVal (dcell c q8) 0 ∗ semVal (dcell c q9) 0 ∗ semVal (dcell c q10) 0 ∗ semVal (dcell c q11) 0 ∗ semVal (dcell c q12) 0 ∗ semVal (dcell c q13) 0 ∗ semVal (dcell c q14) 0 ∗ semVal (dcell c q15) 0 ∗ semVal (dcell c q16) 0 ∗ semVal (dcell c q17) 0 ∗ semVal (dcell c q18) 0 ∗ semVal (dcell c q19) 0 ∗ semVal (dcell c q20) 0 ∗ semVal (dcell c q21) 0 ∗ semVal (dcell c q22) 0 ∗ semVal (dcell c q23) 0 ∗ semVal (dcell c q24) 0 ∗ semVal (dcell c q25) 0 ∗ semVal (dcell c q26) 0 ∗ semVal (dcell c q27) 0 ∗ semVal (dcell c q28) 0 ∗ semVal (dcell c q29) 0 ∗ semVal (dcell c q30) 0 ∗ semVal (dcell c (lq 0)) 0 ∗ semVal (dcell c (lq 1)) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
theorem kcells_eq (c : Dev nD) : (bigSep Finset.univ fun k : Fin 31 => semVal (kcell (c, k)) 0 : sProp 𝕄)
    = iprop(semVal (barCell c) 0 ∗ semVal (dcell c q1) 0 ∗ semVal (dcell c q2) 0 ∗ semVal (dcell c q3) 0 ∗ semVal (dcell c q4) 0 ∗ semVal (dcell c q5) 0 ∗ semVal (dcell c q6) 0 ∗ semVal (dcell c q7) 0 ∗ semVal (dcell c q8) 0 ∗ semVal (dcell c q9) 0 ∗ semVal (dcell c q10) 0 ∗ semVal (dcell c q11) 0 ∗ semVal (dcell c q12) 0 ∗ semVal (dcell c q13) 0 ∗ semVal (dcell c q14) 0 ∗ semVal (dcell c q15) 0 ∗ semVal (dcell c q16) 0 ∗ semVal (dcell c q17) 0 ∗ semVal (dcell c q18) 0 ∗ semVal (dcell c q19) 0 ∗ semVal (dcell c q20) 0 ∗ semVal (dcell c q21) 0 ∗ semVal (dcell c q22) 0 ∗ semVal (dcell c q23) 0 ∗ semVal (dcell c q24) 0 ∗ semVal (dcell c q25) 0 ∗ semVal (dcell c q26) 0 ∗ semVal (dcell c q27) 0 ∗ semVal (dcell c q28) 0 ∗ semVal (dcell c q29) 0 ∗ semVal (dcell c q30) 0) := by
  rw [bigSep_univ_eq_bigSepL [0, 1, 2, 3, 4, 5, 6, 7, 8, 9, 10, 11, 12, 13, 14, 15, 16, 17, 18, 19, 20, 21, 22, 23, 24, 25, 26, 27, 28, 29, 30] (by decide) (by decide)]; rfl
theorem poss_eq (c : Dev nD) : (poss c : sProp 𝕄) = iprop(atPos ER (barCell c) 0 ∅ 0 ∗ atPos ER (dcell c q1) 0 ∅ 0 ∗ atPos ER (dcell c q2) 0 ∅ 0 ∗ atPos ER (dcell c q3) 0 ∅ 0 ∗ atPos ER (dcell c q4) 0 ∅ 0 ∗ atPos ER (dcell c q5) 0 ∅ 0 ∗ atPos ER (dcell c q6) 0 ∅ 0 ∗ atPos ER (dcell c q7) 0 ∅ 0 ∗ atPos ER (dcell c q8) 0 ∅ 0 ∗ atPos ER (dcell c q9) 0 ∅ 0 ∗ atPos ER (dcell c q10) 0 ∅ 0 ∗ atPos ER (dcell c q11) 0 ∅ 0 ∗ atPos ER (dcell c q12) 0 ∅ 0 ∗ atPos ER (dcell c q13) 0 ∅ 0 ∗ atPos ER (dcell c q14) 0 ∅ 0 ∗ atPos ER (dcell c q15) 0 ∅ 0 ∗ atPos ER (dcell c q16) 0 ∅ 0 ∗ atPos ER (dcell c q17) 0 ∅ 0 ∗ atPos ER (dcell c q18) 0 ∅ 0 ∗ atPos ER (dcell c q19) 0 ∅ 0 ∗ atPos ER (dcell c q20) 0 ∅ 0 ∗ atPos ER (dcell c q21) 0 ∅ 0 ∗ atPos ER (dcell c q22) 0 ∅ 0 ∗ atPos ER (dcell c q23) 0 ∅ 0 ∗ atPos ER (dcell c q24) 0 ∅ 0 ∗ atPos ER (dcell c q25) 0 ∅ 0 ∗ atPos ER (dcell c q26) 0 ∅ 0 ∗ atPos ER (dcell c q27) 0 ∅ 0 ∗ atPos ER (dcell c q28) 0 ∅ 0 ∗ atPos ER (dcell c q29) 0 ∅ 0 ∗ atPos ER (dcell c q30) 0 ∅ 0) := by
  unfold poss; rw [bigSep_univ_eq_bigSepL [0, 1, 2, 3, 4, 5, 6, 7, 8, 9, 10, 11, 12, 13, 14, 15, 16, 17, 18, 19, 20, 21, 22, 23, 24, 25, 26, 27, 28, 29, 30] (by decide) (by decide)]; rfl
theorem payToks_eq (c : Dev nD) : (payToks c : sProp 𝕄) = iprop(dutyTok ER (barCell (dv c 7)) 0 false ∗ dutyTok ER (barCell (dv c 1)) 0 true ∗ dutyTok ER (dcell (dv c 0) q1) 0 false ∗ dutyTok ER (dcell (dv c 0) q2) 0 false ∗ dutyTok ER (dcell (dv c 0) q3) 0 false ∗ dutyTok ER (dcell (dv c 0) q4) 0 false ∗ dutyTok ER (dcell (dv c 1) q5) 0 false ∗ dutyTok ER (dcell (dv c 1) q6) 0 false ∗ dutyTok ER (dcell (dv c 1) q7) 0 false ∗ dutyTok ER (dcell (dv c 1) q8) 0 false ∗ dutyTok ER (dcell (dv c 0) q9) 0 false ∗ dutyTok ER (dcell (dv c 0) q10) 0 false ∗ dutyTok ER (dcell (dv c 0) q11) 0 false ∗ dutyTok ER (dcell (dv c 0) q12) 0 false ∗ dutyTok ER (dcell (dv c 7) q13) 0 false ∗ dutyTok ER (dcell (dv c 7) q14) 0 false ∗ dutyTok ER (dcell (dv c 7) q15) 0 false ∗ dutyTok ER (dcell (dv c 7) q16) 0 false ∗ dutyTok ER (dcell (dv c 0) q17) 0 false ∗ dutyTok ER (dcell (dv c 0) q18) 0 false ∗ dutyTok ER (dcell (dv c 0) q19) 0 false ∗ dutyTok ER (dcell (dv c 0) q20) 0 false ∗ dutyTok ER (dcell (dv c 0) q21) 0 false ∗ dutyTok ER (dcell (dv c 0) q22) 0 false ∗ dutyTok ER (dcell (dv c 0) q23) 0 false ∗ dutyTok ER (dcell (dv c 1) q24) 0 false ∗ dutyTok ER (dcell (dv c 2) q25) 0 false ∗ dutyTok ER (dcell (dv c 3) q26) 0 false ∗ dutyTok ER (dcell (dv c 4) q27) 0 false ∗ dutyTok ER (dcell (dv c 5) q28) 0 false ∗ dutyTok ER (dcell (dv c 6) q29) 0 false ∗ dutyTok ER (dcell (dv c 7) q30) 0 false) := by
  unfold payToks; rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 31 => semVal (kcell (c, k)) 0) ∗ locs c) : sProp 𝕄) := by
  rw [ownSems0_eq, unscopedSems0_eq, kcells_eq]; unfold locs
  iintro ⟨⟨V1, V2, V3, V4, V5, V6, V7, V8, V9, V10, V11, V12, V13, V14, V15, V16, V17, V18, V19, V20, V21, V22, V23, V24, V25, V26, V27, V28, V29, V30, V31, V32⟩, VB⟩
  isplitr [V31 V32]
  · isplitl [VB]; · iexact VB
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    iexact V30
  · isplitl [V31]; · iexact V31
    iexact V32

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k)))) ∗ posns c ∗ toks c ∗ locs c) := by
  unfold G
  iintro ⟨Hos, Hus, Hst, Hat, Htok⟩
  ihave Hv := (sems0_eq (F := F) c) $$ [Hos Hus]
  · isplitl [Hos]
    · iexact Hos
    · iexact Hus
  icases Hv with ⟨Hv, Hl⟩
  imod (show iprop((bigSep Finset.univ fun k : Fin 31 => semVal (kcell (c, k)) 0) ∗ bigSep Finset.univ fun k : Fin 31 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]
    · iexact Hv
    · iexact Hst
  imodintro
  isplitl [Hinv]; · iexact Hinv
  isplitl [Hat]; · iexact Hat
  isplitl [Htok]; · iexact Htok
  iexact Hl

theorem regroup :
    (bigSep Finset.univ fun c : Dev nD => iprop((bigSep Finset.univ fun k => iprop(∃ κ : ℕ, cellInv ER (Rd m) κ (kcell (c, k))))
          ∗ posns c ∗ toks c ∗ locs c) : sProp 𝕄) ⊢ bigSep Finset.univ (G' m) := by
  unfold posns toks
  rw [bigSep_sep', bigSep_sep', bigSep_sep', ← bigSep_univ_prod (fun ck : Dev nD × Fin 31 => iprop(∃ κ : ℕ, cellInv ER (Rd m) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄)), toks_around]
  iintro ⟨HI, ⟨Hat, #HR⟩, Htok, Hl⟩
  ihave HK := (BI.bigSep_exists_pi Finset.univ (fun (ck : Dev nD × Fin 31) (κ : ℕ) => (cellInv ER (Rd m) κ (kcell ck) : sProp 𝕄))) $$ HI
  icases HK with ⟨%K, #HI⟩
  have hG : iprop(Recs m ∗ bigSep Finset.univ fun c : Dev nD => iprop(poss c ∗ payToks c ∗ locs c)) ⊢ (bigSep Finset.univ (G' m) : sProp 𝕄) := by
    refine (sep_mono_left (BI.bigSep_of_persistent (Finset.univ : Finset (Dev nD)) (Recs m))).trans ?_
    rw [← bigSep_sep']
    exact bigSep_mono fun c _ => (Entails.of_eq rfl : (_ : sProp 𝕄) ⊢ _)
  iapply hG
  isplitr
  · unfold Recs; iexists K; unfold recsAt; rw [bigSep_sep']
    isplitl; · iexact HI
    iexact HR
  · rw [bigSep_sep', bigSep_sep']
    isplitl [Hat]; · iexact Hat
    isplitl [Htok]; · iexact Htok
    iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes at launch. -/
def O₀ (c : Dev nD) : CellTallies nD τ sig Unit := owedR c 17

/-- The `j`-th payment: how far to the right, to which semaphore, how much. -/
def offAt (j : ℕ) : ℕ := if j = 0 then 7 else if j < 10 then (if j % 2 = 1 then (if j = 1 then 1 else 7) else 1) else j - 9
def smAt : ℕ → SemLoc sig
  | 0 => .reg barS | 1 => .reg barS | 2 => .dma q5 | 3 => .dma q13 | 4 => .dma q6 | 5 => .dma q14 | 6 => .dma q7 | 7 => .dma q15
  | 8 => .dma q8 | 9 => .dma q16 | 10 => .dma q24 | 11 => .dma q25 | 12 => .dma q26 | 13 => .dma q27 | 14 => .dma q28 | 15 => .dma q29
  | _ => .dma q30
def amAt (j : ℕ) : ℕ := if j < 2 then 1 else if j < 8 then N512 else if j < 10 then N256 else Nam
theorem debt_eq (d : Dev nD) : ∀ j, j < 17 → debtAt d j = (((dv d (offAt j) : Thread nD τ), smAt j), amAt j)
  | 0, _ => rfl | 1, _ => rfl | 2, _ => rfl | 3, _ => rfl | 4, _ => rfl | 5, _ => rfl | 6, _ => rfl | 7, _ => rfl | 8, _ => rfl
  | 9, _ => rfl | 10, _ => rfl | 11, _ => rfl | 12, _ => rfl | 13, _ => rfl | 14, _ => rfl | 15, _ => rfl | 16, _ => rfl
  | j + 17, h => absurd h (by omega)

theorem owed_apply (d : Dev nD) (g : GSem nD τ sig) : ∀ n, owedR d n g () = ∑ j ∈ Finset.range n, if g = (debtAt d (16 - j)).1 then (debtAt d (16 - j)).2 else 0
  | 0 => rfl
  | n + 1 => by
    rw [Finset.sum_range_succ, ← owed_apply d g n, owedR_succ, Pi.add_apply, Finsupp.add_apply, tallyAt_apply]
    simp only [and_true]

/-- What is owed in all to one device's semaphore. -/
def credAmt (s : SemLoc sig) : ℕ := ∑ j ∈ Finset.range 17, if s = smAt (16 - j) then amAt (16 - j) else 0

theorem owed_all (c : Dev nD) (s : SemLoc sig) : ∑ d : Dev nD, O₀ d ((c : Thread nD τ), s) () = credAmt s := by
  unfold O₀ credAmt
  rw [Finset.sum_congr rfl fun d _ => owed_apply d ((c : Thread nD τ), s) 17, Finset.sum_comm]
  refine Finset.sum_congr rfl fun j hj => ?_
  have hj' : 16 - j < 17 := by omega
  rw [Finset.sum_congr rfl fun d _ => by rw [debt_eq d (16 - j) hj']]
  generalize smAt (16 - j) = t; generalize amAt (16 - j) = a; generalize offAt (16 - j) = k
  have h := Equiv.sum_comp (rot k) fun e : Dev nD => if (((c : Thread nD τ), s) : GSem nD τ sig) = ((e : Thread nD τ), t) then a else 0
  refine Eq.trans h ?_
  rw [Finset.sum_eq_single c]
  · by_cases hs : s = t
    · rw [if_pos (by rw [hs]), if_pos hs]
    · rw [if_neg (fun h => hs (congrArg Prod.snd h)), if_neg hs]
  · intro e _ he
    exact if_neg fun h => he (congrArg (fun g : GSem nD τ sig => g.1.1) h).symm
  · intro h; exact absurd (Finset.mem_univ c) h

theorem launch_at (c : Dev nD) (s : SemLoc sig) (n : ℕ) (h : credAmt s = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, owed_all, h]

theorem credAmt_bar : credAmt (.reg barS) = 2 := by unfold credAmt; simp [Finset.sum_range_succ, smAt, amAt, amtQ]
theorem credAmt_5 : credAmt (.dma q5) = amtQ q5.val := by unfold credAmt; simp [Finset.sum_range_succ, smAt, amAt, amtQ]
theorem credAmt_6 : credAmt (.dma q6) = amtQ q6.val := by unfold credAmt; simp [Finset.sum_range_succ, smAt, amAt, amtQ]
theorem credAmt_7 : credAmt (.dma q7) = amtQ q7.val := by unfold credAmt; simp [Finset.sum_range_succ, smAt, amAt, amtQ]
theorem credAmt_8 : credAmt (.dma q8) = amtQ q8.val := by unfold credAmt; simp [Finset.sum_range_succ, smAt, amAt, amtQ]
theorem credAmt_13 : credAmt (.dma q13) = amtQ q13.val := by unfold credAmt; simp [Finset.sum_range_succ, smAt, amAt, amtQ]
theorem credAmt_14 : credAmt (.dma q14) = amtQ q14.val := by unfold credAmt; simp [Finset.sum_range_succ, smAt, amAt, amtQ]
theorem credAmt_15 : credAmt (.dma q15) = amtQ q15.val := by unfold credAmt; simp [Finset.sum_range_succ, smAt, amAt, amtQ]
theorem credAmt_16 : credAmt (.dma q16) = amtQ q16.val := by unfold credAmt; simp [Finset.sum_range_succ, smAt, amAt, amtQ]
theorem credAmt_24 : credAmt (.dma q24) = amtQ q24.val := by unfold credAmt; simp [Finset.sum_range_succ, smAt, amAt, amtQ]
theorem credAmt_25 : credAmt (.dma q25) = amtQ q25.val := by unfold credAmt; simp [Finset.sum_range_succ, smAt, amAt, amtQ]
theorem credAmt_26 : credAmt (.dma q26) = amtQ q26.val := by unfold credAmt; simp [Finset.sum_range_succ, smAt, amAt, amtQ]
theorem credAmt_27 : credAmt (.dma q27) = amtQ q27.val := by unfold credAmt; simp [Finset.sum_range_succ, smAt, amAt, amtQ]
theorem credAmt_28 : credAmt (.dma q28) = amtQ q28.val := by unfold credAmt; simp [Finset.sum_range_succ, smAt, amAt, amtQ]
theorem credAmt_29 : credAmt (.dma q29) = amtQ q29.val := by unfold credAmt; simp [Finset.sum_range_succ, smAt, amAt, amtQ]
theorem credAmt_30 : credAmt (.dma q30) = amtQ q30.val := by unfold credAmt; simp [Finset.sum_range_succ, smAt, amAt, amtQ]

theorem creds (c : Dev nD) : (Pipeline.launchCred O₀ c : sProp 𝕄) ⊢ iprop(cred (tallyAt (barCell c) () 2) ∗ cred (tallyAt (dcell c q5) () (amtQ q5.val)) ∗ cred (tallyAt (dcell c q6) () (amtQ q6.val)) ∗ cred (tallyAt (dcell c q7) () (amtQ q7.val)) ∗ cred (tallyAt (dcell c q8) () (amtQ q8.val)) ∗ cred (tallyAt (dcell c q13) () (amtQ q13.val)) ∗ cred (tallyAt (dcell c q14) () (amtQ q14.val)) ∗ cred (tallyAt (dcell c q15) () (amtQ q15.val)) ∗ cred (tallyAt (dcell c q16) () (amtQ q16.val)) ∗ cred (tallyAt (dcell c q24) () (amtQ q24.val)) ∗ cred (tallyAt (dcell c q25) () (amtQ q25.val)) ∗ cred (tallyAt (dcell c q26) () (amtQ q26.val)) ∗ cred (tallyAt (dcell c q27) () (amtQ q27.val)) ∗ cred (tallyAt (dcell c q28) () (amtQ q28.val)) ∗ cred (tallyAt (dcell c q29) () (amtQ q29.val)) ∗ cred (tallyAt (dcell c q30) () (amtQ q30.val))) := by
  unfold Pipeline.launchCred
  refine (bigSep_subset (Finset.subset_univ (List.toFinset ([.reg barS, .dma q5, .dma q6, .dma q7, .dma q8, .dma q13, .dma q14, .dma q15, .dma q16, .dma q24, .dma q25, .dma q26, .dma q27, .dma q28, .dma q29, .dma q30] : List (SemLoc sig))))).trans ?_
  rw [bigSep_eq_bigSepL_of_eq ([.reg barS, .dma q5, .dma q6, .dma q7, .dma q8, .dma q13, .dma q14, .dma q15, .dma q16, .dma q24, .dma q25, .dma q26, .dma q27, .dma q28, .dma q29, .dma q30] : List (SemLoc sig)) rfl (by decide +kernel)]
  simp only [bigSepL_cons_cons, bigSepL_singleton]
  rw [launch_at c _ _ credAmt_bar, launch_at c _ _ credAmt_5, launch_at c _ _ credAmt_6, launch_at c _ _ credAmt_7, launch_at c _ _ credAmt_8, launch_at c _ _ credAmt_13, launch_at c _ _ credAmt_14, launch_at c _ _ credAmt_15, launch_at c _ _ credAmt_16, launch_at c _ _ credAmt_24, launch_at c _ _ credAmt_25, launch_at c _ _ credAmt_26, launch_at c _ _ credAmt_27, launch_at c _ _ credAmt_28, launch_at c _ _ credAmt_29, launch_at c _ _ credAmt_30]
  exact (Entails.of_eq rfl : (_ : sProp 𝕄) ⊢ _)

/-! ## What a device starts from and ends with -/

/-- What a device starts from, without its scratch buffers. -/
def Start (c : Dev nD) : sProp 𝕄 := iprop(dutyTok ER (barCell (dv c 7)) 0 false ∗ dutyTok ER (barCell (dv c 1)) 0 true ∗ atPos ER (barCell c) 0 ∅ 0 ∗ cred (tallyAt (barCell c) () 2) ∗ Snd c (dv c 1) q1 q5 ∗ Snd c (dv c 1) q2 q6 ∗ Snd c (dv c 1) q3 q7 ∗ Snd c (dv c 1) q4 q8 ∗ Snd c (dv c 7) q9 q13 ∗ Snd c (dv c 7) q10 q14 ∗ Snd c (dv c 7) q11 q15 ∗ Snd c (dv c 7) q12 q16 ∗ Snd c (dv c 1) q17 q24 ∗ Snd c (dv c 2) q18 q25 ∗ Snd c (dv c 3) q19 q26 ∗ Snd c (dv c 4) q20 q27 ∗ Snd c (dv c 5) q21 q28 ∗ Snd c (dv c 6) q22 q29 ∗ Snd c (dv c 7) q23 q30 ∗ Rcv c q5 ∗ Rcv c q6 ∗ Rcv c q7 ∗ Rcv c q8 ∗ Rcv c q13 ∗ Rcv c q14 ∗ Rcv c q15 ∗ Rcv c q16 ∗ Rcv c q24 ∗ Rcv c q25 ∗ Rcv c q26 ∗ Rcv c q27 ∗ Rcv c q28 ∗ Rcv c q29 ∗ Rcv c q30 ∗ semVal (dcell c (lq 0)) 0 ∗ semVal (dcell c (lq 1)) 0 ∗ xA m c ∗ wA m c fullShare ∗ (((c : Thread nD τ).loc main_v1_1 : Loc nD τ sig) ↦{fullShare} (G0 m c)))
def start (c : Dev nD) : sProp 𝕄 := iprop(Ctx m ∗ Start m c)
def Φ₀ (c : Dev nD) : sProp 𝕄 := iprop(start m c ∗ (∃ f, ((c : Thread nD τ).loc cc0_scratch0 : Loc nD τ sig) ↦{fullShare} f) ∗ (∃ f, ((c : Thread nD τ).loc cc0_scratch1 : Loc nD τ sig) ↦{fullShare} f) ∗ (∃ f, ((c : Thread nD τ).loc cc0_scratch2 : Loc nD τ sig) ↦{fullShare} f) ∗ (∃ f, ((c : Thread nD τ).loc cc0_scratch3 : Loc nD τ sig) ↦{fullShare} f) ∗ (∃ f, ((c : Thread nD τ).loc cc0_scratch4 : Loc nD τ sig) ↦{fullShare} f))
def Φ₁ (c : Dev nD) : sProp 𝕄 := iprop(semVal (dcell c q1) 0 ∗ semVal (dcell c q2) 0 ∗ semVal (dcell c q3) 0 ∗ semVal (dcell c q4) 0 ∗ semVal (dcell c q5) 0 ∗ semVal (dcell c q6) 0 ∗ semVal (dcell c q7) 0 ∗ semVal (dcell c q8) 0 ∗ semVal (dcell c q9) 0 ∗ semVal (dcell c q10) 0 ∗ semVal (dcell c q11) 0 ∗ semVal (dcell c q12) 0 ∗ semVal (dcell c q13) 0 ∗ semVal (dcell c q14) 0 ∗ semVal (dcell c q15) 0 ∗ semVal (dcell c q16) 0 ∗ semVal (dcell c q17) 0 ∗ semVal (dcell c q18) 0 ∗ semVal (dcell c q19) 0 ∗ semVal (dcell c q20) 0 ∗ semVal (dcell c q21) 0 ∗ semVal (dcell c q22) 0 ∗ semVal (dcell c q23) 0 ∗ semVal (dcell c q24) 0 ∗ semVal (dcell c q25) 0 ∗ semVal (dcell c q26) 0 ∗ semVal (dcell c q27) 0 ∗ semVal (dcell c q28) 0 ∗ semVal (dcell c q29) 0 ∗ semVal (dcell c q30) 0 ∗ semVal (dcell c (lq 0)) 0 ∗ semVal (dcell c (lq 1)) 0 ∗ semVal (barCell c) 0 ∗ xA m c ∗ wA m c fullShare ∗ (∃ f, ((c : Thread nD τ).loc cc0_scratch0 : Loc nD τ sig) ↦{fullShare} f) ∗ (∃ f, ((c : Thread nD τ).loc cc0_scratch1 : Loc nD τ sig) ↦{fullShare} f) ∗ (∃ f, ((c : Thread nD τ).loc cc0_scratch2 : Loc nD τ sig) ↦{fullShare} f) ∗ (∃ f, ((c : Thread nD τ).loc cc0_scratch3 : Loc nD τ sig) ↦{fullShare} f) ∗ (∃ f, ((c : Thread nD τ).loc cc0_scratch4 : Loc nD τ sig) ↦{fullShare} f))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' locs
  rw [poss_eq, payToks_eq]
  simp only [dv_zero]
  iintro ⟨⟨X, W, G⟩, #Hlev, Hcr, -, #HR, ⟨A0, A1, A2, A3, A4, A5, A6, A7, A8, A9, A10, A11, A12, A13, A14, A15, A16, A17, A18, A19, A20, A21, A22, A23, A24, A25, A26, A27, A28, A29, A30⟩, ⟨Ta, Tb, T1, T2, T3, T4, T5, T6, T7, T8, T9, T10, T11, T12, T13, T14, T15, T16, T17, T18, T19, T20, T21, T22, T23, T24, T25, T26, T27, T28, T29, T30⟩, V31, V32⟩
  ihave Hc := (creds (F := F) c) $$ Hcr
  icases Hc with ⟨C0, C5, C6, C7, C8, C13, C14, C15, C16, C24, C25, C26, C27, C28, C29, C30⟩
  imodintro
  isplitl
  · unfold start Ctx Start
    isplitr
    · isplitr; · iexact HR
      iexact Hlev
    isplitl [Ta]
    · iexact Ta
    isplitl [Tb]
    · iexact Tb
    isplitl [A0]
    · iexact A0
    isplitl [C0]
    · iexact C0
    isplitl [A1 T1 T5]
    · unfold Snd
      isplitl [A1]
      · iexact A1
      isplitl [T1]
      · iexact T1
      iexact T5
    isplitl [A2 T2 T6]
    · unfold Snd
      isplitl [A2]
      · iexact A2
      isplitl [T2]
      · iexact T2
      iexact T6
    isplitl [A3 T3 T7]
    · unfold Snd
      isplitl [A3]
      · iexact A3
      isplitl [T3]
      · iexact T3
      iexact T7
    isplitl [A4 T4 T8]
    · unfold Snd
      isplitl [A4]
      · iexact A4
      isplitl [T4]
      · iexact T4
      iexact T8
    isplitl [A9 T9 T13]
    · unfold Snd
      isplitl [A9]
      · iexact A9
      isplitl [T9]
      · iexact T9
      iexact T13
    isplitl [A10 T10 T14]
    · unfold Snd
      isplitl [A10]
      · iexact A10
      isplitl [T10]
      · iexact T10
      iexact T14
    isplitl [A11 T11 T15]
    · unfold Snd
      isplitl [A11]
      · iexact A11
      isplitl [T11]
      · iexact T11
      iexact T15
    isplitl [A12 T12 T16]
    · unfold Snd
      isplitl [A12]
      · iexact A12
      isplitl [T12]
      · iexact T12
      iexact T16
    isplitl [A17 T17 T24]
    · unfold Snd
      isplitl [A17]
      · iexact A17
      isplitl [T17]
      · iexact T17
      iexact T24
    isplitl [A18 T18 T25]
    · unfold Snd
      isplitl [A18]
      · iexact A18
      isplitl [T18]
      · iexact T18
      iexact T25
    isplitl [A19 T19 T26]
    · unfold Snd
      isplitl [A19]
      · iexact A19
      isplitl [T19]
      · iexact T19
      iexact T26
    isplitl [A20 T20 T27]
    · unfold Snd
      isplitl [A20]
      · iexact A20
      isplitl [T20]
      · iexact T20
      iexact T27
    isplitl [A21 T21 T28]
    · unfold Snd
      isplitl [A21]
      · iexact A21
      isplitl [T21]
      · iexact T21
      iexact T28
    isplitl [A22 T22 T29]
    · unfold Snd
      isplitl [A22]
      · iexact A22
      isplitl [T22]
      · iexact T22
      iexact T29
    isplitl [A23 T23 T30]
    · unfold Snd
      isplitl [A23]
      · iexact A23
      isplitl [T23]
      · iexact T23
      iexact T30
    isplitl [A5 C5]
    · unfold Rcv
      isplitl [A5]
      · iexact A5
      iexact C5
    isplitl [A6 C6]
    · unfold Rcv
      isplitl [A6]
      · iexact A6
      iexact C6
    isplitl [A7 C7]
    · unfold Rcv
      isplitl [A7]
      · iexact A7
      iexact C7
    isplitl [A8 C8]
    · unfold Rcv
      isplitl [A8]
      · iexact A8
      iexact C8
    isplitl [A13 C13]
    · unfold Rcv
      isplitl [A13]
      · iexact A13
      iexact C13
    isplitl [A14 C14]
    · unfold Rcv
      isplitl [A14]
      · iexact A14
      iexact C14
    isplitl [A15 C15]
    · unfold Rcv
      isplitl [A15]
      · iexact A15
      iexact C15
    isplitl [A16 C16]
    · unfold Rcv
      isplitl [A16]
      · iexact A16
      iexact C16
    isplitl [A24 C24]
    · unfold Rcv
      isplitl [A24]
      · iexact A24
      iexact C24
    isplitl [A25 C25]
    · unfold Rcv
      isplitl [A25]
      · iexact A25
      iexact C25
    isplitl [A26 C26]
    · unfold Rcv
      isplitl [A26]
      · iexact A26
      iexact C26
    isplitl [A27 C27]
    · unfold Rcv
      isplitl [A27]
      · iexact A27
      iexact C27
    isplitl [A28 C28]
    · unfold Rcv
      isplitl [A28]
      · iexact A28
      iexact C28
    isplitl [A29 C29]
    · unfold Rcv
      isplitl [A29]
      · iexact A29
      iexact C29
    isplitl [A30 C30]
    · unfold Rcv
      isplitl [A30]
      · iexact A30
      iexact C30
    isplitl [V31]
    · iexact V31
    isplitl [V32]
    · iexact V32
    isplitl [X]
    · unfold xA
      iexact X
    isplitl [W]
    · unfold wA
      iexact W
    iexact G
  · iempintro

/-- One kernel launch's data: what the invariant is before and after the body, and what the result holds after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => QB m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What is left at the end beside the scoped buffers and semaphores. -/
def Fin' (c : Dev nD) : sProp 𝕄 := iprop(unscopedSems0 c ∗ xA m c ∗ wA m c fullShare)

theorem phi1_exit (c : Dev nD) :
    (dats m ρ 0 c).Φ (Fin.last cfg0.N) ⊢ iprop(Fin' m c ∗ Pipeline.ownSems0 osem c ∗ Pipeline.scopedRest cfg0.spec c) := by
  unfold Fin'
  rw [show (dats m ρ 0 c).Φ (Fin.last cfg0.N) = Φ₁ m c from rfl, scopedRest0_eq, ownSems0_eq, unscopedSems0_eq]
  unfold Φ₁
  iintro ⟨V1, V2, V3, V4, V5, V6, V7, V8, V9, V10, V11, V12, V13, V14, V15, V16, V17, V18, V19, V20, V21, V22, V23, V24, V25, V26, V27, V28, V29, V30, V31, V32, VB, X, W, B0, B1, B2, B3, B4⟩
  isplitl [VB X W]
  · isplitl [VB]; · iexact VB
    isplitl [X]; · iexact X
    iexact W
  isplitr [B0 B1 B2 B3 B4]
  · isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    isplitl [V30]; · iexact V30
    isplitl [V31]; · iexact V31
    iexact V32
  · isplitl [B0]; · iexact B0
    isplitl [B1]; · iexact B1
    isplitl [B2]; · iexact B2
    isplitl [B3]; · iexact B3
    iexact B4

theorem stage_wait (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact mayWait c (.dma q) 17 (by rw [hq]; decide)
  · exact mayWait c (.dma q) 0 (by rw [hq]; decide)
theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> rfl) _ (by
      rcases t with ⟨_ | _, ht⟩
      · exact Or.inl rfl
      · exact Or.inr rfl)

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem windows_eq (Φ : Fin cfg0.W → sProp 𝕄) : bigSep Finset.univ Φ = iprop(Φ (0 : Fin 1)) := bigSep_W0 Φ

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (QB m c))

set_option maxRecDepth 4000 in
theorem body_pre_post (c : Dev nD) : bodyPre m ρ c ⊢ wp frame (wpE (defs₀ (F := F)) 𝒱₀ (c : Thread nD τ) none) Set.univ (cc0_body (F := F) (Memref.whole main_arg0) (Memref.isWhole_whole _) (Memref.whole main_arg1) (Memref.isWhole_whole _) (Memref.whole cc0_stg0_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11) (fun _ => bodyPost m ρ c) := by
  unfold bodyPre Φ₀ start Start
  iintro ⟨⟨⟨#HC, TF, TT, AB, CB, S1, S2, S3, S4, S9, S10, S11, S12, S17, S18, S19, S20, S21, S22, S23, R5, R6, R7, R8, R13, R14, R15, R16, R24, R25, R26, R27, R28, R29, R30, V31, V32, X, W, G⟩, B0, B1, B2, B3, B4⟩, Ho, ⟨%d0, %g0, %hg0, O⟩⟩
  unfold Dat.owesAt Pipeline.owesWithin
  icases Ho with ⟨%W, %hW, HO⟩
  iapply (wp_wand_r frame (wpE (defs₀ (F := F)) 𝒱₀ (c : Thread nD τ) none) Set.univ)
  isplitl
  · iapply (body_ok m c)
    isplitr; · iexact HC
    unfold BodyIn
    isplitl [HO]; · unfold Due; iexists W; iexact HO
    isplitl [TF]; · iexact TF
    isplitl [TT]; · iexact TT
    isplitl [AB]; · iexact AB
    isplitl [CB]; · iexact CB
    isplitl [S1]; · iexact S1
    isplitl [S2]; · iexact S2
    isplitl [S3]; · iexact S3
    isplitl [S4]; · iexact S4
    isplitl [S9]; · iexact S9
    isplitl [S10]; · iexact S10
    isplitl [S11]; · iexact S11
    isplitl [S12]; · iexact S12
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [R5]; · iexact R5
    isplitl [R6]; · iexact R6
    isplitl [R7]; · iexact R7
    isplitl [R8]; · iexact R8
    isplitl [R13]; · iexact R13
    isplitl [R14]; · iexact R14
    isplitl [R15]; · iexact R15
    isplitl [R16]; · iexact R16
    isplitl [R24]; · iexact R24
    isplitl [R25]; · iexact R25
    isplitl [R26]; · iexact R26
    isplitl [R27]; · iexact R27
    isplitl [R28]; · iexact R28
    isplitl [R29]; · iexact R29
    isplitl [R30]; · iexact R30
    isplitl [V31]; · iexact V31
    isplitl [V32]; · iexact V32
    isplitl [X]; · iexact X
    isplitl [W]; · iexact W
    isplitl [G]; · iexact G
    isplitl [B0]; · iexact B0
    isplitl [B1]; · iexact B1
    isplitl [B2]; · iexact B2
    isplitl [B3]; · iexact B3
    isplitl [B4]; · iexact B4
    iexists g0; iexact O
  iintro %_ H
  unfold BodyOut
  icases H with ⟨HO, V1, V2, V3, V4, V5, V6, V7, V8, V9, V10, V11, V12, V13, V14, V15, V16, V17, V18, V19, V20, V21, V22, V23, V24, V25, V26, V27, V28, V29, V30, V31, V32, VB, X, W, B0, B1, B2, B3, B4, Y⟩
  unfold bodyPost Φ₁
  isplitr [HO Y]
  · isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    isplitl [V30]; · iexact V30
    isplitl [V31]; · iexact V31
    isplitl [V32]; · iexact V32
    isplitl [VB]; · iexact VB
    isplitl [X]; · iexact X
    isplitl [W]; · iexact W
    isplitl [B0]; · iexact B0
    isplitl [B1]; · iexact B1
    isplitl [B2]; · iexact B2
    isplitl [B3]; · iexact B3
    iexact B4
  isplitl [HO]
  · unfold Due
    icases HO with ⟨%W', HO⟩
    iexists W'
    isplitr; · ipureintro; exact fun _ _ => Or.inl trivial
    iexact HO
  · unfold ResP
    iexists _; isplitr; · ipureintro; rfl
    iexact Y

set_option maxRecDepth 4000 in
set_option maxRecDepth 16000 in
/-- The body's obligation to the launch. -/
theorem body_obligation (c : Dev nD) : BodyObligation (dats (F := F) m ρ 0 c) (defs₀ (F := F)) 𝒱₀ () Set.univ := fun t => by
  rw [fin_N0 t]
  rw [windows_eq, windows_eq]
  simp only [owns_whole_eq]
  exact body_pre_post m ρ c

end Cert.Ring

end
-- ==== Proof.Run.lean ====
/-
The run: every device's kernel ends, the arguments unchanged, the semaphores at zero, the result at its computed contents.
-/
module

public import proofs.«01_k».proof.Proof.Launch
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-- What every final state shows: the result buffer's contents, the arguments unchanged. -/
def Seen (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∀ sm : SemLoc sig, sm.isScoped .tc = false → s.sem ((c.tc : Thread nD τ), sm) = 0

/-- What is left to a device at the end, read in the machine's state. -/
theorem seen (c : Dev nD) (s' : Phys nD τ sig (Elt F)) :
    iprop(Fin' m c ∗ emp ∗ SI s') ⊢ (|={Set.univ}=> iprop(⌜Seen m c s'.mem⌝ ∗ SI s') : sProp 𝕄) := by
  unfold Fin' xA wA
  iintro ⟨⟨Hu, X, W⟩, -, HSI⟩
  ihave %h0 := (SI_pointsTo_agree (Ix := Unit) (Name := ℕ) (U := UU) (Lvl := ℕ) (st := s') (ℓ := ((c : Thread nD τ).loc main_arg0))) $$ [HSI X]
  · isplitl [HSI]; · iexact HSI
    iexact X
  ihave %h1 := (SI_pointsTo_agree (Ix := Unit) (Name := ℕ) (U := UU) (Lvl := ℕ) (st := s') (ℓ := ((c : Thread nD τ).loc main_arg1))) $$ [HSI W]
  · isplitl [HSI]; · iexact HSI
    iexact W
  imod (Pipeline.unscopedSems0_read (X := unscopedSems0 c) (c := c) fupd_intro s') $$ [Hu HSI] with ⟨%hz, HSI⟩
  · isplitl [Hu]; · iexact Hu
    iexact HSI
  imodintro
  isplitr
  · ipureintro
    exact ⟨funext fun i => h0 i (Finset.mem_univ i), funext fun i => h1 i (Finset.mem_univ i), hz⟩
  · iexact HSI

def final (c : Dev nD) (w : Fin cfg0.W) : Buf (Elt F) ((cfg0.win w).arr.view.loc (c : Thread nD τ)) := (dats m ρ 0 c).arrAt w cfg0.N

set_option maxRecDepth 16000 in
/-- On eight devices, from any memory with every semaphore at zero, for any float values: the kernel ends on every
    device, the result array of each at its computed contents, the arguments unchanged, every semaphore at zero. -/
theorem run_main : θ_run defs (onTc (τ := τ) (main (F := F))) (s₀ m ρ)
    (fun r => (∀ c : Dev nD, (∀ w : Fin cfg0.W, r.2.mem ((cfg0.win w).arr.view.loc (c : Thread nD τ)) = final m ρ c w) ∧ Seen m c r.2)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact block_pos0 0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP]
      · iexact HP
      · iexact HG)
    (hglob := glob m)
    (hA := fun _ _ => rfl) (hpf := fun _ k => k.elim0)
    (X := start m) (Y := Fin' m) (Z := fun _ => iprop(emp))
    (hX := start_intro m ρ) (hin := phi0_intro m ρ) (hout := phi1_exit m ρ)
    (QY := fun c s => Seen m c s)
    (hY := seen m)
    (hQ := fun _ h hs => ⟨fun c => ⟨(h c).1, (h c).2.2⟩, sem_eq_zero hs fun c => (h c).2.2.2.2⟩)

end Cert.Ring

end
-- ==== Proof.Frames.lean ====
module
public import proofs.«01_k».proof.Proof.Run
public import proofs.«01_k».proof.Defs
public import proofs.«01_k».proof.Proof.Gen.Kernel

/-! # The two frames of the kernel

The kernel is proved once, over any floating-point instance, in the namespace of its idealized
printing. No operation of the kernel is rewritten by the idealization, so the printing as
lowered is the same program: its body table equals the idealized one, entry by entry, and the run
proved for one is the run of the other. -/

@[expose] public section
noncomputable section
open Idealize.ShloMosaic Idealize.SL.Sem
namespace Cert.Ring
attribute [local instance] Cert.Kernel.Gen.facts Cert.KernelIdeal.Gen.facts

/-- The one kernel body of the two printings is the same function of its label and operands. -/
theorem defs₀_same {F : FTy → Type} [FloatOps F] :
    Cert.Kernel.defs₀ (F := F) = Cert.KernelIdeal.defs₀ (F := F) := by
  unfold Cert.Kernel.defs₀ Cert.KernelIdeal.defs₀
  congr 1
  funext a x
  match a, x with
  | ⟨0, _⟩, (t, s) => rfl
  | ⟨n + 1, h⟩, _ => exact absurd h (Nat.not_lt.2 (Nat.le_add_left _ _))

/-- The two body tables, pipelines included, are the same table. -/
theorem defs_same {F : FTy → Type} [FloatOps F] :
    Cert.Kernel.defs (F := F) = Cert.KernelIdeal.defs (F := F) :=
  congrArg (Pipeline.defs (Cert.KernelIdeal.pcfgs (F := F))) defs₀_same

open Cert.KernelIdeal in
/-- Over any floating-point instance the kernel runs from any memory with its semaphores at zero,
    faults nowhere, leaves both arguments of every device as they were, and ends with every
    semaphore of the machine at zero. -/
theorem frame_any {F : FTy → Type} [FloatOps F] (m : (ℓ : Loc nD τ sig) → Buf (Elt F) ℓ)
    (ρ : Dev nD → PrngReg) :
    θ_run (defs (F := F)) (onTc (τ := τ) (main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun _ h => ⟨fun c => ⟨(h.1 c).2.1, (h.1 c).2.2.1⟩, h.2⟩) (run_main m ρ)

/-- The frame of the kernel read over the extended reals. -/
theorem frame_ideal : Cert.quiescent_KernelIdeal := fun m ρ _ => frame_any m ρ

/-- The frame of the kernel on its bits. -/
theorem frame_bits : Cert.quiescent_Kernel := by
  intro m ρ _
  rw [defs_same]
  exact frame_any (F := Bits) m ρ
-- ==== Proof.Result.lean ====
/-
What the result array of each device holds when the kernel has ended: the quantised products, at every index.
-/
module

public import proofs.«01_k».proof.Proof.Run
public import Idealize.ShloMosaic.Lib.Pipeline.Value

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The one write-back leaves the block's part of the quantised products. -/
theorem flushed_eq (c : Dev nD) (t : Fin cfg0.N) :
    (dats m ρ 0 c).flushed 0 t = ((cfg0.win 0).blk t).view.read (Elt F) (QB m c) := by
  obtain rfl := fin_N0 t
  have ha : (dats m ρ 0 c).after 0 t0_0 = QB m c := by dsimp only [dats]
  unfold Pipeline.Dat.flushed
  rw [ha]
  have h0 : ∀ a : Fin 2, win0_0.index t0_0 a = 0 := by decide +kernel
  funext j
  show QB m c j = QB m c (((cfg0.win 0).blk t0_0).view.emb j)
  congr 1
  funext a; apply Fin.ext
  match a with
  | ⟨0, _⟩ => show (j 0).val = win0_0.index t0_0 (0 : Fin 2) * 4096 + 1 * (j 0).val; rw [h0]; omega
  | ⟨1, _⟩ => show (j 1).val = win0_0.index t0_0 (1 : Fin 2) * 1024 + 1 * (j 1).val; rw [h0]; omega

/-- The one block is the whole array. -/
theorem covered (i : S4096x1024.Idx) :
    ∃ t : Fin cfg0.N, (cfg0.win 0).flush t = true ∧ i ∈ ((cfg0.win 0).blk t).view.set := by
  refine ⟨t0_0, flush0_0 _, ?_⟩
  have h0 : ∀ a : Fin 2, win0_0.index t0_0 a = 0 := by decide +kernel
  have h := ((cfg0.win 0).blk t0_0).view.emb_mem_set i
  have e : ((cfg0.win 0).blk t0_0).view.emb i = i := by
    funext a; apply Fin.ext
    match a with
    | ⟨0, _⟩ => show win0_0.index t0_0 (0 : Fin 2) * 4096 + 1 * (i 0).val = (i 0).val; rw [h0]; omega
    | ⟨1, _⟩ => show win0_0.index t0_0 (1 : Fin 2) * 1024 + 1 * (i 1).val = (i 1).val; rw [h0]; omega
  rw [e] at h
  exact h

/-- The result array after the run is the quantised products. -/
theorem final_eq (c : Dev nD) : final m ρ c 0 = QB m c :=
  (dats m ρ 0 c).arrAt_eq_of_cover 0 (QB m c) (fun t _ => flushed_eq m ρ c t) covered

/-- The run, read: on every device the result array holds the quantised products and the arguments are unchanged. -/
theorem run_value : θ_run defs (onTc (τ := τ) (main (F := F))) (s₀ m ρ)
    (fun r => ∀ c : Dev nD, r.2.mem ((c.tc : Thread nD τ).loc main_v1_0) = QB m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 0).trans (final_eq m ρ c), (h.1 c).2.1, (h.1 c).2.2.1⟩) (run_main m ρ)

end Cert.Ring

end
-- ==== Proof.Scale.lean ====
/-
Facts about extended reals and about reading an index, free of the program: the greatest absolute value as a least
upper bound, the two orders of scaling, a plain product at an index.
-/
module

public import Idealize.ShloMosaic.Lib.MatmulPlain
public import Idealize.ShloMosaic.Lib.Pipeline.Value
public import Idealize.ShloMosaic.Lib.ValueIdx
public import Idealize.ShloMosaic.PureOps.Ideal.Laws
public import Idealize.ShloMosaic.Lib.IdealHost

@[expose] public section

noncomputable section

namespace Cert.Scale

open Idealize.ShloMosaic Idealize.ShloMosaic.ValueIdx

/-- An index of a rank-2 shape is its two coordinates. -/
theorem idx2 {n p : ℕ} {i j : (⟨2, ![n, p]⟩ : Shape).Idx} (h0 : (i 0).val = (j 0).val) (h1 : (i 1).val = (j 1).val) : i = j := by
  funext a; apply Fin.ext
  match a with
  | ⟨0, _⟩ => exact h0
  | ⟨1, _⟩ => exact h1

/-- The absolute value, as an extended real. -/
def ab (x : EReal) : EReal := max x (-x)

/-- The pattern the maxima start from is below everything. -/
theorem start_bot : Ideal.ofBits .f32 0xFF800000#32 = ⊥ := by simp [Ideal.ofBits, Ideal.ieee]

/-- The bound the quantisation clips at: 448. -/
theorem top_val : Ideal.ofBits .f32 0x43E00000#32 = ((448 : ℝ) : EReal) := by
  simp [Ideal.ofBits, Ideal.ieee, -EReal.coe_mul]; norm_num

/-- A maximum over a whole rank-2 vector, as the kernels take it, is below a bound exactly when every element is. -/
theorem red_le {p q : ℕ} (v : FVec Ideal ⟨2, ![p, q]⟩ .f32) (hc : (⟨2, ![p, q]⟩ : Shape).ShapeCasts ⟨3, ![1, p, q]⟩)
    (hr : (⟨3, ![1, p, q]⟩ : Shape).Reduces [1, 2] ⟨1, ![1]⟩) (hφ : FKind.Formats .f32)
    (hacc : (0xFF800000#32 : BitVec 32) = FKind.maximumf.neutral .f32 hφ)
    (hs : (⟨1, ![1]⟩ : Shape).ShapeCasts ⟨3, ![1, 1, 1]⟩) (hi : ∀ a, (![0, 0, 0] : Fin 3 → ℕ) a < (⟨3, ![1, 1, 1]⟩ : Shape).size a)
    (b : EReal) :
    extractAt (s := ⟨3, ![1, 1, 1]⟩) ![0, 0, 0] (shapeCast ⟨3, ![1, 1, 1]⟩ (multiReduction .maximumf [1, 2] ⟨1, ![1]⟩
        (shapeCast ⟨3, ![1, p, q]⟩ v hc) 0xFF800000#32 hr hφ hacc) hs) hi ≤ b
      ↔ ∀ i, v i ≤ b := by
  unfold extractAt
  show multiReduction .maximumf [1, 2] ⟨1, ![1]⟩ (shapeCast ⟨3, ![1, p, q]⟩ v hc) 0xFF800000#32 hr hφ hacc (Shape.reshapeEquiv hs _) ≤ b ↔ _
  rw [multiReduction_maximumf_eq_fold]
  show Finset.fold max (Ideal.ofBits .f32 0xFF800000#32) (shapeCast ⟨3, ![1, p, q]⟩ v hc) _ ≤ b ↔ _
  rw [Finset.fold_max_le, start_bot]
  constructor
  · rintro ⟨-, h⟩ i
    have := h ((Shape.reshapeEquiv hc).symm i) (by
      rw [Finset.mem_filter]
      refine ⟨Finset.mem_univ _, ?_⟩
      funext a
      apply Fin.ext
      have h1 := (hr.drop ((Shape.reshapeEquiv hc).symm i) a).isLt
      have h2 := (Shape.reshapeEquiv hs (fun a => ⟨(![0, 0, 0] : Fin 3 → ℕ) a, hi a⟩) a).isLt
      have h3 : (⟨1, ![1]⟩ : Shape).size a = 1 := by
        match a with
        | ⟨0, _⟩ => rfl
      omega)
    have e : shapeCast ⟨3, ![1, p, q]⟩ v hc ((Shape.reshapeEquiv hc).symm i) = v i := by
      show v (Shape.reshapeEquiv hc ((Shape.reshapeEquiv hc).symm i)) = v i
      rw [Equiv.apply_symm_apply]
    rwa [e] at this
  · intro h
    exact ⟨bot_le, fun x _ => h _⟩

/-- The two orders of scaling agree: multiplying by `p / A` and dividing by `A / p`, both clipped the same way and
    scaled back by `A / p`. -/
theorem scale_eq (p : ℝ) (hp : p ≠ 0) (n y A : EReal) :
    min (p : EReal) (max n (y * Ideal.div p A)) * Ideal.div A p
      = min (p : EReal) (max n (Ideal.div y (Ideal.div A p))) * Ideal.div A p := by
  have hp' : (p : EReal) ≠ 0 := by exact_mod_cast hp
  have hd : Ideal.div A p = A * (p : EReal)⁻¹ := by unfold Ideal.div; rw [if_neg hp']
  by_cases hA : A = 0
  · rw [hd, hA, zero_mul, mul_zero, mul_zero]
  · have hpi : (p : EReal)⁻¹ ≠ 0 := by
      rw [← EReal.coe_inv]
      exact_mod_cast inv_ne_zero hp
    have hne : A * (p : EReal)⁻¹ ≠ 0 := mul_ne_zero hA hpi
    have hi : ((p : EReal)⁻¹)⁻¹ = p := by
      rw [← EReal.coe_inv, ← EReal.coe_inv, inv_inv]
    rw [hd]
    unfold Ideal.div
    rw [if_neg hA, if_neg hne, EReal.mul_inv, hi, mul_comm (p : EReal) A⁻¹]

/-- A plain product into the zero accumulator, at an index. -/
theorem dot_apply {M K N : ℕ} {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant (⟨2, ![M, N]⟩ : Shape) .f32 0x00000000#32) j
      = ∑ k : Fin K, lhs (ix2 (j 0) k) * rhs (ix2 k (j 1)) := by
  refine (congrArg _ (eq_ix2 j)).trans
    ((Ideal.matmul_plain_apply prec lhs rhs (constant (⟨2, ![M, N]⟩ : Shape) .f32 0x00000000#32) (j 0) (j 1)).trans ?_)
  show Ideal.ofBits .f32 0x00000000#32 + _ = _
  rw [Ideal.ofBits_zero_f32, zero_add]

end Cert.Scale

end
-- ==== Proof.Values.lean ====
/-
The values over the extended reals: every part of the product the kernel makes is its part of the whole
product, the maxima together are the greatest absolute value of the whole, and the quantised result follows.
-/
module

public import proofs.«01_k».proof.Proof.Result
public import proofs.«01_k».proof.Proof.Scale
public import Idealize.ShloMosaic.Lib.Layout

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Cert.Scale Idealize.ShloMosaic.ValueIdx

/-! ## The whole product, and the kernel's parts of it -/

/-- The product of the whole arrays at row `r`, column `l`. -/
def prod (X : S4096x4096.Idx → EReal) (W : (⟨2, ![4096, 8192]⟩ : Shape).Idx → EReal) (r : Fin 4096) (l : Fin 8192) : EReal :=
  ∑ k : Fin 4096, X (ix2 r k) * W (ix2 k l)

/-- Column `l` of device `c`'s block of columns. -/
def col (c : Dev nD) (l : Fin 1024) : Fin 8192 := ⟨1024 * c.val + l.val, by have : c.val < 8 := c.isLt; have := l.isLt; omega⟩

section Blocks

variable (m : (ℓ : Loc nD τ sig) → Buf (Elt Ideal) ℓ)
variable (X : S4096x4096.Idx → EReal) (W : (⟨2, ![4096, 8192]⟩ : Shape).Idx → EReal)

/-- The arguments on the devices are the blocks of the whole arrays. -/
structure Cut : Prop where
  x : ∀ c : Dev nD, m ((c.tc : Thread nD τ).loc main_arg0) = Layout.block ⟨2, ![512, 4096]⟩ ⟨2, ![4096, 4096]⟩ 0 8 c X
  w : ∀ c : Dev nD, m ((c.tc : Thread nD τ).loc main_arg1) = Layout.block ⟨2, ![4096, 1024]⟩ ⟨2, ![4096, 8192]⟩ 1 8 c W

variable {m X W} (h : Cut m X W)
include h

/-- A device's copy of its rows, at an index. -/
theorem ownV_apply (o : Dev nD) (j : S512x4096.Idx) (i : S4096x4096.Idx) (h0 : (i 0).val = 512 * o.val + (j 0).val)
    (h1 : (i 1).val = (j 1).val) : ownV m o j = X i := by
  unfold ownV k0_pay2
  rw [shapeCast_self]
  show m ((o.tc : Thread nD τ).loc main_arg0) j = X i
  rw [h.x o]
  show X (_ : S4096x4096.Idx) = X i
  congr 1
  refine idx2 ?_ ?_
  · rw [h0]; show o.val * 512 + (j 0).val = _; omega
  · rw [h1]; rfl

/-- The gathered rows are the whole left operand. -/
theorem GF_apply (i : S4096x4096.Idx) : GF m i = X i := by
  unfold GF
  have hi : (i 0).val < 4096 := (i 0).isLt
  exact ownV_apply h _ _ i (by show (i 0).val = 512 * ((i 0).val / 512) + (i 0).val % 512; omega) rfl

/-- A device's copy of its columns, at an index. -/
theorem WB_apply (c : Dev nD) (k : Fin 4096) (l : Fin 1024) : WB m c (ix2 k l) = W (ix2 k (col c l)) := by
  unfold WB k0_pay3
  rw [shapeCast_self]
  show m ((c.tc : Thread nD τ).loc main_arg1) (_ : S4096x1024.Idx) = _
  rw [h.w c]
  show W (_ : (⟨2, ![4096, 8192]⟩ : Shape).Idx) = W _
  congr 1
  refine idx2 ?_ ?_
  · show 256 * (k.val / 256) + k.val % 256 = k.val; omega
  · show c.val * 1024 + l.val = 1024 * c.val + l.val; omega

/-- The device's own rows of the product. -/
theorem yOwn_apply (c : Dev nD) (j : S512x1024.Idx) (r : Fin 4096) (hr : r.val = 512 * c.val + (j 0).val) :
    yOwn m c j = prod X W r (col c ⟨(j 1).val, (j 1).isLt⟩) := by
  unfold yOwn k0_pay19
  dsimp only
  refine (dot_apply (M := 512) (K := 4096) (N := 1024) (φ₁ := .bf16) (φ₂ := .bf16) none (ownV m c) (WB m c) j).trans ?_
  refine Finset.sum_congr rfl fun k _ => ?_
  exact congrArg₂ (· * ·) (ownV_apply h c _ (ix2 r k) hr rfl) (WB_apply h c k _)

/-- Another device's rows of it. -/
theorem yRem_apply (c o : Dev nD) (j : S512x1024.Idx) (r : Fin 4096) (hr : r.val = 512 * o.val + (j 0).val) :
    yRem m c o j = prod X W r (col c ⟨(j 1).val, (j 1).isLt⟩) := by
  unfold yRem k0_pay21
  dsimp only
  refine (dot_apply (M := 512) (K := 4096) (N := 1024) (φ₁ := .bf16) (φ₂ := .bf16) none (shapeCast S512x4096 (chunkV m o) _) (WB m c) j).trans ?_
  refine Finset.sum_congr rfl fun k _ => ?_
  refine congrArg₂ (· * ·) ?_ (WB_apply h c k _)
  refine (shapeCast_dropUnit_apply ![512, 4096] (chunkV m o) _ (ix2 (j 0) k)).trans ?_
  refine (GF_apply h _).trans (congrArg X (idx2 ?_ rfl))
  exact hr.symm

/-- Half of another device's rows of it. -/
theorem yHalf_apply (c o : Dev nD) (e : Fin 2) (j : S256x1024.Idx) (r : Fin 4096) (hr : r.val = 512 * o.val + 256 * e.val + (j 0).val) :
    yHalf m c o e j = prod X W r (col c ⟨(j 1).val, (j 1).isLt⟩) := by
  unfold yHalf k0_pay32
  dsimp only
  refine (dot_apply (M := 256) (K := 4096) (N := 1024) (φ₁ := .bf16) (φ₂ := .bf16) none (shapeCast S256x4096 (halfV m o e) _) (WB m c) j).trans ?_
  refine Finset.sum_congr rfl fun k _ => ?_
  refine congrArg₂ (· * ·) ?_ (WB_apply h c k _)
  refine (shapeCast_dropUnit_apply ![256, 4096] (halfV m o e) _ (ix2 (j 0) k)).trans ?_
  refine (GF_apply h _).trans (congrArg X (idx2 ?_ rfl))
  exact hr.symm

/-- The result buffer after the last product is the device's columns of the whole product. -/
theorem YB_apply (c : Dev nD) (i : S4096x1024.Idx) (r : Fin 4096) (hr : r.val = (i 0).val) :
    YB m c i = prod X W r (col c ⟨(i 1).val, (i 1).isLt⟩) := by
  have hi : (i 0).val < 4096 := (i 0).isLt
  unfold YB
  split
  · rename_i e
    refine yOwn_apply h c (inChunk i) r ?_
    show r.val = 512 * c.val + (i 0).val % 512
    omega
  · split
    · rename_i e
      refine yHalf_apply h c (dv c 4) _ (inBlk i) r ?_
      show r.val = 512 * (dv c 4).val + 256 * ((i 0).val / 256 % 2) + (i 0).val % 256
      omega
    · refine yRem_apply h c _ (inChunk i) r ?_
      show r.val = 512 * ((i 0).val / 512) + (i 0).val % 512
      omega

end Blocks

/-! ## The maxima -/

/-- The maximum of the magnitudes of the first product is at most `b` exactly when each magnitude is. -/
theorem pay20_le (v : S512x1024.Idx → EReal) (b : EReal) : k0_pay20 (F := Ideal) v ≤ b ↔ ∀ j, ab (v j) ≤ b := by
  unfold k0_pay20
  dsimp only
  rw [shapeCast_self]
  exact red_le (p := 512) (q := 1024) (absf v) _ _ _ _ _ _ b

/-- The running maximum after two more products, bounded. -/
theorem pay23_le (a : EReal) (v w : S512x1024.Idx → EReal) (b : EReal) :
    k0_pay23 (F := Ideal) a v w ≤ b ↔ (a ≤ b ∧ ∀ j, ab (v j) ≤ b) ∧ ∀ j, ab (w j) ≤ b := by
  unfold k0_pay23
  dsimp only
  rw [shapeCast_self, shapeCast_self]
  refine max_le_iff.trans (and_congr (max_le_iff.trans (and_congr Iff.rfl ?_)) ?_)
  · exact red_le (p := 512) (q := 1024) (absf v) _ _ _ _ _ _ b
  · exact red_le (p := 512) (q := 1024) (absf w) _ _ _ _ _ _ b

/-- The running maximum after one more product, bounded. -/
theorem pay25_le (a : EReal) (v : S512x1024.Idx → EReal) (b : EReal) :
    k0_pay25 (F := Ideal) a v ≤ b ↔ a ≤ b ∧ ∀ j, ab (v j) ≤ b := by
  unfold k0_pay25
  dsimp only
  rw [shapeCast_self]
  refine max_le_iff.trans (and_congr Iff.rfl ?_)
  exact red_le (p := 512) (q := 1024) (absf v) _ _ _ _ _ _ b

/-- The running maximum after one more product, bounded. -/
theorem pay27_le (a : EReal) (v : S512x1024.Idx → EReal) (b : EReal) :
    k0_pay27 (F := Ideal) a v ≤ b ↔ a ≤ b ∧ ∀ j, ab (v j) ≤ b := by
  unfold k0_pay27
  dsimp only
  rw [shapeCast_self]
  refine max_le_iff.trans (and_congr Iff.rfl ?_)
  exact red_le (p := 512) (q := 1024) (absf v) _ _ _ _ _ _ b

/-- The running maximum after one more product, bounded. -/
theorem pay29_le (a : EReal) (v : S512x1024.Idx → EReal) (b : EReal) :
    k0_pay29 (F := Ideal) a v ≤ b ↔ a ≤ b ∧ ∀ j, ab (v j) ≤ b := by
  unfold k0_pay29
  dsimp only
  rw [shapeCast_self]
  refine max_le_iff.trans (and_congr Iff.rfl ?_)
  exact red_le (p := 512) (q := 1024) (absf v) _ _ _ _ _ _ b

/-- The running maximum after one more product, bounded. -/
theorem pay31_le (a : EReal) (v : S512x1024.Idx → EReal) (b : EReal) :
    k0_pay31 (F := Ideal) a v ≤ b ↔ a ≤ b ∧ ∀ j, ab (v j) ≤ b := by
  unfold k0_pay31
  dsimp only
  rw [shapeCast_self]
  refine max_le_iff.trans (and_congr Iff.rfl ?_)
  exact red_le (p := 512) (q := 1024) (absf v) _ _ _ _ _ _ b

/-- The running maximum after one more half, bounded. -/
theorem pay33_le (a : EReal) (v : S256x1024.Idx → EReal) (b : EReal) :
    k0_pay33 (F := Ideal) a v ≤ b ↔ a ≤ b ∧ ∀ j, ab (v j) ≤ b := by
  unfold k0_pay33
  dsimp only
  rw [shapeCast_self]
  refine max_le_iff.trans (and_congr Iff.rfl ?_)
  exact red_le (p := 256) (q := 1024) (absf v) _ _ _ _ _ _ b

/-- Every entry of the row sent, which is the running maximum after the last half, bounded. -/
theorem pay35_le (a : EReal) (v : S256x1024.Idx → EReal) (i : S1x128.Idx) (b : EReal) :
    k0_pay35 (F := Ideal) a v i ≤ b ↔ a ≤ b ∧ ∀ j, ab (v j) ≤ b := by
  unfold k0_pay35
  dsimp only
  rw [shapeCast_self, shapeCast_self]
  refine max_le_iff.trans (and_congr Iff.rfl ?_)
  exact red_le (p := 256) (q := 1024) (absf v) _ _ _ _ _ _ b

/-- The greatest of the maxima buffer, as the last loop takes it. -/
def top (v : S8x128.Idx → EReal) : EReal :=
  extractAt (s := S1x1x1) ![0, 0, 0] (shapeCast S1x1x1 (multiReduction (F := Ideal) (φ := .f32) .maximumf [1, 2] S1 (shapeCast S1x8x128 v shapeCasts_S8x128_S1x8x128)
    0xFF800000#32 reduces_S1x8x128_S1 (.inl rfl) rfl) shapeCasts_S1_S1x1x1) inpos_S1x1x1_p0_0_0

/-- The greatest of the maxima buffer is at most `b` exactly when every entry is. -/
theorem top_le (v : S8x128.Idx → EReal) (b : EReal) : top v ≤ b ↔ ∀ i, v i ≤ b :=
  red_le (p := 8) (q := 128) v _ _ _ _ _ _ b

/-- Another device's number is the device's, some places to the right. -/
theorem dv_cases (s : Dev nD) (o : ℕ) (ho : o < 8) :
    o = s.val ∨ o = (dv s 7).val ∨ o = (dv s 1).val ∨ o = (dv s 6).val ∨ o = (dv s 2).val ∨ o = (dv s 5).val ∨ o = (dv s 3).val ∨ o = (dv s 4).val := by
  have : s.val < 8 := s.isLt
  simp only [dv]
  omega

section Maxima

variable {m : (ℓ : Loc nD τ sig) → Buf (Elt Ideal) ℓ}
variable {X : S4096x4096.Idx → EReal} {W : (⟨2, ![4096, 8192]⟩ : Shape).Idx → EReal} (h : Cut m X W)
include h

/-- The bound on the device's own rows of the product, over the rows of the whole product. -/
theorem own_le (s : Dev nD) (b : EReal) :
    (∀ j, ab (yOwn m s j) ≤ b) ↔ ∀ r : Fin 4096, r.val / 512 = s.val → ∀ l : Fin 1024, ab (prod X W r (col s l)) ≤ b := by
  constructor
  · intro H r hr l
    have := H (ix2 ⟨r.val % 512, Nat.mod_lt _ (by decide)⟩ l)
    rwa [yOwn_apply h s _ r (by show r.val = 512 * s.val + r.val % 512; omega)] at this
  · intro H j
    have hj : (j 0).val < 512 := (j 0).isLt
    have hs : s.val < 8 := s.isLt
    rw [yOwn_apply h s j ⟨512 * s.val + (j 0).val, by omega⟩ rfl]
    exact H _ (by show (512 * s.val + (j 0).val) / 512 = s.val; omega) _

/-- The same for another device's rows. -/
theorem rem_le (s o : Dev nD) (b : EReal) :
    (∀ j, ab (yRem m s o j) ≤ b) ↔ ∀ r : Fin 4096, r.val / 512 = o.val → ∀ l : Fin 1024, ab (prod X W r (col s l)) ≤ b := by
  constructor
  · intro H r hr l
    have := H (ix2 ⟨r.val % 512, Nat.mod_lt _ (by decide)⟩ l)
    rwa [yRem_apply h s o _ r (by show r.val = 512 * o.val + r.val % 512; omega)] at this
  · intro H j
    have hj : (j 0).val < 512 := (j 0).isLt
    have hs : o.val < 8 := o.isLt
    rw [yRem_apply h s o j ⟨512 * o.val + (j 0).val, by omega⟩ rfl]
    exact H _ (by show (512 * o.val + (j 0).val) / 512 = o.val; omega) _

/-- The same for half of another device's rows. -/
theorem half_le (s o : Dev nD) (e : Fin 2) (b : EReal) :
    (∀ j, ab (yHalf m s o e j) ≤ b)
      ↔ ∀ r : Fin 4096, r.val / 512 = o.val → r.val / 256 % 2 = e.val → ∀ l : Fin 1024, ab (prod X W r (col s l)) ≤ b := by
  constructor
  · intro H r hr he l
    have := H (ix2 ⟨r.val % 256, Nat.mod_lt _ (by decide)⟩ l)
    rwa [yHalf_apply h s o e _ r (by show r.val = 512 * o.val + 256 * e.val + r.val % 256; omega)] at this
  · intro H j
    have hj : (j 0).val < 256 := (j 0).isLt
    have hs : o.val < 8 := o.isLt
    have he : e.val < 2 := e.isLt
    rw [yHalf_apply h s o e j ⟨512 * o.val + 256 * e.val + (j 0).val, by omega⟩ rfl]
    exact H _ (by show (512 * o.val + 256 * e.val + (j 0).val) / 512 = o.val; omega)
      (by show (512 * o.val + 256 * e.val + (j 0).val) / 256 % 2 = e.val; omega) _

/-- The row of maxima a device sends is the greatest absolute value of its columns of the product. -/
theorem mxRow_le (s : Dev nD) (i : S1x128.Idx) (b : EReal) :
    mxRow m s i ≤ b ↔ ∀ (r : Fin 4096) (l : Fin 1024), ab (prod X W r (col s l)) ≤ b := by
  unfold mxRow mx6 mx5 mx4 mx3 mx2 mx1 mx0
  rw [pay35_le, pay33_le, pay31_le, pay29_le, pay27_le, pay25_le, pay23_le, pay20_le, own_le h, rem_le h, rem_le h, rem_le h,
    rem_le h, rem_le h, rem_le h, half_le h, half_le h]
  constructor
  · rintro ⟨⟨⟨⟨⟨⟨⟨⟨H0, H7⟩, H1⟩, H6⟩, H2⟩, H5⟩, H3⟩, H40⟩, H41⟩ r l
    have hr : r.val < 4096 := r.isLt
    rcases dv_cases s (r.val / 512) (by omega) with e | e | e | e | e | e | e | e
    · exact H0 r e l
    · exact H7 r e l
    · exact H1 r e l
    · exact H6 r e l
    · exact H2 r e l
    · exact H5 r e l
    · exact H3 r e l
    · rcases Nat.mod_two_eq_zero_or_one (r.val / 256) with e' | e'
      · exact H40 r e e' l
      · exact H41 r e e' l
  · intro H
    exact ⟨⟨⟨⟨⟨⟨⟨⟨fun r _ l => H r l, fun r _ l => H r l⟩, fun r _ l => H r l⟩, fun r _ l => H r l⟩, fun r _ l => H r l⟩,
      fun r _ l => H r l⟩, fun r _ l => H r l⟩, fun r _ _ l => H r l⟩, fun r _ _ l => H r l⟩

/-- The scale's numerator: the greatest absolute value of the whole product. -/
theorem AM_le (b : EReal) : top (AM m) ≤ b ↔ ∀ (r : Fin 4096) (l : Fin 8192), ab (prod X W r l) ≤ b := by
  rw [top_le]
  constructor
  · intro H r l
    have hl : l.val < 8192 := l.isLt
    have h1 := H (ix2 ⟨l.val / 1024, by omega⟩ ⟨0, by decide⟩)
    unfold AM at h1
    rw [mxRow_le h] at h1
    have h2 := h1 r ⟨l.val % 1024, Nat.mod_lt _ (by decide)⟩
    have e : ∀ c : Dev nD, c.val = l.val / 1024 → col c ⟨l.val % 1024, Nat.mod_lt _ (by decide)⟩ = l := by
      intro c hc
      apply Fin.ext
      show 1024 * c.val + l.val % 1024 = l.val
      omega
    rwa [e _ rfl] at h2
  · intro H i
    unfold AM
    rw [mxRow_le h]
    intro r l
    exact H r _

end Maxima

/-! ## The quantised result -/

set_option maxRecDepth 16000 in
/-- The last loop's arithmetic at an index. -/
theorem pay1_apply (a : S8x128.Idx → EReal) (v : S256x1024.Idx → EReal) (j : S256x1024.Idx) :
    k0_pay1 (F := Ideal) a v j
      = min (Ideal.ofBits .f32 0x43E00000#32) (max (Ideal.ofBits .f32 0xC3E00000#32)
          (v j * Ideal.div (Ideal.ofBits .f32 0x43E00000#32) (top a))) * Ideal.div (top a) (Ideal.ofBits .f32 0x43E00000#32) := by
  unfold k0_pay1
  dsimp only
  rw [shapeCast_self]
  rfl

/-- The quantised result at an index, over the whole product. -/
theorem QB_apply {m : (ℓ : Loc nD τ sig) → Buf (Elt Ideal) ℓ} {X : S4096x4096.Idx → EReal}
    {W : (⟨2, ![4096, 8192]⟩ : Shape).Idx → EReal} (h : Cut m X W) (c : Dev nD) (i : S4096x1024.Idx) :
    QB m c i = min (Ideal.ofBits .f32 0x43E00000#32) (max (Ideal.ofBits .f32 0xC3E00000#32)
          (prod X W ⟨(i 0).val, (i 0).isLt⟩ (col c ⟨(i 1).val, (i 1).isLt⟩) * Ideal.div (Ideal.ofBits .f32 0x43E00000#32) (top (AM m))))
        * Ideal.div (top (AM m)) (Ideal.ofBits .f32 0x43E00000#32) := by
  unfold QB
  rw [pay1_apply]
  have e : yBlk m c (blkOf i) (inBlk i) = prod X W ⟨(i 0).val, (i 0).isLt⟩ (col c ⟨(i 1).val, (i 1).isLt⟩) := by
    unfold yBlk
    refine YB_apply h c _ ⟨(i 0).val, (i 0).isLt⟩ ?_
    show (i 0).val = 256 * ((i 0).val / 256) + (i 0).val % 256
    omega
  rw [e]

end Cert.Ring

end
-- ==== Proof.Algebraic.lean ====
/-
The kernel computes the reference's result: over the extended reals every device ends with its block of columns
of the array the reference computes on one device.
-/
module

public import proofs.«01_k».proof.Proof.Values
public import proofs.«01_k».proof.Defs
public import proofs.«01_k».proof.Proof.Gen.ReferenceIdeal.Value

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Cert.Scale Idealize.ShloMosaic.ValueIdx

/-! ## The reference's value -/

/-- The greatest absolute value the reference takes. -/
def whole (X : S4096x4096.Idx → EReal) (W : (⟨2, ![4096, 8192]⟩ : Shape).Idx → EReal) : EReal :=
  extractAt (s := Cert.ReferenceIdeal.S1x1x1) ![0, 0, 0] (shapeCast Cert.ReferenceIdeal.S1x1x1 (multiReduction (F := Ideal) (φ := .f32) .maximumf [1, 2] Cert.ReferenceIdeal.S1
    (shapeCast Cert.ReferenceIdeal.S1x4096x8192 (absf (F := Ideal) (φ := .f32) (matmul (F := Ideal) (φ₁ := .bf16) (φ₂ := .bf16) Cert.ReferenceIdeal.dot_S4096x4096_S4096x8192_S4096x8192_1_0_0_1_n_n none X W
      (constant Cert.ReferenceIdeal.S4096x8192 .f32 0x00000000#32))) Cert.ReferenceIdeal.Gen.shapeCasts_S4096x8192_S1x4096x8192)
    0xFF800000#32 Cert.ReferenceIdeal.Gen.reduces_S1x4096x8192_S1 (.inl rfl) rfl) Cert.ReferenceIdeal.Gen.shapeCasts_S1_S1x1x1) Cert.ReferenceIdeal.Gen.inpos_S1x1x1_p0_0_0

/-- The reference's product at an index. -/
theorem whole_dot (X : S4096x4096.Idx → EReal) (W : (⟨2, ![4096, 8192]⟩ : Shape).Idx → EReal) (j : (⟨2, ![4096, 8192]⟩ : Shape).Idx) :
    matmul (F := Ideal) (φ₁ := .bf16) (φ₂ := .bf16) Cert.ReferenceIdeal.dot_S4096x4096_S4096x8192_S4096x8192_1_0_0_1_n_n none X W
      (constant Cert.ReferenceIdeal.S4096x8192 .f32 0x00000000#32) j = prod X W ⟨(j 0).val, (j 0).isLt⟩ ⟨(j 1).val, (j 1).isLt⟩ :=
  dot_apply (M := 4096) (K := 4096) (N := 8192) (φ₁ := .bf16) (φ₂ := .bf16) none X W j

/-- The reference's greatest absolute value is at most `b` exactly when every entry of the whole product is, in magnitude. -/
theorem whole_le (X : S4096x4096.Idx → EReal) (W : (⟨2, ![4096, 8192]⟩ : Shape).Idx → EReal) (b : EReal) :
    whole X W ≤ b ↔ ∀ (r : Fin 4096) (l : Fin 8192), ab (prod X W r l) ≤ b := by
  refine (red_le (p := 4096) (q := 8192) (absf (F := Ideal) (φ := .f32) _) _ _ _ _ _ _ b).trans ⟨fun H r l => ?_, fun H j => ?_⟩
  · exact (congrArg (fun z => ab z ≤ b) (whole_dot X W (ix2 r l))).mp (H (ix2 r l))
  · exact (congrArg (fun z => ab z ≤ b) (whole_dot X W j)).mpr (H _ _)

set_option maxRecDepth 16000 in
/-- The reference's result at an index. -/
theorem ref_apply (X : S4096x4096.Idx → EReal) (W : (⟨2, ![4096, 8192]⟩ : Shape).Idx → EReal) (j : (⟨2, ![4096, 8192]⟩ : Shape).Idx) :
    Cert.ReferenceIdeal.Gen.k0_pay1 (F := Ideal) X W j
      = min (Ideal.ofBits .f32 0x43E00000#32) (max (Ideal.ofBits .f32 0xC3E00000#32)
          (Ideal.div (prod X W ⟨(j 0).val, (j 0).isLt⟩ ⟨(j 1).val, (j 1).isLt⟩) (Ideal.div (whole X W) (Ideal.ofBits .f32 0x43E00000#32))))
        * Ideal.div (whole X W) (Ideal.ofBits .f32 0x43E00000#32) := by
  rw [← whole_dot]
  rfl

/-! ## The two agree -/

/-- The two greatest absolute values are one: each is bounded by exactly what bounds every entry of the whole product. -/
theorem top_eq {m : (ℓ : Loc nD τ sig) → Buf (Elt Ideal) ℓ} {X : S4096x4096.Idx → EReal}
    {W : (⟨2, ![4096, 8192]⟩ : Shape).Idx → EReal} (h : Cut m X W) : top (AM m) = whole X W :=
  eq_of_forall_ge_iff fun b => (AM_le h b).trans (whole_le X W b).symm

/-- A device's result is its block of columns of the reference's. -/
theorem QB_block {m : (ℓ : Loc nD τ sig) → Buf (Elt Ideal) ℓ} {X : S4096x4096.Idx → EReal}
    {W : (⟨2, ![4096, 8192]⟩ : Shape).Idx → EReal} (h : Cut m X W) (c : Dev nD) :
    QB m c = Layout.block ⟨2, ![4096, 1024]⟩ ⟨2, ![4096, 8192]⟩ 1 8 c (Cert.ReferenceIdeal.Gen.k0_pay1 (F := Ideal) X W) := by
  funext i
  rw [QB_apply h, top_eq h, top_val, scale_eq 448 (by norm_num)]
  refine Eq.symm ((ref_apply X W _).trans ?_)
  rw [top_val]
  have e : (⟨c.val * 1024 + (i 1).val, by have : c.val < 8 := c.isLt; have : (i 1).val < 1024 := (i 1).isLt; omega⟩ : Fin 8192) = col c ⟨(i 1).val, (i 1).isLt⟩ :=
    Fin.ext (by show c.val * 1024 + (i 1).val = 1024 * c.val + (i 1).val; omega)
  rw [← e]
  rfl

attribute [local instance] Cert.KernelIdeal.Gen.facts Cert.ReferenceIdeal.Gen.facts

/-- Over the extended reals the kernel on its eight devices and the reference on one compute the same array: each device
    ends with its block of columns of the reference's result, and the arguments of both are unchanged. -/
theorem same_value : Cert.algebraic_KernelIdeal_ReferenceIdeal := by
  intro m g m' g' _ hm
  have h : Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hm c).1, fun c => (hm c).2⟩
  refine ⟨Cert.ReferenceIdeal.Gen.k0_pay1 (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run _ _ _).mono (fun r hr c => ⟨(hr c).1.trans (QB_block h c), (hr c).2⟩) (run_value m g)
  · exact (θ_run _ _ _).mono (fun r hr => hr 0) (Cert.ReferenceIdeal.Value.run m' g')

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All that is claimed: the frames of the kernel on its bits, of the kernel over the extended reals and of the
    reference; that no operation was rewritten between the first two; and that the kernel on its eight devices computes
    the reference's result. -/
theorem claim : Cert.Claim := ⟨Cert.Kernel.Gen.facts, Cert.KernelIdeal.Gen.facts, Cert.ReferenceIdeal.Gen.facts,
  Cert.Ring.frame_bits, Cert.Ring.frame_ideal, fun m ρ _ => Cert.ReferenceIdeal.Gen.frame m ρ, trivial, Cert.Ring.same_value⟩

end Cert.Proof

end
